-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_logits [hPre_finite_logits : Cert.Pre_finite_logits.Facts] (m : (ℓ : Loc Cert.KernelIdeal.nD Cert.KernelIdeal.τ Cert.KernelIdeal.sig) → Buf (Elt Ideal) ℓ) : Prop :=
  ∀ c : Dev Cert.KernelIdeal.nD,
    (Cert.Pre_finite_logits.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_logits [hPre_finite_logits : Cert.Pre_finite_logits.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_logits.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite_scores [hPre_finite_scores : Cert.Pre_finite_scores.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite_scores.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11)) (m ((c.tc : Thread Cert.Kernel2Ideal.nD Cert.Kernel2Ideal.τ).loc Cert.Kernel2Ideal.main_arg12)) (m ((c.tc : Thread Cert.Kernel2Ideal.nD Cert.Kernel2Ideal.τ).loc Cert.Kernel2Ideal.main_arg13)) (m ((c.tc : Thread Cert.Kernel2Ideal.nD Cert.Kernel2Ideal.τ).loc Cert.Kernel2Ideal.main_arg14)) (m ((c.tc : Thread Cert.Kernel2Ideal.nD Cert.Kernel2Ideal.τ).loc Cert.Kernel2Ideal.main_arg15)) (m ((c.tc : Thread Cert.Kernel2Ideal.nD Cert.Kernel2Ideal.τ).loc Cert.Kernel2Ideal.main_arg16)) (m ((c.tc : Thread Cert.Kernel2Ideal.nD Cert.Kernel2Ideal.τ).loc Cert.Kernel2Ideal.main_arg17)) (m ((c.tc : Thread Cert.Kernel2Ideal.nD Cert.Kernel2Ideal.τ).loc Cert.Kernel2Ideal.main_arg18))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite_scores [hPre_finite_scores : Cert.Pre_finite_scores.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite_scores.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10)) (m ((c.tc : Thread Cert.Reference2Ideal.nD Cert.Reference2Ideal.τ).loc Cert.Reference2Ideal.main_arg11)) (m ((c.tc : Thread Cert.Reference2Ideal.nD Cert.Reference2Ideal.τ).loc Cert.Reference2Ideal.main_arg12)) (m ((c.tc : Thread Cert.Reference2Ideal.nD Cert.Reference2Ideal.τ).loc Cert.Reference2Ideal.main_arg13)) (m ((c.tc : Thread Cert.Reference2Ideal.nD Cert.Reference2Ideal.τ).loc Cert.Reference2Ideal.main_arg14)) (m ((c.tc : Thread Cert.Reference2Ideal.nD Cert.Reference2Ideal.τ).loc Cert.Reference2Ideal.main_arg15)) (m ((c.tc : Thread Cert.Reference2Ideal.nD Cert.Reference2Ideal.τ).loc Cert.Reference2Ideal.main_arg16)) (m ((c.tc : Thread Cert.Reference2Ideal.nD Cert.Reference2Ideal.τ).loc Cert.Reference2Ideal.main_arg17)) (m ((c.tc : Thread Cert.Reference2Ideal.nD Cert.Reference2Ideal.τ).loc Cert.Reference2Ideal.main_arg18))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_logits [hKernelIdeal : Cert.KernelIdeal.Facts] [hPre_finite_logits : Cert.Pre_finite_logits.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_logits m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_logits [hReferenceIdeal : Cert.ReferenceIdeal.Facts] [hPre_finite_logits : Cert.Pre_finite_logits.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_logits m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11)
      ∧ r.2.mem ((c.tc : Thread Cert.Kernel2.nD Cert.Kernel2.τ).loc Cert.Kernel2.main_arg12) = m ((c.tc : Thread Cert.Kernel2.nD Cert.Kernel2.τ).loc Cert.Kernel2.main_arg12)
      ∧ r.2.mem ((c.tc : Thread Cert.Kernel2.nD Cert.Kernel2.τ).loc Cert.Kernel2.main_arg13) = m ((c.tc : Thread Cert.Kernel2.nD Cert.Kernel2.τ).loc Cert.Kernel2.main_arg13)
      ∧ r.2.mem ((c.tc : Thread Cert.Kernel2.nD Cert.Kernel2.τ).loc Cert.Kernel2.main_arg14) = m ((c.tc : Thread Cert.Kernel2.nD Cert.Kernel2.τ).loc Cert.Kernel2.main_arg14)
      ∧ r.2.mem ((c.tc : Thread Cert.Kernel2.nD Cert.Kernel2.τ).loc Cert.Kernel2.main_arg15) = m ((c.tc : Thread Cert.Kernel2.nD Cert.Kernel2.τ).loc Cert.Kernel2.main_arg15)
      ∧ r.2.mem ((c.tc : Thread Cert.Kernel2.nD Cert.Kernel2.τ).loc Cert.Kernel2.main_arg16) = m ((c.tc : Thread Cert.Kernel2.nD Cert.Kernel2.τ).loc Cert.Kernel2.main_arg16)
      ∧ r.2.mem ((c.tc : Thread Cert.Kernel2.nD Cert.Kernel2.τ).loc Cert.Kernel2.main_arg17) = m ((c.tc : Thread Cert.Kernel2.nD Cert.Kernel2.τ).loc Cert.Kernel2.main_arg17)
      ∧ r.2.mem ((c.tc : Thread Cert.Kernel2.nD Cert.Kernel2.τ).loc Cert.Kernel2.main_arg18) = m ((c.tc : Thread Cert.Kernel2.nD Cert.Kernel2.τ).loc Cert.Kernel2.main_arg18))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
      ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13)
      ∧ r.2.mem ((c.tc : Thread Cert.Kernel2Ideal.nD Cert.Kernel2Ideal.τ).loc Cert.Kernel2Ideal.main_arg14) = m ((c.tc : Thread Cert.Kernel2Ideal.nD Cert.Kernel2Ideal.τ).loc Cert.Kernel2Ideal.main_arg14)
      ∧ r.2.mem ((c.tc : Thread Cert.Kernel2Ideal.nD Cert.Kernel2Ideal.τ).loc Cert.Kernel2Ideal.main_arg15) = m ((c.tc : Thread Cert.Kernel2Ideal.nD Cert.Kernel2Ideal.τ).loc Cert.Kernel2Ideal.main_arg15)
      ∧ r.2.mem ((c.tc : Thread Cert.Kernel2Ideal.nD Cert.Kernel2Ideal.τ).loc Cert.Kernel2Ideal.main_arg16) = m ((c.tc : Thread Cert.Kernel2Ideal.nD Cert.Kernel2Ideal.τ).loc Cert.Kernel2Ideal.main_arg16)
      ∧ r.2.mem ((c.tc : Thread Cert.Kernel2Ideal.nD Cert.Kernel2Ideal.τ).loc Cert.Kernel2Ideal.main_arg17) = m ((c.tc : Thread Cert.Kernel2Ideal.nD Cert.Kernel2Ideal.τ).loc Cert.Kernel2Ideal.main_arg17)
      ∧ r.2.mem ((c.tc : Thread Cert.Kernel2Ideal.nD Cert.Kernel2Ideal.τ).loc Cert.Kernel2Ideal.main_arg18) = m ((c.tc : Thread Cert.Kernel2Ideal.nD Cert.Kernel2Ideal.τ).loc Cert.Kernel2Ideal.main_arg18))
      ∧ r.2.sem = fun _ => 0)

def quiescent_Kernel2Ideal_pre_finite_scores [hKernel2Ideal : Cert.Kernel2Ideal.Facts] [hPre_finite_scores : Cert.Pre_finite_scores.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite_scores m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
      ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13)
      ∧ r.2.mem ((c.tc : Thread Cert.Kernel2Ideal.nD Cert.Kernel2Ideal.τ).loc Cert.Kernel2Ideal.main_arg14) = m ((c.tc : Thread Cert.Kernel2Ideal.nD Cert.Kernel2Ideal.τ).loc Cert.Kernel2Ideal.main_arg14)
      ∧ r.2.mem ((c.tc : Thread Cert.Kernel2Ideal.nD Cert.Kernel2Ideal.τ).loc Cert.Kernel2Ideal.main_arg15) = m ((c.tc : Thread Cert.Kernel2Ideal.nD Cert.Kernel2Ideal.τ).loc Cert.Kernel2Ideal.main_arg15)
      ∧ r.2.mem ((c.tc : Thread Cert.Kernel2Ideal.nD Cert.Kernel2Ideal.τ).loc Cert.Kernel2Ideal.main_arg16) = m ((c.tc : Thread Cert.Kernel2Ideal.nD Cert.Kernel2Ideal.τ).loc Cert.Kernel2Ideal.main_arg16)
      ∧ r.2.mem ((c.tc : Thread Cert.Kernel2Ideal.nD Cert.Kernel2Ideal.τ).loc Cert.Kernel2Ideal.main_arg17) = m ((c.tc : Thread Cert.Kernel2Ideal.nD Cert.Kernel2Ideal.τ).loc Cert.Kernel2Ideal.main_arg17)
      ∧ r.2.mem ((c.tc : Thread Cert.Kernel2Ideal.nD Cert.Kernel2Ideal.τ).loc Cert.Kernel2Ideal.main_arg18) = m ((c.tc : Thread Cert.Kernel2Ideal.nD Cert.Kernel2Ideal.τ).loc Cert.Kernel2Ideal.main_arg18))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12)
      ∧ r.2.mem ((c.tc : Thread Cert.Reference2Ideal.nD Cert.Reference2Ideal.τ).loc Cert.Reference2Ideal.main_arg13) = m ((c.tc : Thread Cert.Reference2Ideal.nD Cert.Reference2Ideal.τ).loc Cert.Reference2Ideal.main_arg13)
      ∧ r.2.mem ((c.tc : Thread Cert.Reference2Ideal.nD Cert.Reference2Ideal.τ).loc Cert.Reference2Ideal.main_arg14) = m ((c.tc : Thread Cert.Reference2Ideal.nD Cert.Reference2Ideal.τ).loc Cert.Reference2Ideal.main_arg14)
      ∧ r.2.mem ((c.tc : Thread Cert.Reference2Ideal.nD Cert.Reference2Ideal.τ).loc Cert.Reference2Ideal.main_arg15) = m ((c.tc : Thread Cert.Reference2Ideal.nD Cert.Reference2Ideal.τ).loc Cert.Reference2Ideal.main_arg15)
      ∧ r.2.mem ((c.tc : Thread Cert.Reference2Ideal.nD Cert.Reference2Ideal.τ).loc Cert.Reference2Ideal.main_arg16) = m ((c.tc : Thread Cert.Reference2Ideal.nD Cert.Reference2Ideal.τ).loc Cert.Reference2Ideal.main_arg16)
      ∧ r.2.mem ((c.tc : Thread Cert.Reference2Ideal.nD Cert.Reference2Ideal.τ).loc Cert.Reference2Ideal.main_arg17) = m ((c.tc : Thread Cert.Reference2Ideal.nD Cert.Reference2Ideal.τ).loc Cert.Reference2Ideal.main_arg17)
      ∧ r.2.mem ((c.tc : Thread Cert.Reference2Ideal.nD Cert.Reference2Ideal.τ).loc Cert.Reference2Ideal.main_arg18) = m ((c.tc : Thread Cert.Reference2Ideal.nD Cert.Reference2Ideal.τ).loc Cert.Reference2Ideal.main_arg18))
      ∧ r.2.sem = fun _ => 0)

def quiescent_Reference2Ideal_pre_finite_scores [hReference2Ideal : Cert.Reference2Ideal.Facts] [hPre_finite_scores : Cert.Pre_finite_scores.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite_scores m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12)
      ∧ r.2.mem ((c.tc : Thread Cert.Reference2Ideal.nD Cert.Reference2Ideal.τ).loc Cert.Reference2Ideal.main_arg13) = m ((c.tc : Thread Cert.Reference2Ideal.nD Cert.Reference2Ideal.τ).loc Cert.Reference2Ideal.main_arg13)
      ∧ r.2.mem ((c.tc : Thread Cert.Reference2Ideal.nD Cert.Reference2Ideal.τ).loc Cert.Reference2Ideal.main_arg14) = m ((c.tc : Thread Cert.Reference2Ideal.nD Cert.Reference2Ideal.τ).loc Cert.Reference2Ideal.main_arg14)
      ∧ r.2.mem ((c.tc : Thread Cert.Reference2Ideal.nD Cert.Reference2Ideal.τ).loc Cert.Reference2Ideal.main_arg15) = m ((c.tc : Thread Cert.Reference2Ideal.nD Cert.Reference2Ideal.τ).loc Cert.Reference2Ideal.main_arg15)
      ∧ r.2.mem ((c.tc : Thread Cert.Reference2Ideal.nD Cert.Reference2Ideal.τ).loc Cert.Reference2Ideal.main_arg16) = m ((c.tc : Thread Cert.Reference2Ideal.nD Cert.Reference2Ideal.τ).loc Cert.Reference2Ideal.main_arg16)
      ∧ r.2.mem ((c.tc : Thread Cert.Reference2Ideal.nD Cert.Reference2Ideal.τ).loc Cert.Reference2Ideal.main_arg17) = m ((c.tc : Thread Cert.Reference2Ideal.nD Cert.Reference2Ideal.τ).loc Cert.Reference2Ideal.main_arg17)
      ∧ r.2.mem ((c.tc : Thread Cert.Reference2Ideal.nD Cert.Reference2Ideal.τ).loc Cert.Reference2Ideal.main_arg18) = m ((c.tc : Thread Cert.Reference2Ideal.nD Cert.Reference2Ideal.τ).loc Cert.Reference2Ideal.main_arg18))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def preserves_Kernel_KernelIdeal : Prop :=
  IdealRules.named_const.Statement Cert.KernelIdeal.κ "neg_log2e" .f32 0xBFB8AA3B#32 ((-((Real.log 2)⁻¹) : ℝ) : EReal)

def algebraic_KernelIdeal_ReferenceIdeal_pre_finite_logits [hKernelIdeal : Cert.KernelIdeal.Facts] [hReferenceIdeal : Cert.ReferenceIdeal.Facts] [hPre_finite_logits : Cert.Pre_finite_logits.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_logits m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  IdealRules.named_const.Statement Cert.Kernel2Ideal.κ "ca_scale" .f32 0x3DB504F3#32 (((Real.sqrt 128)⁻¹ : ℝ) : EReal)

def algebraic_Kernel2Ideal_Reference2Ideal_pre_finite_scores [hKernel2Ideal : Cert.Kernel2Ideal.Facts] [hReference2Ideal : Cert.Reference2Ideal.Facts] [hPre_finite_scores : Cert.Pre_finite_scores.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite_scores m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)
      ∧ m' ((c.tc : Thread Cert.Reference2Ideal.nD Cert.Reference2Ideal.τ).loc Cert.Reference2Ideal.main_arg12) = m ((c.tc : Thread Cert.Kernel2Ideal.nD Cert.Kernel2Ideal.τ).loc Cert.Kernel2Ideal.main_arg12)
      ∧ m' ((c.tc : Thread Cert.Reference2Ideal.nD Cert.Reference2Ideal.τ).loc Cert.Reference2Ideal.main_arg13) = m ((c.tc : Thread Cert.Kernel2Ideal.nD Cert.Kernel2Ideal.τ).loc Cert.Kernel2Ideal.main_arg13)
      ∧ m' ((c.tc : Thread Cert.Reference2Ideal.nD Cert.Reference2Ideal.τ).loc Cert.Reference2Ideal.main_arg14) = m ((c.tc : Thread Cert.Kernel2Ideal.nD Cert.Kernel2Ideal.τ).loc Cert.Kernel2Ideal.main_arg14)
      ∧ m' ((c.tc : Thread Cert.Reference2Ideal.nD Cert.Reference2Ideal.τ).loc Cert.Reference2Ideal.main_arg15) = m ((c.tc : Thread Cert.Kernel2Ideal.nD Cert.Kernel2Ideal.τ).loc Cert.Kernel2Ideal.main_arg15)
      ∧ m' ((c.tc : Thread Cert.Reference2Ideal.nD Cert.Reference2Ideal.τ).loc Cert.Reference2Ideal.main_arg16) = m ((c.tc : Thread Cert.Kernel2Ideal.nD Cert.Kernel2Ideal.τ).loc Cert.Kernel2Ideal.main_arg16)
      ∧ m' ((c.tc : Thread Cert.Reference2Ideal.nD Cert.Reference2Ideal.τ).loc Cert.Reference2Ideal.main_arg17) = m ((c.tc : Thread Cert.Kernel2Ideal.nD Cert.Kernel2Ideal.τ).loc Cert.Kernel2Ideal.main_arg17)
      ∧ m' ((c.tc : Thread Cert.Reference2Ideal.nD Cert.Reference2Ideal.τ).loc Cert.Reference2Ideal.main_arg18) = m ((c.tc : Thread Cert.Kernel2Ideal.nD Cert.Kernel2Ideal.τ).loc Cert.Kernel2Ideal.main_arg18)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
          ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
          ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13)
          ∧ r.2.mem ((c.tc : Thread Cert.Kernel2Ideal.nD Cert.Kernel2Ideal.τ).loc Cert.Kernel2Ideal.main_arg14) = m ((c.tc : Thread Cert.Kernel2Ideal.nD Cert.Kernel2Ideal.τ).loc Cert.Kernel2Ideal.main_arg14)
          ∧ r.2.mem ((c.tc : Thread Cert.Kernel2Ideal.nD Cert.Kernel2Ideal.τ).loc Cert.Kernel2Ideal.main_arg15) = m ((c.tc : Thread Cert.Kernel2Ideal.nD Cert.Kernel2Ideal.τ).loc Cert.Kernel2Ideal.main_arg15)
          ∧ r.2.mem ((c.tc : Thread Cert.Kernel2Ideal.nD Cert.Kernel2Ideal.τ).loc Cert.Kernel2Ideal.main_arg16) = m ((c.tc : Thread Cert.Kernel2Ideal.nD Cert.Kernel2Ideal.τ).loc Cert.Kernel2Ideal.main_arg16)
          ∧ r.2.mem ((c.tc : Thread Cert.Kernel2Ideal.nD Cert.Kernel2Ideal.τ).loc Cert.Kernel2Ideal.main_arg17) = m ((c.tc : Thread Cert.Kernel2Ideal.nD Cert.Kernel2Ideal.τ).loc Cert.Kernel2Ideal.main_arg17)
          ∧ r.2.mem ((c.tc : Thread Cert.Kernel2Ideal.nD Cert.Kernel2Ideal.τ).loc Cert.Kernel2Ideal.main_arg18) = m ((c.tc : Thread Cert.Kernel2Ideal.nD Cert.Kernel2Ideal.τ).loc Cert.Kernel2Ideal.main_arg18))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v123) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11)
          ∧ r.2.mem ((c.tc : Thread Cert.Reference2Ideal.nD Cert.Reference2Ideal.τ).loc Cert.Reference2Ideal.main_arg12) = m' ((c.tc : Thread Cert.Reference2Ideal.nD Cert.Reference2Ideal.τ).loc Cert.Reference2Ideal.main_arg12)
          ∧ r.2.mem ((c.tc : Thread Cert.Reference2Ideal.nD Cert.Reference2Ideal.τ).loc Cert.Reference2Ideal.main_arg13) = m' ((c.tc : Thread Cert.Reference2Ideal.nD Cert.Reference2Ideal.τ).loc Cert.Reference2Ideal.main_arg13)
          ∧ r.2.mem ((c.tc : Thread Cert.Reference2Ideal.nD Cert.Reference2Ideal.τ).loc Cert.Reference2Ideal.main_arg14) = m' ((c.tc : Thread Cert.Reference2Ideal.nD Cert.Reference2Ideal.τ).loc Cert.Reference2Ideal.main_arg14)
          ∧ r.2.mem ((c.tc : Thread Cert.Reference2Ideal.nD Cert.Reference2Ideal.τ).loc Cert.Reference2Ideal.main_arg15) = m' ((c.tc : Thread Cert.Reference2Ideal.nD Cert.Reference2Ideal.τ).loc Cert.Reference2Ideal.main_arg15)
          ∧ r.2.mem ((c.tc : Thread Cert.Reference2Ideal.nD Cert.Reference2Ideal.τ).loc Cert.Reference2Ideal.main_arg16) = m' ((c.tc : Thread Cert.Reference2Ideal.nD Cert.Reference2Ideal.τ).loc Cert.Reference2Ideal.main_arg16)
          ∧ r.2.mem ((c.tc : Thread Cert.Reference2Ideal.nD Cert.Reference2Ideal.τ).loc Cert.Reference2Ideal.main_arg17) = m' ((c.tc : Thread Cert.Reference2Ideal.nD Cert.Reference2Ideal.τ).loc Cert.Reference2Ideal.main_arg17)
          ∧ r.2.mem ((c.tc : Thread Cert.Reference2Ideal.nD Cert.Reference2Ideal.τ).loc Cert.Reference2Ideal.main_arg18) = m' ((c.tc : Thread Cert.Reference2Ideal.nD Cert.Reference2Ideal.τ).loc Cert.Reference2Ideal.main_arg18))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v10_0)) (v1 : (c : Dev Cert.Kernel3Ideal.nD) → Buf (Elt Ideal) ((c.tc : Thread Cert.Kernel3Ideal.nD Cert.Kernel3Ideal.τ).loc Cert.Kernel3Ideal.main_v10_1)) (v2 : (c : Dev Cert.Kernel3Ideal.nD) → Buf (Elt Ideal) ((c.tc : Thread Cert.Kernel3Ideal.nD Cert.Kernel3Ideal.τ).loc Cert.Kernel3Ideal.main_v10_2)) (v3 : (c : Dev Cert.Kernel3Ideal.nD) → Buf (Elt Ideal) ((c.tc : Thread Cert.Kernel3Ideal.nD Cert.Kernel3Ideal.τ).loc Cert.Kernel3Ideal.main_v10_3)) (v4 : (c : Dev Cert.Kernel3Ideal.nD) → Buf (Elt Ideal) ((c.tc : Thread Cert.Kernel3Ideal.nD Cert.Kernel3Ideal.τ).loc Cert.Kernel3Ideal.main_v10_4)) (v5 : (c : Dev Cert.Kernel3Ideal.nD) → Buf (Elt Ideal) ((c.tc : Thread Cert.Kernel3Ideal.nD Cert.Kernel3Ideal.τ).loc Cert.Kernel3Ideal.main_v10_5)) (v6 : (c : Dev Cert.Kernel3Ideal.nD) → Buf (Elt Ideal) ((c.tc : Thread Cert.Kernel3Ideal.nD Cert.Kernel3Ideal.τ).loc Cert.Kernel3Ideal.main_v10_6)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v10_0) = v0 c
          ∧ r.2.mem ((c.tc : Thread Cert.Kernel3Ideal.nD Cert.Kernel3Ideal.τ).loc Cert.Kernel3Ideal.main_v10_1) = v1 c
          ∧ r.2.mem ((c.tc : Thread Cert.Kernel3Ideal.nD Cert.Kernel3Ideal.τ).loc Cert.Kernel3Ideal.main_v10_2) = v2 c
          ∧ r.2.mem ((c.tc : Thread Cert.Kernel3Ideal.nD Cert.Kernel3Ideal.τ).loc Cert.Kernel3Ideal.main_v10_3) = v3 c
          ∧ r.2.mem ((c.tc : Thread Cert.Kernel3Ideal.nD Cert.Kernel3Ideal.τ).loc Cert.Kernel3Ideal.main_v10_4) = v4 c
          ∧ r.2.mem ((c.tc : Thread Cert.Kernel3Ideal.nD Cert.Kernel3Ideal.τ).loc Cert.Kernel3Ideal.main_v10_5) = v5 c
          ∧ r.2.mem ((c.tc : Thread Cert.Kernel3Ideal.nD Cert.Kernel3Ideal.τ).loc Cert.Kernel3Ideal.main_v10_6) = v6 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v26) = v0 c
          ∧ r.2.mem ((c.tc : Thread Cert.Reference3Ideal.nD Cert.Reference3Ideal.τ).loc Cert.Reference3Ideal.main_v27) = v1 c
          ∧ r.2.mem ((c.tc : Thread Cert.Reference3Ideal.nD Cert.Reference3Ideal.τ).loc Cert.Reference3Ideal.main_v28) = v2 c
          ∧ r.2.mem ((c.tc : Thread Cert.Reference3Ideal.nD Cert.Reference3Ideal.τ).loc Cert.Reference3Ideal.main_v31) = v3 c
          ∧ r.2.mem ((c.tc : Thread Cert.Reference3Ideal.nD Cert.Reference3Ideal.τ).loc Cert.Reference3Ideal.main_v34) = v4 c
          ∧ r.2.mem ((c.tc : Thread Cert.Reference3Ideal.nD Cert.Reference3Ideal.τ).loc Cert.Reference3Ideal.main_v35) = v5 c
          ∧ r.2.mem ((c.tc : Thread Cert.Reference3Ideal.nD Cert.Reference3Ideal.τ).loc Cert.Reference3Ideal.main_v36) = v6 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v7_0)) (v1 : (c : Dev Cert.Kernel4Ideal.nD) → Buf (Elt Ideal) ((c.tc : Thread Cert.Kernel4Ideal.nD Cert.Kernel4Ideal.τ).loc Cert.Kernel4Ideal.main_v7_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v7_0) = v0 c
          ∧ r.2.mem ((c.tc : Thread Cert.Kernel4Ideal.nD Cert.Kernel4Ideal.τ).loc Cert.Kernel4Ideal.main_v7_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v16) = v0 c
          ∧ r.2.mem ((c.tc : Thread Cert.Reference4Ideal.nD Cert.Reference4Ideal.τ).loc Cert.Reference4Ideal.main_v19) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v10_0)) (v1 : (c : Dev Cert.Kernel5Ideal.nD) → Buf (Elt Ideal) ((c.tc : Thread Cert.Kernel5Ideal.nD Cert.Kernel5Ideal.τ).loc Cert.Kernel5Ideal.main_v10_1)) (v2 : (c : Dev Cert.Kernel5Ideal.nD) → Buf (Elt Ideal) ((c.tc : Thread Cert.Kernel5Ideal.nD Cert.Kernel5Ideal.τ).loc Cert.Kernel5Ideal.main_v10_2)) (v3 : (c : Dev Cert.Kernel5Ideal.nD) → Buf (Elt Ideal) ((c.tc : Thread Cert.Kernel5Ideal.nD Cert.Kernel5Ideal.τ).loc Cert.Kernel5Ideal.main_v10_3)) (v4 : (c : Dev Cert.Kernel5Ideal.nD) → Buf (Elt Ideal) ((c.tc : Thread Cert.Kernel5Ideal.nD Cert.Kernel5Ideal.τ).loc Cert.Kernel5Ideal.main_v10_4)) (v5 : (c : Dev Cert.Kernel5Ideal.nD) → Buf (Elt Ideal) ((c.tc : Thread Cert.Kernel5Ideal.nD Cert.Kernel5Ideal.τ).loc Cert.Kernel5Ideal.main_v10_5)) (v6 : (c : Dev Cert.Kernel5Ideal.nD) → Buf (Elt Ideal) ((c.tc : Thread Cert.Kernel5Ideal.nD Cert.Kernel5Ideal.τ).loc Cert.Kernel5Ideal.main_v10_6)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v10_0) = v0 c
          ∧ r.2.mem ((c.tc : Thread Cert.Kernel5Ideal.nD Cert.Kernel5Ideal.τ).loc Cert.Kernel5Ideal.main_v10_1) = v1 c
          ∧ r.2.mem ((c.tc : Thread Cert.Kernel5Ideal.nD Cert.Kernel5Ideal.τ).loc Cert.Kernel5Ideal.main_v10_2) = v2 c
          ∧ r.2.mem ((c.tc : Thread Cert.Kernel5Ideal.nD Cert.Kernel5Ideal.τ).loc Cert.Kernel5Ideal.main_v10_3) = v3 c
          ∧ r.2.mem ((c.tc : Thread Cert.Kernel5Ideal.nD Cert.Kernel5Ideal.τ).loc Cert.Kernel5Ideal.main_v10_4) = v4 c
          ∧ r.2.mem ((c.tc : Thread Cert.Kernel5Ideal.nD Cert.Kernel5Ideal.τ).loc Cert.Kernel5Ideal.main_v10_5) = v5 c
          ∧ r.2.mem ((c.tc : Thread Cert.Kernel5Ideal.nD Cert.Kernel5Ideal.τ).loc Cert.Kernel5Ideal.main_v10_6) = v6 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v26) = v0 c
          ∧ r.2.mem ((c.tc : Thread Cert.Reference5Ideal.nD Cert.Reference5Ideal.τ).loc Cert.Reference5Ideal.main_v28) = v1 c
          ∧ r.2.mem ((c.tc : Thread Cert.Reference5Ideal.nD Cert.Reference5Ideal.τ).loc Cert.Reference5Ideal.main_v30) = v2 c
          ∧ r.2.mem ((c.tc : Thread Cert.Reference5Ideal.nD Cert.Reference5Ideal.τ).loc Cert.Reference5Ideal.main_v33) = v3 c
          ∧ r.2.mem ((c.tc : Thread Cert.Reference5Ideal.nD Cert.Reference5Ideal.τ).loc Cert.Reference5Ideal.main_v36) = v4 c
          ∧ r.2.mem ((c.tc : Thread Cert.Reference5Ideal.nD Cert.Reference5Ideal.τ).loc Cert.Reference5Ideal.main_v37) = v5 c
          ∧ r.2.mem ((c.tc : Thread Cert.Reference5Ideal.nD Cert.Reference5Ideal.τ).loc Cert.Reference5Ideal.main_v38) = v6 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite_logits : Cert.Pre_finite_logits.Facts) (hPre_finite_scores : Cert.Pre_finite_scores.Facts),
    quiescent_Kernel (hKernel := hKernel)
    ∧ quiescent_KernelIdeal (hKernelIdeal := hKernelIdeal)
    ∧ quiescent_KernelIdeal_pre_finite_logits (hKernelIdeal := hKernelIdeal) (hPre_finite_logits := hPre_finite_logits)
    ∧ quiescent_ReferenceIdeal (hReferenceIdeal := hReferenceIdeal)
    ∧ quiescent_ReferenceIdeal_pre_finite_logits (hReferenceIdeal := hReferenceIdeal) (hPre_finite_logits := hPre_finite_logits)
    ∧ quiescent_Kernel2 (hKernel2 := hKernel2)
    ∧ quiescent_Kernel2Ideal (hKernel2Ideal := hKernel2Ideal)
    ∧ quiescent_Kernel2Ideal_pre_finite_scores (hKernel2Ideal := hKernel2Ideal) (hPre_finite_scores := hPre_finite_scores)
    ∧ quiescent_Reference2Ideal (hReference2Ideal := hReference2Ideal)
    ∧ quiescent_Reference2Ideal_pre_finite_scores (hReference2Ideal := hReference2Ideal) (hPre_finite_scores := hPre_finite_scores)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal_pre_finite_logits (hKernelIdeal := hKernelIdeal) (hReferenceIdeal := hReferenceIdeal) (hPre_finite_logits := hPre_finite_logits)
    ∧ preserves_Kernel2_Kernel2Ideal
    ∧ algebraic_Kernel2Ideal_Reference2Ideal_pre_finite_scores (hKernel2Ideal := hKernel2Ideal) (hReference2Ideal := hReference2Ideal) (hPre_finite_scores := hPre_finite_scores)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Pre_finite_logits.lean ====
abbrev S32768x512 : Shape := ⟨2, ![32768, 512]⟩
abbrev S16x8x512x256 : Shape := ⟨4, ![16, 8, 512, 256]⟩
abbrev S8 : Shape := ⟨1, ![8]⟩
abbrev S_ : Shape := ⟨0, ![]⟩

class Facts : Prop where
  bitsLt_bf16_f32 : FTy.bits .bf16 < FTy.bits .f32
  bcast_S_S32768x512 : S_.BroadcastsInDim S32768x512 (![] : Fin 0 → Fin S32768x512.rank)
  reducesTo_S32768x512_S_d0_1 : S32768x512.ReducesTo [0, 1] S_
  h_S_ : 0 < S_.numel
  bcast_S_S16x8x512x256 : S_.BroadcastsInDim S16x8x512x256 (![] : Fin 0 → Fin S16x8x512x256.rank)
  reducesTo_S16x8x512x256_S_d0_1_2_3 : S16x8x512x256.ReducesTo [0, 1, 2, 3] S_
  bcast_S_S8 : S_.BroadcastsInDim S8 (![] : Fin 0 → Fin S8.rank)
  reducesTo_S8_S_d0 : S8.ReducesTo [0] S_

variable [Facts]

def fn_part1 {F : FTy → Type} [FloatOps F] (main_arg3 : FVec F S8 .f32) (main_v14 : IVec S_ 1) (main_v16 : IVec S8 1) : IVec S_ 1 :=
  let main_cst_5 : FVec F S_ .f32 := constant S_ .f32 0x7F800000#32
  let main_v17 : FVec F S8 .f32 := broadcastInDim S8 ![] bcast_S_S8 main_cst_5
  let main_v18 : IVec S8 1 := cmpf .olt main_arg3 main_v17
  let main_v19 : IVec S8 1 := andi main_v16 main_v18
  let main_c_6 : IVec S_ 1 := constantI S_ 1 1#1
  let main_v20 : IVec S_ 1 := (fun x v => Host.reduce IntOp.andi x v reducesTo_S8_S_d0 h_S_) main_v19 main_c_6
  let main_v21 : IVec S_ 1 := andi main_v14 main_v20
  main_v21

def fn {F : FTy → Type} [FloatOps F] (main_arg0 : FVec F S32768x512 .bf16) (main_arg1 : FVec F S16x8x512x256 .bf16) (main_arg2 : FVec F S16x8x512x256 .bf16) (main_arg3 : FVec F S8 .f32) : IVec S_ 1 :=
  let main_v0 : FVec F S32768x512 .f32 := (extf .f32 · bitsLt_bf16_f32) main_arg0
  let main_cst : FVec F S_ .f32 := constant S_ .f32 0xFF800000#32
  let main_v1 : FVec F S32768x512 .f32 := broadcastInDim S32768x512 ![] bcast_S_S32768x512 main_cst
  let main_v2 : IVec S32768x512 1 := cmpf .ogt main_v0 main_v1
  let main_cst_0 : FVec F S_ .f32 := constant S_ .f32 0x7F800000#32
  let main_v3 : FVec F S32768x512 .f32 := broadcastInDim S32768x512 ![] bcast_S_S32768x512 main_cst_0
  let main_v4 : IVec S32768x512 1 := cmpf .olt main_v0 main_v3
  let main_v5 : IVec S32768x512 1 := andi main_v2 main_v4
  let main_c : IVec S_ 1 := constantI S_ 1 1#1
  let main_v6 : IVec S_ 1 := (fun x v => Host.reduce IntOp.andi x v reducesTo_S32768x512_S_d0_1 h_S_) main_v5 main_c
  let main_v7 : FVec F S16x8x512x256 .f32 := (extf .f32 · bitsLt_bf16_f32) main_arg1
  let main_cst_1 : FVec F S_ .f32 := constant S_ .f32 0xFF800000#32
  let main_v8 : FVec F S16x8x512x256 .f32 := broadcastInDim S16x8x512x256 ![] bcast_S_S16x8x512x256 main_cst_1
  let main_v9 : IVec S16x8x512x256 1 := cmpf .ogt main_v7 main_v8
  let main_cst_2 : FVec F S_ .f32 := constant S_ .f32 0x7F800000#32
  let main_v10 : FVec F S16x8x512x256 .f32 := broadcastInDim S16x8x512x256 ![] bcast_S_S16x8x512x256 main_cst_2
  let main_v11 : IVec S16x8x512x256 1 := cmpf .olt main_v7 main_v10
  let main_v12 : IVec S16x8x512x256 1 := andi main_v9 main_v11
  let main_c_3 : IVec S_ 1 := constantI S_ 1 1#1
  let main_v13 : IVec S_ 1 := (fun x v => Host.reduce IntOp.andi x v reducesTo_S16x8x512x256_S_d0_1_2_3 h_S_) main_v12 main_c_3
  let main_v14 : IVec S_ 1 := andi main_v6 main_v13
  let main_cst_4 : FVec F S_ .f32 := constant S_ .f32 0xFF800000#32
  let main_v15 : FVec F S8 .f32 := broadcastInDim S8 ![] bcast_S_S8 main_cst_4
  let main_v16 : IVec S8 1 := cmpf .ogt main_arg3 main_v15
  fn_part1 (F := F) main_arg3 main_v14 main_v16
-- ==== Pre_finite_scores.lean ====
abbrev S32768x1024 : Shape := ⟨2, ![32768, 1024]⟩
abbrev S32768x512 : Shape := ⟨2, ![32768, 512]⟩
abbrev S16x8x512 : Shape := ⟨3, ![16, 8, 512]⟩
abbrev S3x512 : Shape := ⟨2, ![3, 512]⟩
abbrev S1x512 : Shape := ⟨2, ![1, 512]⟩
abbrev S1024x1024 : Shape := ⟨2, ![1024, 1024]⟩
abbrev S1x1024 : Shape := ⟨2, ![1, 1024]⟩
abbrev S1024x512 : Shape := ⟨2, ![1024, 512]⟩
abbrev S4096x512 : Shape := ⟨2, ![4096, 512]⟩
abbrev S512x1024 : Shape := ⟨2, ![512, 1024]⟩
abbrev S1024x2816 : Shape := ⟨2, ![1024, 2816]⟩
abbrev S2816x1024 : Shape := ⟨2, ![2816, 1024]⟩
abbrev S_ : Shape := ⟨0, ![]⟩

class Facts : Prop where
  bcast_S_S1x1024 : S_.BroadcastsInDim S1x1024 (![] : Fin 0 → Fin S1x1024.rank)
  reducesTo_S1x1024_S_d0_1 : S1x1024.ReducesTo [0, 1] S_
  h_S_ : 0 < S_.numel
  bitsLt_bf16_f32 : FTy.bits .bf16 < FTy.bits .f32
  bcast_S_S1024x512 : S_.BroadcastsInDim S1024x512 (![] : Fin 0 → Fin S1024x512.rank)
  reducesTo_S1024x512_S_d0_1 : S1024x512.ReducesTo [0, 1] S_
  bcast_S_S4096x512 : S_.BroadcastsInDim S4096x512 (![] : Fin 0 → Fin S4096x512.rank)
  reducesTo_S4096x512_S_d0_1 : S4096x512.ReducesTo [0, 1] S_

variable [Facts]

def fn_part1 {F : FTy → Type} [FloatOps F] (main_arg11 : FVec F S4096x512 .f32) (main_v13 : IVec S_ 1) (main_v15 : IVec S4096x512 1) (main_cst_5 : FVec F S_ .f32) : IVec S_ 1 :=
  let main_v16 : FVec F S4096x512 .f32 := broadcastInDim S4096x512 ![] bcast_S_S4096x512 main_cst_5
  let main_v17 : IVec S4096x512 1 := cmpf .olt main_arg11 main_v16
  let main_v18 : IVec S4096x512 1 := andi main_v15 main_v17
  let main_c_6 : IVec S_ 1 := constantI S_ 1 1#1
  let main_v19 : IVec S_ 1 := (fun x v => Host.reduce IntOp.andi x v reducesTo_S4096x512_S_d0_1 h_S_) main_v18 main_c_6
  let main_v20 : IVec S_ 1 := andi main_v13 main_v19
  main_v20

def fn {F : FTy → Type} [FloatOps F] (main_arg0 : FVec F S32768x1024 .f32) (main_arg1 : FVec F S32768x512 .f32) (main_arg2 : FVec F S32768x512 .f32) (main_arg3 : FVec F S32768x512 .f32) (main_arg4 : FVec F S16x8x512 .f32) (main_arg5 : FVec F S3x512 .f32) (main_arg6 : FVec F S1x512 .f32) (main_arg7 : FVec F S1x512 .f32) (main_arg8 : FVec F S1024x1024 .bf16) (main_arg9 : FVec F S1x1024 .f32) (main_arg10 : FVec F S1024x512 .bf16) (main_arg11 : FVec F S4096x512 .f32) (main_arg12 : FVec F S4096x512 .f32) (main_arg13 : FVec F S512x1024 .bf16) (main_arg14 : FVec F S1x1024 .f32) (main_arg15 : FVec F S1024x2816 .bf16) (main_arg16 : FVec F S1024x2816 .bf16) (main_arg17 : FVec F S2816x1024 .bf16) (main_arg18 : FVec F S1x1024 .f32) : IVec S_ 1 :=
  let main_cst : FVec F S_ .f32 := constant S_ .f32 0xFF800000#32
  let main_v0 : FVec F S1x1024 .f32 := broadcastInDim S1x1024 ![] bcast_S_S1x1024 main_cst
  let main_v1 : IVec S1x1024 1 := cmpf .ogt main_arg9 main_v0
  let main_cst_0 : FVec F S_ .f32 := constant S_ .f32 0x7F800000#32
  let main_v2 : FVec F S1x1024 .f32 := broadcastInDim S1x1024 ![] bcast_S_S1x1024 main_cst_0
  let main_v3 : IVec S1x1024 1 := cmpf .olt main_arg9 main_v2
  let main_v4 : IVec S1x1024 1 := andi main_v1 main_v3
  let main_c : IVec S_ 1 := constantI S_ 1 1#1
  let main_v5 : IVec S_ 1 := (fun x v => Host.reduce IntOp.andi x v reducesTo_S1x1024_S_d0_1 h_S_) main_v4 main_c
  let main_v6 : FVec F S1024x512 .f32 := (extf .f32 · bitsLt_bf16_f32) main_arg10
  let main_cst_1 : FVec F S_ .f32 := constant S_ .f32 0xFF800000#32
  let main_v7 : FVec F S1024x512 .f32 := broadcastInDim S1024x512 ![] bcast_S_S1024x512 main_cst_1
  let main_v8 : IVec S1024x512 1 := cmpf .ogt main_v6 main_v7
  let main_cst_2 : FVec F S_ .f32 := constant S_ .f32 0x7F800000#32
  let main_v9 : FVec F S1024x512 .f32 := broadcastInDim S1024x512 ![] bcast_S_S1024x512 main_cst_2
  let main_v10 : IVec S1024x512 1 := cmpf .olt main_v6 main_v9
  let main_v11 : IVec S1024x512 1 := andi main_v8 main_v10
  let main_c_3 : IVec S_ 1 := constantI S_ 1 1#1
  let main_v12 : IVec S_ 1 := (fun x v => Host.reduce IntOp.andi x v reducesTo_S1024x512_S_d0_1 h_S_) main_v11 main_c_3
  let main_v13 : IVec S_ 1 := andi main_v5 main_v12
  let main_cst_4 : FVec F S_ .f32 := constant S_ .f32 0xFF800000#32
  let main_v14 : FVec F S4096x512 .f32 := broadcastInDim S4096x512 ![] bcast_S_S4096x512 main_cst_4
  let main_v15 : IVec S4096x512 1 := cmpf .ogt main_arg11 main_v14
  let main_cst_5 : FVec F S_ .f32 := constant S_ .f32 0x7F800000#32
  fn_part1 (F := F) main_arg11 main_v13 main_v15 main_cst_5
-- ==== Kernel.lean ====
abbrev S32768x512 : Shape := ⟨2, ![32768, 512]⟩
abbrev S16x8x512x256 : Shape := ⟨4, ![16, 8, 512, 256]⟩
abbrev S8 : Shape := ⟨1, ![8]⟩
abbrev S256x512 : Shape := ⟨2, ![256, 512]⟩
abbrev S1x8x512x256 : Shape := ⟨4, ![1, 8, 512, 256]⟩
abbrev S4x512x128 : Shape := ⟨3, ![4, 512, 128]⟩
abbrev S4x512x1 : Shape := ⟨3, ![4, 512, 1]⟩
abbrev S512x256 : Shape := ⟨2, ![512, 256]⟩
abbrev S512x1 : Shape := ⟨2, ![512, 1]⟩
abbrev S256x256 : Shape := ⟨2, ![256, 256]⟩
abbrev S256x128 : Shape := ⟨2, ![256, 128]⟩
abbrev S512x128 : Shape := ⟨2, ![512, 128]⟩
abbrev S1x512x128 : Shape := ⟨3, ![1, 512, 128]⟩
abbrev S1x1x512x256 : Shape := ⟨4, ![1, 1, 512, 256]⟩
abbrev S128x256 : Shape := ⟨2, ![128, 256]⟩
abbrev S1 : Shape := ⟨1, ![1]⟩
abbrev S512 : Shape := ⟨1, ![512]⟩
abbrev S1x512x1 : Shape := ⟨3, ![1, 512, 1]⟩

abbrev nBuf : Space → Nat
  | .hbm => 5
  | .vmem => 11
  | .smem => 1
  | _ => 0

abbrev bufTy : (tb : Table) → Fin (tcTables nBuf tb) → BufTy
  | .hbm, ⟨0, _⟩ => ⟨S32768x512, .bf16⟩
  | .hbm, ⟨1, _⟩ => ⟨S16x8x512x256, .bf16⟩
  | .hbm, ⟨2, _⟩ => ⟨S16x8x512x256, .bf16⟩
  | .hbm, ⟨3, _⟩ => ⟨S8, .f32⟩
  | .hbm, ⟨4, _⟩ => ⟨S32768x512, .f32⟩
  | .local _ .vmem, ⟨0, _⟩ => ⟨S256x512, .bf16⟩
  | .local _ .vmem, ⟨1, _⟩ => ⟨S256x512, .bf16⟩
  | .local _ .vmem, ⟨2, _⟩ => ⟨S1x8x512x256, .bf16⟩
  | .local _ .vmem, ⟨3, _⟩ => ⟨S1x8x512x256, .bf16⟩
  | .local _ .vmem, ⟨4, _⟩ => ⟨S1x8x512x256, .bf16⟩
  | .local _ .vmem, ⟨5, _⟩ => ⟨S1x8x512x256, .bf16⟩
  | .local _ .vmem, ⟨6, _⟩ => ⟨S256x512, .f32⟩
  | .local _ .vmem, ⟨7, _⟩ => ⟨S256x512, .f32⟩
  | .local _ .vmem, ⟨8, _⟩ => ⟨S4x512x128, .bf16⟩
  | .local _ .vmem, ⟨9, _⟩ => ⟨S4x512x128, .f32⟩
  | .local _ .vmem, ⟨10, _⟩ => ⟨S4x512x1, .f32⟩
  | .local _ .smem, ⟨0, _⟩ => ⟨S8, .f32⟩
  | _, _ => ⟨S32768x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![16, 8], ![false, false]⟩

def k0_off1 (i : grid0.Coords) : Fin 4 → Nat :=
  let c0_16 : Index := 0#32
  let arg1 : BitVec 32 := BitVec.ofNat 32 (i 1).val
  let v49 : Index := Scalar.indexCast arg1
  let c0_17 : Index := 0#32
  let c0_18 : Index := 0#32
  ![0, v49.toNat, 0, 0]
@[reducible] def k0_t1_loop (i : grid0.Coords) : Scf.Loop 32 :=
  let c0_i32_102 : BitVec 32 := 0#32
  let arg1 : BitVec 32 := BitVec.ofNat 32 (i 1).val
  let c0_i32 : BitVec 32 := 0#32
  let v219 : BitVec 32 := Scalar.subi arg1 c0_i32
  let c1_i32 : BitVec 32 := 1#32
  let c1_i32_98 : BitVec 32 := 1#32
  let v220 : BitVec 32 := Scalar.subi c1_i32 c1_i32_98
  let v221 : BitVec 32 := Scalar.addi v219 v220
  let c1_i32_99 : BitVec 32 := 1#32
  let v222 : BitVec 32 := Scalar.divsi v221 c1_i32_99
  let v223 : BitVec 32 := Scalar.subi v222 c0_i32_102
  let c1_i32_103 : BitVec 32 := 1#32
  let v225 : BitVec 32 := Scalar.divsi v223 c1_i32_103
  let v226 : BitVec 32 := Scalar.muli v225 c1_i32_103
  let v227 : BitVec 32 := Scalar.addi c0_i32_102 v226
  let c1_i32_104 : BitVec 32 := 1#32
  ⟨c0_i32_102, v227, c1_i32_104⟩
def k0_off2 (i : grid0.Coords) (k0_t1 : Fin (k0_t1_loop i).trips) : Fin 4 → Nat :=
  let c0_127 : Index := 0#32
  let arg1 : BitVec 32 := BitVec.ofNat 32 (i 1).val
  let c1_i32_126 : BitVec 32 := 1#32
  let v254 : BitVec 32 := Scalar.subi arg1 c1_i32_126
  let c0_i32_101 : BitVec 32 := 0#32
  let c0_i32_102 : BitVec 32 := 0#32
  let c1_i32_104 : BitVec 32 := 1#32
  let arg10 : BitVec 32 := Scf.iv c0_i32_102 c1_i32_104 k0_t1
  let c1_i32_100 : BitVec 32 := 1#32
  let v252 : BitVec 32 := Scalar.muli arg10 c1_i32_100
  let v253 : BitVec 32 := Scalar.addi c0_i32_101 v252
  let v255 : BitVec 32 := Scalar.subi v254 v253
  let v256 : Index := Scalar.indexCast v255
  let c0_128 : Index := 0#32
  let c0_129 : Index := 0#32
  ![0, v256.toNat, 0, 0]
@[reducible] def k0_t2_loop (i : grid0.Coords) : Scf.Loop 32 :=
  let c0_i32_102 : BitVec 32 := 0#32
  let arg1 : BitVec 32 := BitVec.ofNat 32 (i 1).val
  let c0_i32 : BitVec 32 := 0#32
  let v219 : BitVec 32 := Scalar.subi arg1 c0_i32
  let c1_i32 : BitVec 32 := 1#32
  let c1_i32_98 : BitVec 32 := 1#32
  let v220 : BitVec 32 := Scalar.subi c1_i32 c1_i32_98
  let v221 : BitVec 32 := Scalar.addi v219 v220
  let c1_i32_99 : BitVec 32 := 1#32
  let v222 : BitVec 32 := Scalar.divsi v221 c1_i32_99
  let v223 : BitVec 32 := Scalar.subi v222 c0_i32_102
  let c1_i32_103 : BitVec 32 := 1#32
  let v225 : BitVec 32 := Scalar.divsi v223 c1_i32_103
  let v226 : BitVec 32 := Scalar.muli v225 c1_i32_103
  let v227 : BitVec 32 := Scalar.addi c0_i32_102 v226
  let v224 : BitVec 32 := Scalar.addi c0_i32_102 v223
  let c1_i32_105 : BitVec 32 := 1#32
  ⟨v227, v224, c1_i32_105⟩
def k0_off3 (i : grid0.Coords) (k0_t2 : Fin (k0_t2_loop i).trips) : Fin 4 → Nat :=
  let c0_127 : Index := 0#32
  let arg1 : BitVec 32 := BitVec.ofNat 32 (i 1).val
  let c1_i32_126 : BitVec 32 := 1#32
  let v254 : BitVec 32 := Scalar.subi arg1 c1_i32_126
  let c0_i32_101 : BitVec 32 := 0#32
  let c0_i32_102 : BitVec 32 := 0#32
  let c0_i32 : BitVec 32 := 0#32
  let v219 : BitVec 32 := Scalar.subi arg1 c0_i32
  let c1_i32 : BitVec 32 := 1#32
  let c1_i32_98 : BitVec 32 := 1#32
  let v220 : BitVec 32 := Scalar.subi c1_i32 c1_i32_98
  let v221 : BitVec 32 := Scalar.addi v219 v220
  let c1_i32_99 : BitVec 32 := 1#32
  let v222 : BitVec 32 := Scalar.divsi v221 c1_i32_99
  let v223 : BitVec 32 := Scalar.subi v222 c0_i32_102
  let c1_i32_103 : BitVec 32 := 1#32
  let v225 : BitVec 32 := Scalar.divsi v223 c1_i32_103
  let v226 : BitVec 32 := Scalar.muli v225 c1_i32_103
  let v227 : BitVec 32 := Scalar.addi c0_i32_102 v226
  let c1_i32_105 : BitVec 32 := 1#32
  let arg10 : BitVec 32 := Scf.iv v227 c1_i32_105 k0_t2
  let c1_i32_100 : BitVec 32 := 1#32
  let v252 : BitVec 32 := Scalar.muli arg10 c1_i32_100
  let v253 : BitVec 32 := Scalar.addi c0_i32_101 v252
  let v255 : BitVec 32 := Scalar.subi v254 v253
  let v256 : Index := Scalar.indexCast v255
  let c0_128 : Index := 0#32
  let c0_129 : Index := 0#32
  ![0, v256.toNat, 0, 0]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x8x512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== KernelIdeal.lean ====
variable {F : FTy → Type} [FloatOps F] [Named F]
def κ : String → Option EReal := fun
  | "neg_log2e" => some ((-((Real.log 2)⁻¹) : ℝ) : EReal)
  | _ => none
-- ==== ReferenceIdeal.lean ====
abbrev S32768x512 : Shape := ⟨2, ![32768, 512]⟩
abbrev S16x8x512x256 : Shape := ⟨4, ![16, 8, 512, 256]⟩
abbrev S8 : Shape := ⟨1, ![8]⟩
abbrev S16x2048x8x64 : Shape := ⟨4, ![16, 2048, 8, 64]⟩
abbrev S16x8x256x512 : Shape := ⟨4, ![16, 8, 256, 512]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S16x8x2048x2048 : Shape := ⟨4, ![16, 8, 2048, 2048]⟩
abbrev S1x8x1x1 : Shape := ⟨4, ![1, 8, 1, 1]⟩
abbrev S_ : Shape := ⟨0, ![]⟩
abbrev S16x8x64x2048 : Shape := ⟨4, ![16, 8, 64, 2048]⟩

abbrev nBuf : Space → Nat
  | .hbm => 74
  | .vmem => 0
  | .smem => 0
  | _ => 0

abbrev bufTy : (tb : Table) → Fin (tcTables nBuf tb) → BufTy
  | .hbm, ⟨0, _⟩ => ⟨S32768x512, .bf16⟩
  | .hbm, ⟨1, _⟩ => ⟨S16x8x512x256, .bf16⟩
  | .hbm, ⟨2, _⟩ => ⟨S16x8x512x256, .bf16⟩
  | .hbm, ⟨3, _⟩ => ⟨S8, .f32⟩
  | .hbm, ⟨4, _⟩ => ⟨S32768x512, .f32⟩
  | .hbm, ⟨5, _⟩ => ⟨S16x2048x8x64, .f32⟩
  | .hbm, ⟨6, _⟩ => ⟨S16x8x512x256, .f32⟩
  | .hbm, ⟨7, _⟩ => ⟨S16x8x256x512, .f32⟩
  | .hbm, ⟨8, _⟩ => ⟨S16x2048x8x64, .f32⟩
  | .hbm, ⟨9, _⟩ => ⟨S16x8x512x256, .f32⟩
  | .hbm, ⟨10, _⟩ => ⟨S16x8x256x512, .f32⟩
  | .hbm, ⟨11, _⟩ => ⟨S16x2048x8x64, .f32⟩
  | .hbm, ⟨12, _⟩ => ⟨S2048, .i32⟩
  | .hbm, ⟨13, _⟩ => ⟨S1x2048, .i32⟩
  | .hbm, ⟨14, _⟩ => ⟨S2048x1, .i32⟩
  | .hbm, ⟨15, _⟩ => ⟨S2048x2048, .i32⟩
  | .hbm, ⟨16, _⟩ => ⟨S2048x2048, .i32⟩
  | .hbm, ⟨17, _⟩ => ⟨S2048x2048, .i1⟩
  | .hbm, ⟨18, _⟩ => ⟨S16x8x2048x2048, .f32⟩
  | .hbm, ⟨19, _⟩ => ⟨S1x8x1x1, .f32⟩
  | .hbm, ⟨20, _⟩ => ⟨S16x8x2048x2048, .f32⟩
  | .hbm, ⟨21, _⟩ => ⟨S16x8x2048x2048, .f32⟩
  | .hbm, ⟨22, _⟩ => ⟨S16x8x2048x2048, .f32⟩
  | .hbm, ⟨23, _⟩ => ⟨S16x8x2048x2048, .f32⟩
  | .hbm, ⟨24, _⟩ => ⟨S_, .f32⟩
  | .hbm, ⟨25, _⟩ => ⟨S16x8x2048x2048, .f32⟩
  | .hbm, ⟨26, _⟩ => ⟨S16x8x2048x2048, .f32⟩
  | .hbm, ⟨27, _⟩ => ⟨S16x8x2048x2048, .f32⟩
  | .hbm, ⟨28, _⟩ => ⟨S16x8x2048x2048, .f32⟩
  | .hbm, ⟨29, _⟩ => ⟨S16x8x2048x2048, .i1⟩
  | .hbm, ⟨30, _⟩ => ⟨S16x8x2048x2048, .f32⟩
  | .hbm, ⟨31, _⟩ => ⟨S16x8x2048x2048, .f32⟩
  | .hbm, ⟨32, _⟩ => ⟨S16x8x2048x2048, .f32⟩
  | .hbm, ⟨33, _⟩ => ⟨S16x8x2048x2048, .f32⟩
  | .hbm, ⟨34, _⟩ => ⟨S16x8x2048x2048, .f32⟩
  | .hbm, ⟨35, _⟩ => ⟨S16x8x2048x2048, .f32⟩
  | .hbm, ⟨36, _⟩ => ⟨S16x8x2048x2048, .f32⟩
  | .hbm, ⟨37, _⟩ => ⟨S16x8x2048x2048, .f32⟩
  | .hbm, ⟨38, _⟩ => ⟨S16x8x2048x2048, .f32⟩
  | .hbm, ⟨39, _⟩ => ⟨S_, .f32⟩
  | .hbm, ⟨40, _⟩ => ⟨S_, .f32⟩
  | .hbm, ⟨41, _⟩ => ⟨S16x8x2048x2048, .i1⟩
  | .hbm, ⟨42, _⟩ => ⟨S16x8x2048x2048, .f32⟩
  | .hbm, ⟨43, _⟩ => ⟨S16x8x2048x2048, .f32⟩
  | .hbm, ⟨44, _⟩ => ⟨S_, .f32⟩
  | .hbm, ⟨45, _⟩ => ⟨S_, .f32⟩
  | .hbm, ⟨46, _⟩ => ⟨S16x8x2048x2048, .f32⟩
  | .hbm, ⟨47, _⟩ => ⟨S16x8x2048x2048, .f32⟩
  | .hbm, ⟨48, _⟩ => ⟨S16x8x2048x2048, .f32⟩
  | .hbm, ⟨49, _⟩ => ⟨S_, .f32⟩
  | .hbm, ⟨50, _⟩ => ⟨S16x8x2048x2048, .f32⟩
  | .hbm, ⟨51, _⟩ => ⟨S16x8x2048x2048, .f32⟩
  | .hbm, ⟨52, _⟩ => ⟨S16x8x2048x2048, .f32⟩
  | .hbm, ⟨53, _⟩ => ⟨S16x8x2048x2048, .f32⟩
  | .hbm, ⟨54, _⟩ => ⟨S16x8x2048x2048, .i1⟩
  | .hbm, ⟨55, _⟩ => ⟨S16x8x2048x2048, .f32⟩
  | .hbm, ⟨56, _⟩ => ⟨S16x8x2048x2048, .f32⟩
  | .hbm, ⟨57, _⟩ => ⟨S16x8x2048x2048, .f32⟩
  | .hbm, ⟨58, _⟩ => ⟨S16x8x2048x2048, .f32⟩
  | .hbm, ⟨59, _⟩ => ⟨S16x8x2048x2048, .f32⟩
  | .hbm, ⟨60, _⟩ => ⟨S16x8x2048x2048, .f32⟩
  | .hbm, ⟨61, _⟩ => ⟨S16x8x2048x2048, .f32⟩
  | .hbm, ⟨62, _⟩ => ⟨S16x8x2048x2048, .f32⟩
  | .hbm, ⟨63, _⟩ => ⟨S16x8x2048x2048, .f32⟩
  | .hbm, ⟨64, _⟩ => ⟨S16x8x2048x2048, .f32⟩
  | .hbm, ⟨65, _⟩ => ⟨S16x8x2048x2048, .f32⟩
  | .hbm, ⟨66, _⟩ => ⟨S_, .f32⟩
  | .hbm, ⟨67, _⟩ => ⟨S_, .f32⟩
  | .hbm, ⟨68, _⟩ => ⟨S16x8x2048x2048, .i1⟩
  | .hbm, ⟨69, _⟩ => ⟨S16x8x2048x2048, .f32⟩
  | .hbm, ⟨70, _⟩ => ⟨S16x8x2048x2048, .f32⟩
  | .hbm, ⟨71, _⟩ => ⟨S16x8x64x2048, .f32⟩
  | .hbm, ⟨72, _⟩ => ⟨S16x2048x8x64, .f32⟩
  | .hbm, ⟨73, _⟩ => ⟨S32768x512, .f32⟩
  | _, _ => ⟨S32768x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_call0_v0 : Ref sig .tc := ⟨.hbm, 23, rfl⟩
abbrev main_call0_call0_cst : Ref sig .tc := ⟨.hbm, 24, rfl⟩
abbrev main_call0_call0_v0 : Ref sig .tc := ⟨.hbm, 25, rfl⟩
abbrev main_call0_call0_v1 : Ref sig .tc := ⟨.hbm, 26, rfl⟩
abbrev main_call0_call0_v2 : Ref sig .tc := ⟨.hbm, 27, rfl⟩
abbrev main_call0_call0_v3 : Ref sig .tc := ⟨.hbm, 28, rfl⟩
abbrev main_call0_call0_v4 : Ref sig .tc := ⟨.hbm, 29, rfl⟩
abbrev main_call0_call0_v5 : Ref sig .tc := ⟨.hbm, 30, rfl⟩
abbrev main_call0_call0_v6 : Ref sig .tc := ⟨.hbm, 31, rfl⟩
abbrev main_call0_call0_v7 : Ref sig .tc := ⟨.hbm, 32, rfl⟩
abbrev main_call0_call0_v8 : Ref sig .tc := ⟨.hbm, 33, rfl⟩
abbrev main_call0_call0_v9 : Ref sig .tc := ⟨.hbm, 34, rfl⟩
abbrev main_call0_call0_v10 : Ref sig .tc := ⟨.hbm, 35, rfl⟩
abbrev main_call0_call0_v11 : Ref sig .tc := ⟨.hbm, 36, rfl⟩
abbrev main_call0_v1 : Ref sig .tc := ⟨.hbm, 37, rfl⟩
abbrev main_v19 : Ref sig .tc := ⟨.hbm, 38, rfl⟩
abbrev main_cst : Ref sig .tc := ⟨.hbm, 39, rfl⟩
abbrev main_call1_v0 : Ref sig .tc := ⟨.hbm, 40, rfl⟩
abbrev main_call1_v1 : Ref sig .tc := ⟨.hbm, 41, rfl⟩
abbrev main_call1_v2 : Ref sig .tc := ⟨.hbm, 42, rfl⟩
abbrev main_v20 : Ref sig .tc := ⟨.hbm, 43, rfl⟩
abbrev main_call2_cst : Ref sig .tc := ⟨.hbm, 44, rfl⟩
abbrev main_call2_v0 : Ref sig .tc := ⟨.hbm, 45, rfl⟩
abbrev main_v21 : Ref sig .tc := ⟨.hbm, 46, rfl⟩
abbrev main_v22 : Ref sig .tc := ⟨.hbm, 47, rfl⟩
abbrev main_call3_v0 : Ref sig .tc := ⟨.hbm, 48, rfl⟩
abbrev main_call3_call0_cst : Ref sig .tc := ⟨.hbm, 49, rfl⟩
abbrev main_call3_call0_v0 : Ref sig .tc := ⟨.hbm, 50, rfl⟩
abbrev main_call3_call0_v1 : Ref sig .tc := ⟨.hbm, 51, rfl⟩
abbrev main_call3_call0_v2 : Ref sig .tc := ⟨.hbm, 52, rfl⟩
abbrev main_call3_call0_v3 : Ref sig .tc := ⟨.hbm, 53, rfl⟩
abbrev main_call3_call0_v4 : Ref sig .tc := ⟨.hbm, 54, rfl⟩
abbrev main_call3_call0_v5 : Ref sig .tc := ⟨.hbm, 55, rfl⟩
abbrev main_call3_call0_v6 : Ref sig .tc := ⟨.hbm, 56, rfl⟩
abbrev main_call3_call0_v7 : Ref sig .tc := ⟨.hbm, 57, rfl⟩
abbrev main_call3_call0_v8 : Ref sig .tc := ⟨.hbm, 58, rfl⟩
abbrev main_call3_call0_v9 : Ref sig .tc := ⟨.hbm, 59, rfl⟩
abbrev main_call3_call0_v10 : Ref sig .tc := ⟨.hbm, 60, rfl⟩
abbrev main_call3_call0_v11 : Ref sig .tc := ⟨.hbm, 61, rfl⟩
abbrev main_call3_v1 : Ref sig .tc := ⟨.hbm, 62, rfl⟩
abbrev main_v23 : Ref sig .tc := ⟨.hbm, 63, rfl⟩
abbrev main_v24 : Ref sig .tc := ⟨.hbm, 64, rfl⟩
abbrev main_v25 : Ref sig .tc := ⟨.hbm, 65, rfl⟩
abbrev main_cst_0 : Ref sig .tc := ⟨.hbm, 66, rfl⟩
abbrev main_call4_v0 : Ref sig .tc := ⟨.hbm, 67, rfl⟩
abbrev main_call4_v1 : Ref sig .tc := ⟨.hbm, 68, rfl⟩
abbrev main_call4_v2 : Ref sig .tc := ⟨.hbm, 69, rfl⟩
abbrev main_v26 : Ref sig .tc := ⟨.hbm, 70, rfl⟩
abbrev main_v27 : Ref sig .tc := ⟨.hbm, 71, rfl⟩
abbrev main_v28 : Ref sig .tc := ⟨.hbm, 72, rfl⟩
abbrev main_v29 : Ref sig .tc := ⟨.hbm, 73, rfl⟩

abbrev nD : Nat := 1
abbrev τ : Topo := Topo.v7x

variable {F : FTy → Type} [FloatOps F]
-- ==== Kernel2.lean ====
abbrev S32768x1024 : Shape := ⟨2, ![32768, 1024]⟩
abbrev S32768x512 : Shape := ⟨2, ![32768, 512]⟩
abbrev S16x8x512 : Shape := ⟨3, ![16, 8, 512]⟩
abbrev S3x512 : Shape := ⟨2, ![3, 512]⟩
abbrev S1x512 : Shape := ⟨2, ![1, 512]⟩
abbrev S1024x1024 : Shape := ⟨2, ![1024, 1024]⟩
abbrev S1x1024 : Shape := ⟨2, ![1, 1024]⟩
abbrev S1024x512 : Shape := ⟨2, ![1024, 512]⟩
abbrev S4096x512 : Shape := ⟨2, ![4096, 512]⟩
abbrev S512x1024 : Shape := ⟨2, ![512, 1024]⟩
abbrev S1024x2816 : Shape := ⟨2, ![1024, 2816]⟩
abbrev S2816x1024 : Shape := ⟨2, ![2816, 1024]⟩
abbrev S512x512 : Shape := ⟨2, ![512, 512]⟩
abbrev S8x512 : Shape := ⟨2, ![8, 512]⟩
abbrev S1x8x512 : Shape := ⟨3, ![1, 8, 512]⟩
abbrev S256x512 : Shape := ⟨2, ![256, 512]⟩
abbrev S520x512 : Shape := ⟨2, ![520, 512]⟩
abbrev S512 : Shape := ⟨1, ![512]⟩
abbrev S512x1 : Shape := ⟨2, ![512, 1]⟩
abbrev S512x128 : Shape := ⟨2, ![512, 128]⟩
abbrev S256x128 : Shape := ⟨2, ![256, 128]⟩
abbrev S512x256 : Shape := ⟨2, ![512, 256]⟩
abbrev S1024x256 : Shape := ⟨2, ![1024, 256]⟩
abbrev S256x1024 : Shape := ⟨2, ![256, 1024]⟩

abbrev nBuf : Space → Nat
  | .hbm => 20
  | .vmem => 31
  | .smem => 0
  | _ => 0

abbrev bufTy : (tb : Table) → Fin (tcTables nBuf tb) → BufTy
  | .hbm, ⟨0, _⟩ => ⟨S32768x1024, .f32⟩
  | .hbm, ⟨1, _⟩ => ⟨S32768x512, .f32⟩
  | .hbm, ⟨2, _⟩ => ⟨S32768x512, .f32⟩
  | .hbm, ⟨3, _⟩ => ⟨S32768x512, .f32⟩
  | .hbm, ⟨4, _⟩ => ⟨S16x8x512, .f32⟩
  | .hbm, ⟨5, _⟩ => ⟨S3x512, .f32⟩
  | .hbm, ⟨6, _⟩ => ⟨S1x512, .f32⟩
  | .hbm, ⟨7, _⟩ => ⟨S1x512, .f32⟩
  | .hbm, ⟨8, _⟩ => ⟨S1024x1024, .bf16⟩
  | .hbm, ⟨9, _⟩ => ⟨S1x1024, .f32⟩
  | .hbm, ⟨10, _⟩ => ⟨S1024x512, .bf16⟩
  | .hbm, ⟨11, _⟩ => ⟨S4096x512, .f32⟩
  | .hbm, ⟨12, _⟩ => ⟨S4096x512, .f32⟩
  | .hbm, ⟨13, _⟩ => ⟨S512x1024, .bf16⟩
  | .hbm, ⟨14, _⟩ => ⟨S1x1024, .f32⟩
  | .hbm, ⟨15, _⟩ => ⟨S1024x2816, .bf16⟩
  | .hbm, ⟨16, _⟩ => ⟨S1024x2816, .bf16⟩
  | .hbm, ⟨17, _⟩ => ⟨S2816x1024, .bf16⟩
  | .hbm, ⟨18, _⟩ => ⟨S1x1024, .f32⟩
  | .hbm, ⟨19, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S8x512, .f32⟩
  | .local _ .vmem, ⟨9, _⟩ => ⟨S8x512, .f32⟩
  | .local _ .vmem, ⟨10, _⟩ => ⟨S1x8x512, .f32⟩
  | .local _ .vmem, ⟨11, _⟩ => ⟨S1x8x512, .f32⟩
  | .local _ .vmem, ⟨12, _⟩ => ⟨S3x512, .f32⟩
  | .local _ .vmem, ⟨13, _⟩ => ⟨S1x512, .f32⟩
  | .local _ .vmem, ⟨14, _⟩ => ⟨S1x512, .f32⟩
  | .local _ .vmem, ⟨15, _⟩ => ⟨S1024x1024, .bf16⟩
  | .local _ .vmem, ⟨16, _⟩ => ⟨S1x1024, .f32⟩
  | .local _ .vmem, ⟨17, _⟩ => ⟨S1024x512, .bf16⟩
  | .local _ .vmem, ⟨18, _⟩ => ⟨S256x512, .f32⟩
  | .local _ .vmem, ⟨19, _⟩ => ⟨S256x512, .f32⟩
  | .local _ .vmem, ⟨20, _⟩ => ⟨S256x512, .f32⟩
  | .local _ .vmem, ⟨21, _⟩ => ⟨S256x512, .f32⟩
  | .local _ .vmem, ⟨22, _⟩ => ⟨S512x1024, .bf16⟩
  | .local _ .vmem, ⟨23, _⟩ => ⟨S1x1024, .f32⟩
  | .local _ .vmem, ⟨24, _⟩ => ⟨S1024x2816, .bf16⟩
  | .local _ .vmem, ⟨25, _⟩ => ⟨S1024x2816, .bf16⟩
  | .local _ .vmem, ⟨26, _⟩ => ⟨S2816x1024, .bf16⟩
  | .local _ .vmem, ⟨27, _⟩ => ⟨S1x1024, .f32⟩
  | .local _ .vmem, ⟨28, _⟩ => ⟨S512x1024, .f32⟩
  | .local _ .vmem, ⟨29, _⟩ => ⟨S512x1024, .f32⟩
  | .local _ .vmem, ⟨30, _⟩ => ⟨S520x512, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg15_0 : Ref sig .tc := ⟨.vmem, 23, rfl⟩
abbrev cc0_stg16_0 : Ref sig .tc := ⟨.vmem, 24, rfl⟩
abbrev cc0_stg17_0 : Ref sig .tc := ⟨.vmem, 25, rfl⟩
abbrev cc0_stg18_0 : Ref sig .tc := ⟨.vmem, 26, rfl⟩
abbrev cc0_stg19_0 : Ref sig .tc := ⟨.vmem, 27, rfl⟩
abbrev cc0_stg20_0 : Ref sig .tc := ⟨.vmem, 28, rfl⟩
abbrev cc0_stg20_1 : Ref sig .tc := ⟨.vmem, 29, rfl⟩
abbrev cc0_scratch0 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem15_0 : DmaSem sig := 23
abbrev cc0_sem16_0 : DmaSem sig := 24
abbrev cc0_sem17_0 : DmaSem sig := 25
abbrev cc0_sem18_0 : DmaSem sig := 26
abbrev cc0_sem19_0 : DmaSem sig := 27
abbrev cc0_sem20_0 : DmaSem sig := 28
abbrev cc0_sem20_1 : DmaSem sig := 29

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_5 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_13 (i : grid0.Coords) : Fin 2 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x8x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S3x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x512 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S512x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1024x2816 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1024x2816 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S2816x1024 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 2 → Memref sig .tc .vmem S512x1024 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]
-- ==== Kernel2Ideal.lean ====
variable {F : FTy → Type} [FloatOps F] [Named F]
def κ : String → Option EReal := fun
  | "ca_scale" => some (((Real.sqrt 128)⁻¹ : ℝ) : EReal)
  | _ => none
-- ==== Reference2Ideal.lean ====
abbrev S32768x1024 : Shape := ⟨2, ![32768, 1024]⟩
abbrev S32768x512 : Shape := ⟨2, ![32768, 512]⟩
abbrev S16x8x512 : Shape := ⟨3, ![16, 8, 512]⟩
abbrev S3x512 : Shape := ⟨2, ![3, 512]⟩
abbrev S1x512 : Shape := ⟨2, ![1, 512]⟩
abbrev S1024x1024 : Shape := ⟨2, ![1024, 1024]⟩
abbrev S1x1024 : Shape := ⟨2, ![1, 1024]⟩
abbrev S1024x512 : Shape := ⟨2, ![1024, 512]⟩
abbrev S4096x512 : Shape := ⟨2, ![4096, 512]⟩
abbrev S512x1024 : Shape := ⟨2, ![512, 1024]⟩
abbrev S1024x2816 : Shape := ⟨2, ![1024, 2816]⟩
abbrev S2816x1024 : Shape := ⟨2, ![2816, 1024]⟩
abbrev S16x2x512 : Shape := ⟨3, ![16, 2, 512]⟩
abbrev S16x2048x512 : Shape := ⟨3, ![16, 2048, 512]⟩
abbrev S16x2050x512 : Shape := ⟨3, ![16, 2050, 512]⟩
abbrev S512 : Shape := ⟨1, ![512]⟩
abbrev S1x1x512 : Shape := ⟨3, ![1, 1, 512]⟩
abbrev S_ : Shape := ⟨0, ![]⟩
abbrev S32768 : Shape := ⟨1, ![32768]⟩
abbrev S32768x1 : Shape := ⟨2, ![32768, 1]⟩
abbrev S16x2048x4x128 : Shape := ⟨4, ![16, 2048, 4, 128]⟩
abbrev S16x256x4x128 : Shape := ⟨4, ![16, 256, 4, 128]⟩
abbrev S16x4x2048x256 : Shape := ⟨4, ![16, 4, 2048, 256]⟩
abbrev S16x4x2048 : Shape := ⟨3, ![16, 4, 2048]⟩
abbrev S16x4x2048x1 : Shape := ⟨4, ![16, 4, 2048, 1]⟩
abbrev S16x4x128x2048 : Shape := ⟨4, ![16, 4, 128, 2048]⟩
abbrev S32768x2816 : Shape := ⟨2, ![32768, 2816]⟩

abbrev nBuf : Space → Nat
  | .hbm => 170
  | .vmem => 0
  | .smem => 0
  | _ => 0

abbrev hbmTy0_0 (i : Nat) : BufTy := match i % 128 with
  | 0 => ⟨S32768x1024, .f32⟩
  | 1 => ⟨S32768x512, .f32⟩
  | 2 => ⟨S32768x512, .f32⟩
  | 3 => ⟨S32768x512, .f32⟩
  | 4 => ⟨S16x8x512, .f32⟩
  | 5 => ⟨S3x512, .f32⟩
  | 6 => ⟨S1x512, .f32⟩
  | 7 => ⟨S1x512, .f32⟩
  | 8 => ⟨S1024x1024, .bf16⟩
  | 9 => ⟨S1x1024, .f32⟩
  | 10 => ⟨S1024x512, .bf16⟩
  | 11 => ⟨S4096x512, .f32⟩
  | 12 => ⟨S4096x512, .f32⟩
  | 13 => ⟨S512x1024, .bf16⟩
  | 14 => ⟨S1x1024, .f32⟩
  | 15 => ⟨S1024x2816, .bf16⟩
  | 16 => ⟨S1024x2816, .bf16⟩
  | 17 => ⟨S2816x1024, .bf16⟩
  | 18 => ⟨S1x1024, .f32⟩
  | 19 => ⟨S1024x1024, .f32⟩
  | 20 => ⟨S1024x512, .f32⟩
  | 21 => ⟨S512x1024, .f32⟩
  | 22 => ⟨S1024x2816, .f32⟩
  | 23 => ⟨S1024x2816, .f32⟩
  | 24 => ⟨S2816x1024, .f32⟩
  | 25 => ⟨S16x2x512, .f32⟩
  | 26 => ⟨S16x2048x512, .f32⟩
  | 27 => ⟨S16x2050x512, .f32⟩
  | 28 => ⟨S1x512, .f32⟩
  | 29 => ⟨S512, .f32⟩
  | 30 => ⟨S16x2048x512, .f32⟩
  | 31 => ⟨S1x1x512, .f32⟩
  | 32 => ⟨S16x2048x512, .f32⟩
  | 33 => ⟨S16x2048x512, .f32⟩
  | 34 => ⟨S1x512, .f32⟩
  | 35 => ⟨S512, .f32⟩
  | 36 => ⟨S16x2048x512, .f32⟩
  | 37 => ⟨S1x1x512, .f32⟩
  | 38 => ⟨S16x2048x512, .f32⟩
  | 39 => ⟨S16x2048x512, .f32⟩
  | 40 => ⟨S16x2048x512, .f32⟩
  | 41 => ⟨S1x512, .f32⟩
  | 42 => ⟨S512, .f32⟩
  | 43 => ⟨S16x2048x512, .f32⟩
  | 44 => ⟨S1x1x512, .f32⟩
  | 45 => ⟨S16x2048x512, .f32⟩
  | 46 => ⟨S16x2048x512, .f32⟩
  | 47 => ⟨S16x2048x512, .f32⟩
  | 48 => ⟨S32768x512, .f32⟩
  | 49 => ⟨S_, .f32⟩
  | 50 => ⟨S32768, .f32⟩
  | 51 => ⟨S32768x1, .f32⟩
  | 52 => ⟨S_, .f32⟩
  | 53 => ⟨S32768x1, .f32⟩
  | 54 => ⟨S32768x1, .f32⟩
  | 55 => ⟨S_, .f32⟩
  | 56 => ⟨S32768x1, .f32⟩
  | 57 => ⟨S32768x1, .f32⟩
  | 58 => ⟨S32768x1, .f32⟩
  | 59 => ⟨S32768x512, .f32⟩
  | 60 => ⟨S32768x512, .f32⟩
  | 61 => ⟨S32768x512, .f32⟩
  | 62 => ⟨S32768x512, .f32⟩
  | 63 => ⟨S32768x512, .f32⟩
  | 64 => ⟨S32768x512, .f32⟩
  | 65 => ⟨S32768x512, .f32⟩
  | 66 => ⟨S_, .f32⟩
  | 67 => ⟨S32768, .f32⟩
  | 68 => ⟨S32768x1, .f32⟩
  | 69 => ⟨S_, .f32⟩
  | 70 => ⟨S32768x1, .f32⟩
  | 71 => ⟨S32768x1, .f32⟩
  | 72 => ⟨S_, .f32⟩
  | 73 => ⟨S32768x1, .f32⟩
  | 74 => ⟨S32768x1, .f32⟩
  | 75 => ⟨S32768x1, .f32⟩
  | 76 => ⟨S32768x512, .f32⟩
  | 77 => ⟨S32768x512, .f32⟩
  | 78 => ⟨S32768x512, .f32⟩
  | 79 => ⟨S32768x512, .f32⟩
  | 80 => ⟨S32768x1024, .f32⟩
  | 81 => ⟨S32768x1024, .f32⟩
  | 82 => ⟨S32768x1024, .f32⟩
  | 83 => ⟨S32768x1024, .f32⟩
  | 84 => ⟨S_, .f32⟩
  | 85 => ⟨S32768, .f32⟩
  | 86 => ⟨S32768x1, .f32⟩
  | 87 => ⟨S_, .f32⟩
  | 88 => ⟨S32768x1, .f32⟩
  | 89 => ⟨S32768x1, .f32⟩
  | 90 => ⟨S_, .f32⟩
  | 91 => ⟨S32768x1, .f32⟩
  | 92 => ⟨S32768x1, .f32⟩
  | 93 => ⟨S32768x1, .f32⟩
  | 94 => ⟨S32768x1024, .f32⟩
  | 95 => ⟨S32768x1024, .f32⟩
  | 96 => ⟨S32768x1024, .f32⟩
  | 97 => ⟨S32768x1024, .f32⟩
  | 98 => ⟨S32768x512, .f32⟩
  | 99 => ⟨S16x2048x4x128, .f32⟩
  | 100 => ⟨S16x256x4x128, .f32⟩
  | 101 => ⟨S16x256x4x128, .f32⟩
  | 102 => ⟨S16x4x2048x256, .f32⟩
  | 103 => ⟨S_, .f32⟩
  | 104 => ⟨S_, .f32⟩
  | 105 => ⟨S16x4x2048x256, .f32⟩
  | 106 => ⟨S16x4x2048x256, .f32⟩
  | 107 => ⟨S_, .f32⟩
  | 108 => ⟨S16x4x2048, .f32⟩
  | 109 => ⟨S_, .f32⟩
  | 110 => ⟨S16x4x2048, .f32⟩
  | 111 => ⟨S16x4x2048, .f32⟩
  | 112 => ⟨S16x4x2048x1, .f32⟩
  | 113 => ⟨S16x4x2048x256, .f32⟩
  | 114 => ⟨S16x4x2048x256, .f32⟩
  | 115 => ⟨S16x4x2048x256, .f32⟩
  | 116 => ⟨S_, .f32⟩
  | 117 => ⟨S16x4x2048, .f32⟩
  | 118 => ⟨S16x4x2048x1, .f32⟩
  | 119 => ⟨S16x4x2048x256, .f32⟩
  | 120 => ⟨S16x4x2048x256, .f32⟩
  | 121 => ⟨S16x4x128x2048, .f32⟩
  | 122 => ⟨S16x2048x4x128, .f32⟩
  | 123 => ⟨S32768x512, .f32⟩
  | 124 => ⟨S32768x1024, .f32⟩
  | 125 => ⟨S32768x1024, .f32⟩
  | 126 => ⟨S32768x1024, .f32⟩
  | 127 => ⟨S_, .f32⟩
  | _ => ⟨S32768x1024, .f32⟩

abbrev hbmTy0_1 (i : Nat) : BufTy := match i % 128 with
  | 0 => ⟨S32768, .f32⟩
  | 1 => ⟨S32768x1, .f32⟩
  | 2 => ⟨S_, .f32⟩
  | 3 => ⟨S32768x1, .f32⟩
  | 4 => ⟨S32768x1, .f32⟩
  | 5 => ⟨S_, .f32⟩
  | 6 => ⟨S32768x1, .f32⟩
  | 7 => ⟨S32768x1, .f32⟩
  | 8 => ⟨S32768x1, .f32⟩
  | 9 => ⟨S32768x1024, .f32⟩
  | 10 => ⟨S32768x1024, .f32⟩
  | 11 => ⟨S32768x1024, .f32⟩
  | 12 => ⟨S32768x1024, .f32⟩
  | 13 => ⟨S32768x2816, .f32⟩
  | 14 => ⟨S32768x2816, .f32⟩
  | 15 => ⟨S32768x2816, .f32⟩
  | 16 => ⟨S_, .f32⟩
  | 17 => ⟨S32768x2816, .f32⟩
  | 18 => ⟨S32768x2816, .f32⟩
  | 19 => ⟨S_, .f32⟩
  | 20 => ⟨S32768x2816, .f32⟩
  | 21 => ⟨S32768x2816, .f32⟩
  | 22 => ⟨S32768x2816, .f32⟩
  | 23 => ⟨S32768x2816, .f32⟩
  | 24 => ⟨S32768x2816, .f32⟩
  | 25 => ⟨S32768x1024, .f32⟩
  | 26 => ⟨S32768x1024, .f32⟩
  | 27 => ⟨S32768x1024, .f32⟩
  | 28 => ⟨S_, .f32⟩
  | 29 => ⟨S32768, .f32⟩
  | 30 => ⟨S32768x1, .f32⟩
  | 31 => ⟨S_, .f32⟩
  | 32 => ⟨S32768x1, .f32⟩
  | 33 => ⟨S32768x1, .f32⟩
  | 34 => ⟨S_, .f32⟩
  | 35 => ⟨S32768x1, .f32⟩
  | 36 => ⟨S32768x1, .f32⟩
  | 37 => ⟨S32768x1, .f32⟩
  | 38 => ⟨S32768x1024, .f32⟩
  | 39 => ⟨S32768x1024, .f32⟩
  | 40 => ⟨S32768x1024, .f32⟩
  | 41 => ⟨S32768x1024, .f32⟩
  | _ => ⟨S32768x1024, .f32⟩

abbrev hbmTy (i : Nat) : BufTy := match i / 128 with
  | 0 => hbmTy0_0 i
  | 1 => hbmTy0_1 i
  | _ => ⟨S32768x1024, .f32⟩

abbrev bufTy : (tb : Table) → Fin (tcTables nBuf tb) → BufTy
  | .hbm, ⟨i, _⟩ => hbmTy i
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_cst : Ref sig .tc := ⟨.hbm, 49, rfl⟩
abbrev main_v30 : Ref sig .tc := ⟨.hbm, 50, rfl⟩
abbrev main_v31 : Ref sig .tc := ⟨.hbm, 51, rfl⟩
abbrev main_cst_0 : Ref sig .tc := ⟨.hbm, 52, rfl⟩
abbrev main_v32 : Ref sig .tc := ⟨.hbm, 53, rfl⟩
abbrev main_v33 : Ref sig .tc := ⟨.hbm, 54, rfl⟩
abbrev main_cst_1 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_cst_2 : Ref sig .tc := ⟨.hbm, 66, rfl⟩
abbrev main_v44 : Ref sig .tc := ⟨.hbm, 67, rfl⟩
abbrev main_v45 : Ref sig .tc := ⟨.hbm, 68, rfl⟩
abbrev main_cst_3 : Ref sig .tc := ⟨.hbm, 69, rfl⟩
abbrev main_v46 : Ref sig .tc := ⟨.hbm, 70, rfl⟩
abbrev main_v47 : Ref sig .tc := ⟨.hbm, 71, rfl⟩
abbrev main_cst_4 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_5 : Ref sig .tc := ⟨.hbm, 84, rfl⟩
abbrev main_v59 : Ref sig .tc := ⟨.hbm, 85, rfl⟩
abbrev main_v60 : Ref sig .tc := ⟨.hbm, 86, rfl⟩
abbrev main_cst_6 : Ref sig .tc := ⟨.hbm, 87, rfl⟩
abbrev main_v61 : Ref sig .tc := ⟨.hbm, 88, rfl⟩
abbrev main_v62 : Ref sig .tc := ⟨.hbm, 89, rfl⟩
abbrev main_cst_7 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_cst_8 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_cst_9 : Ref sig .tc := ⟨.hbm, 107, rfl⟩
abbrev main_v78 : Ref sig .tc := ⟨.hbm, 108, rfl⟩
abbrev main_cst_10 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_cst_11 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_cst_12 : Ref sig .tc := ⟨.hbm, 127, rfl⟩
abbrev main_v95 : Ref sig .tc := ⟨.hbm, 128, rfl⟩
abbrev main_v96 : Ref sig .tc := ⟨.hbm, 129, rfl⟩
abbrev main_cst_13 : Ref sig .tc := ⟨.hbm, 130, rfl⟩
abbrev main_v97 : Ref sig .tc := ⟨.hbm, 131, rfl⟩
abbrev main_v98 : Ref sig .tc := ⟨.hbm, 132, rfl⟩
abbrev main_cst_14 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_call0_v0 : Ref sig .tc := ⟨.hbm, 142, rfl⟩
abbrev main_call0_v1 : Ref sig .tc := ⟨.hbm, 143, rfl⟩
abbrev main_call0_cst : Ref sig .tc := ⟨.hbm, 144, rfl⟩
abbrev main_call0_v2 : Ref sig .tc := ⟨.hbm, 145, rfl⟩
abbrev main_call0_v3 : Ref sig .tc := ⟨.hbm, 146, rfl⟩
abbrev main_call0_cst_0 : Ref sig .tc := ⟨.hbm, 147, rfl⟩
abbrev main_call0_v4 : Ref sig .tc := ⟨.hbm, 148, rfl⟩
abbrev main_call0_v5 : Ref sig .tc := ⟨.hbm, 149, rfl⟩
abbrev main_v107 : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩
abbrev main_v111 : Ref sig .tc := ⟨.hbm, 154, rfl⟩
abbrev main_v112 : Ref sig .tc := ⟨.hbm, 155, rfl⟩
abbrev main_cst_15 : Ref sig .tc := ⟨.hbm, 156, rfl⟩
abbrev main_v113 : Ref sig .tc := ⟨.hbm, 157, rfl⟩
abbrev main_v114 : Ref sig .tc := ⟨.hbm, 158, rfl⟩
abbrev main_cst_16 : Ref sig .tc := ⟨.hbm, 159, rfl⟩
abbrev main_v115 : Ref sig .tc := ⟨.hbm, 160, rfl⟩
abbrev main_v116 : Ref sig .tc := ⟨.hbm, 161, rfl⟩
abbrev main_cst_17 : Ref sig .tc := ⟨.hbm, 162, rfl⟩
abbrev main_v117 : Ref sig .tc := ⟨.hbm, 163, rfl⟩
abbrev main_v118 : Ref sig .tc := ⟨.hbm, 164, rfl⟩
abbrev main_v119 : Ref sig .tc := ⟨.hbm, 165, rfl⟩
abbrev main_v120 : Ref sig .tc := ⟨.hbm, 166, rfl⟩
abbrev main_v121 : Ref sig .tc := ⟨.hbm, 167, rfl⟩
abbrev main_v122 : Ref sig .tc := ⟨.hbm, 168, rfl⟩
abbrev main_v123 : Ref sig .tc := ⟨.hbm, 169, rfl⟩

abbrev nD : Nat := 1
abbrev τ : Topo := Topo.v7x

variable {F : FTy → Type} [FloatOps F]
-- ==== Kernel3.lean ====
abbrev S16x2048x1024 : Shape := ⟨3, ![16, 2048, 1024]⟩
abbrev S1x1024 : Shape := ⟨2, ![1, 1024]⟩
abbrev S1x1024x3072 : Shape := ⟨3, ![1, 1024, 3072]⟩
abbrev S1024x3072 : Shape := ⟨2, ![1024, 3072]⟩
abbrev S1024x512 : Shape := ⟨2, ![1024, 512]⟩
abbrev S1024x1536 : Shape := ⟨2, ![1024, 1536]⟩
abbrev S1024x2048 : Shape := ⟨2, ![1024, 2048]⟩
abbrev S1024x1024 : Shape := ⟨2, ![1024, 1024]⟩
abbrev S32768x1024 : Shape := ⟨2, ![32768, 1024]⟩
abbrev S1024 : Shape := ⟨1, ![1024]⟩
abbrev S32768x512 : Shape := ⟨2, ![32768, 512]⟩
abbrev S16x512x2048 : Shape := ⟨3, ![16, 512, 2048]⟩
abbrev S16x8x512x256 : Shape := ⟨4, ![16, 8, 512, 256]⟩
abbrev S512x1024 : Shape := ⟨2, ![512, 1024]⟩
abbrev S512x512 : Shape := ⟨2, ![512, 512]⟩
abbrev S1x512x512 : Shape := ⟨3, ![1, 512, 512]⟩
abbrev S1x2x512x256 : Shape := ⟨4, ![1, 2, 512, 256]⟩
abbrev S512 : Shape := ⟨1, ![512]⟩
abbrev S512x1 : Shape := ⟨2, ![512, 1]⟩
abbrev S512x256 : Shape := ⟨2, ![512, 256]⟩
abbrev S1x1x512x256 : Shape := ⟨4, ![1, 1, 512, 256]⟩

abbrev nBuf : Space → Nat
  | .hbm => 20
  | .vmem => 19
  | .smem => 0
  | _ => 0

abbrev bufTy : (tb : Table) → Fin (tcTables nBuf tb) → BufTy
  | .hbm, ⟨0, _⟩ => ⟨S16x2048x1024, .f32⟩
  | .hbm, ⟨1, _⟩ => ⟨S1x1024, .f32⟩
  | .hbm, ⟨2, _⟩ => ⟨S1x1024x3072, .f32⟩
  | .hbm, ⟨3, _⟩ => ⟨S1024x3072, .f32⟩
  | .hbm, ⟨4, _⟩ => ⟨S1024x3072, .bf16⟩
  | .hbm, ⟨5, _⟩ => ⟨S1024x512, .bf16⟩
  | .hbm, ⟨6, _⟩ => ⟨S1024x1536, .bf16⟩
  | .hbm, ⟨7, _⟩ => ⟨S1024x2048, .bf16⟩
  | .hbm, ⟨8, _⟩ => ⟨S1024x1024, .bf16⟩
  | .hbm, ⟨9, _⟩ => ⟨S1024x1024, .bf16⟩
  | .hbm, ⟨10, _⟩ => ⟨S32768x1024, .f32⟩
  | .hbm, ⟨11, _⟩ => ⟨S1024, .f32⟩
  | .hbm, ⟨12, _⟩ => ⟨S1x1024, .f32⟩
  | .hbm, ⟨13, _⟩ => ⟨S32768x512, .bf16⟩
  | .hbm, ⟨14, _⟩ => ⟨S16x512x2048, .f32⟩
  | .hbm, ⟨15, _⟩ => ⟨S16x512x2048, .f32⟩
  | .hbm, ⟨16, _⟩ => ⟨S16x8x512x256, .bf16⟩
  | .hbm, ⟨17, _⟩ => ⟨S16x8x512x256, .bf16⟩
  | .hbm, ⟨18, _⟩ => ⟨S32768x512, .f32⟩
  | .hbm, ⟨19, _⟩ => ⟨S32768x512, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2048, .bf16⟩
  | .local _ .vmem, ⟨4, _⟩ => ⟨S1024x1024, .bf16⟩
  | .local _ .vmem, ⟨5, _⟩ => ⟨S512x512, .bf16⟩
  | .local _ .vmem, ⟨6, _⟩ => ⟨S512x512, .bf16⟩
  | .local _ .vmem, ⟨7, _⟩ => ⟨S1x512x512, .f32⟩
  | .local _ .vmem, ⟨8, _⟩ => ⟨S1x512x512, .f32⟩
  | .local _ .vmem, ⟨9, _⟩ => ⟨S1x512x512, .f32⟩
  | .local _ .vmem, ⟨10, _⟩ => ⟨S1x512x512, .f32⟩
  | .local _ .vmem, ⟨11, _⟩ => ⟨S1x2x512x256, .bf16⟩
  | .local _ .vmem, ⟨12, _⟩ => ⟨S1x2x512x256, .bf16⟩
  | .local _ .vmem, ⟨13, _⟩ => ⟨S1x2x512x256, .bf16⟩
  | .local _ .vmem, ⟨14, _⟩ => ⟨S1x2x512x256, .bf16⟩
  | .local _ .vmem, ⟨15, _⟩ => ⟨S512x512, .f32⟩
  | .local _ .vmem, ⟨16, _⟩ => ⟨S512x512, .f32⟩
  | .local _ .vmem, ⟨17, _⟩ => ⟨S512x512, .f32⟩
  | .local _ .vmem, ⟨18, _⟩ => ⟨S512x512, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10_0 : Ref sig .tc := ⟨.hbm, 13, rfl⟩
abbrev main_v10_1 : Ref sig .tc := ⟨.hbm, 14, rfl⟩
abbrev main_v10_2 : Ref sig .tc := ⟨.hbm, 15, rfl⟩
abbrev main_v10_3 : Ref sig .tc := ⟨.hbm, 16, rfl⟩
abbrev main_v10_4 : Ref sig .tc := ⟨.hbm, 17, rfl⟩
abbrev main_v10_5 : Ref sig .tc := ⟨.hbm, 18, rfl⟩
abbrev main_v10_6 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_10 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x2x512x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x2x512x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference3Ideal.lean ====
abbrev S16x2048x1024 : Shape := ⟨3, ![16, 2048, 1024]⟩
abbrev S1x1024 : Shape := ⟨2, ![1, 1024]⟩
abbrev S1x1024x3072 : Shape := ⟨3, ![1, 1024, 3072]⟩
abbrev S_ : Shape := ⟨0, ![]⟩
abbrev S16x2048 : Shape := ⟨2, ![16, 2048]⟩
abbrev S16x2048x1 : Shape := ⟨3, ![16, 2048, 1]⟩
abbrev S1024 : Shape := ⟨1, ![1024]⟩
abbrev S1x1x1024 : Shape := ⟨3, ![1, 1, 1024]⟩
abbrev S1024x3072 : Shape := ⟨2, ![1024, 3072]⟩
abbrev S16x2048x3072 : Shape := ⟨3, ![16, 2048, 3072]⟩
abbrev S16x2048x512 : Shape := ⟨3, ![16, 2048, 512]⟩
abbrev S32768x512 : Shape := ⟨2, ![32768, 512]⟩
abbrev S16x512x2048 : Shape := ⟨3, ![16, 512, 2048]⟩
abbrev S16x8x256x512 : Shape := ⟨4, ![16, 8, 256, 512]⟩
abbrev S16x8x512x256 : Shape := ⟨4, ![16, 8, 512, 256]⟩

abbrev nBuf : Space → Nat
  | .hbm => 44
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S1x1024, .f32⟩
  | .hbm, ⟨2, _⟩ => ⟨S1x1024x3072, .f32⟩
  | .hbm, ⟨3, _⟩ => ⟨S16x2048x1024, .f32⟩
  | .hbm, ⟨4, _⟩ => ⟨S_, .f32⟩
  | .hbm, ⟨5, _⟩ => ⟨S16x2048, .f32⟩
  | .hbm, ⟨6, _⟩ => ⟨S16x2048x1, .f32⟩
  | .hbm, ⟨7, _⟩ => ⟨S_, .f32⟩
  | .hbm, ⟨8, _⟩ => ⟨S16x2048x1, .f32⟩
  | .hbm, ⟨9, _⟩ => ⟨S16x2048x1, .f32⟩
  | .hbm, ⟨10, _⟩ => ⟨S_, .f32⟩
  | .hbm, ⟨11, _⟩ => ⟨S16x2048x1, .f32⟩
  | .hbm, ⟨12, _⟩ => ⟨S16x2048x1, .f32⟩
  | .hbm, ⟨13, _⟩ => ⟨S16x2048x1, .f32⟩
  | .hbm, ⟨14, _⟩ => ⟨S16x2048x1024, .f32⟩
  | .hbm, ⟨15, _⟩ => ⟨S16x2048x1024, .f32⟩
  | .hbm, ⟨16, _⟩ => ⟨S1024, .f32⟩
  | .hbm, ⟨17, _⟩ => ⟨S1x1x1024, .f32⟩
  | .hbm, ⟨18, _⟩ => ⟨S16x2048x1024, .f32⟩
  | .hbm, ⟨19, _⟩ => ⟨S16x2048x1024, .f32⟩
  | .hbm, ⟨20, _⟩ => ⟨S1024x3072, .f32⟩
  | .hbm, ⟨21, _⟩ => ⟨S16x2048x3072, .f32⟩
  | .hbm, ⟨22, _⟩ => ⟨S16x2048x512, .f32⟩
  | .hbm, ⟨23, _⟩ => ⟨S16x2048x512, .f32⟩
  | .hbm, ⟨24, _⟩ => ⟨S16x2048x512, .f32⟩
  | .hbm, ⟨25, _⟩ => ⟨S16x2048x512, .f32⟩
  | .hbm, ⟨26, _⟩ => ⟨S16x2048x512, .f32⟩
  | .hbm, ⟨27, _⟩ => ⟨S16x2048x512, .f32⟩
  | .hbm, ⟨28, _⟩ => ⟨S16x2048x512, .f32⟩
  | .hbm, ⟨29, _⟩ => ⟨S_, .f32⟩
  | .hbm, ⟨30, _⟩ => ⟨S16x2048x512, .f32⟩
  | .hbm, ⟨31, _⟩ => ⟨S16x2048x512, .f32⟩
  | .hbm, ⟨32, _⟩ => ⟨S32768x512, .f32⟩
  | .hbm, ⟨33, _⟩ => ⟨S32768x512, .bf16⟩
  | .hbm, ⟨34, _⟩ => ⟨S16x512x2048, .f32⟩
  | .hbm, ⟨35, _⟩ => ⟨S16x512x2048, .f32⟩
  | .hbm, ⟨36, _⟩ => ⟨S16x8x256x512, .f32⟩
  | .hbm, ⟨37, _⟩ => ⟨S16x8x512x256, .f32⟩
  | .hbm, ⟨38, _⟩ => ⟨S16x8x512x256, .bf16⟩
  | .hbm, ⟨39, _⟩ => ⟨S16x8x256x512, .f32⟩
  | .hbm, ⟨40, _⟩ => ⟨S16x8x512x256, .f32⟩
  | .hbm, ⟨41, _⟩ => ⟨S16x8x512x256, .bf16⟩
  | .hbm, ⟨42, _⟩ => ⟨S32768x512, .f32⟩
  | .hbm, ⟨43, _⟩ => ⟨S32768x512, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_2 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩

abbrev nD : Nat := 1
abbrev τ : Topo := Topo.v7x

variable {F : FTy → Type} [FloatOps F]
-- ==== Kernel4.lean ====
abbrev S16x256x1024 : Shape := ⟨3, ![16, 256, 1024]⟩
abbrev S1x1024 : Shape := ⟨2, ![1, 1024]⟩
abbrev S1x1024x512 : Shape := ⟨3, ![1, 1024, 512]⟩
abbrev S1024x512 : Shape := ⟨2, ![1024, 512]⟩
abbrev S4096x1024 : Shape := ⟨2, ![4096, 1024]⟩
abbrev S1024 : Shape := ⟨1, ![1024]⟩
abbrev S4096x512 : Shape := ⟨2, ![4096, 512]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩

abbrev nBuf : Space → Nat
  | .hbm => 13
  | .vmem => 9
  | .smem => 0
  | _ => 0

abbrev bufTy : (tb : Table) → Fin (tcTables nBuf tb) → BufTy
  | .hbm, ⟨0, _⟩ => ⟨S16x256x1024, .f32⟩
  | .hbm, ⟨1, _⟩ => ⟨S1x1024, .f32⟩
  | .hbm, ⟨2, _⟩ => ⟨S1x1024x512, .f32⟩
  | .hbm, ⟨3, _⟩ => ⟨S1x1024x512, .f32⟩
  | .hbm, ⟨4, _⟩ => ⟨S1024x512, .f32⟩
  | .hbm, ⟨5, _⟩ => ⟨S1024x512, .bf16⟩
  | .hbm, ⟨6, _⟩ => ⟨S1024x512, .f32⟩
  | .hbm, ⟨7, _⟩ => ⟨S1024x512, .bf16⟩
  | .hbm, ⟨8, _⟩ => ⟨S4096x1024, .f32⟩
  | .hbm, ⟨9, _⟩ => ⟨S1024, .f32⟩
  | .hbm, ⟨10, _⟩ => ⟨S1x1024, .f32⟩
  | .hbm, ⟨11, _⟩ => ⟨S4096x512, .f32⟩
  | .hbm, ⟨12, _⟩ => ⟨S4096x512, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x512, .bf16⟩
  | .local _ .vmem, ⟨4, _⟩ => ⟨S1024x512, .bf16⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | _, _ => ⟨S16x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7_0 : Ref sig .tc := ⟨.hbm, 11, rfl⟩
abbrev main_v7_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference4Ideal.lean ====
abbrev S16x256x1024 : Shape := ⟨3, ![16, 256, 1024]⟩
abbrev S1x1024 : Shape := ⟨2, ![1, 1024]⟩
abbrev S1x1024x512 : Shape := ⟨3, ![1, 1024, 512]⟩
abbrev S_ : Shape := ⟨0, ![]⟩
abbrev S16x256 : Shape := ⟨2, ![16, 256]⟩
abbrev S16x256x1 : Shape := ⟨3, ![16, 256, 1]⟩
abbrev S1024 : Shape := ⟨1, ![1024]⟩
abbrev S1x1x1024 : Shape := ⟨3, ![1, 1, 1024]⟩
abbrev S1024x512 : Shape := ⟨2, ![1024, 512]⟩
abbrev S16x256x512 : Shape := ⟨3, ![16, 256, 512]⟩
abbrev S4096x512 : Shape := ⟨2, ![4096, 512]⟩

abbrev nBuf : Space → Nat
  | .hbm => 27
  | .vmem => 0
  | .smem => 0
  | _ => 0

abbrev bufTy : (tb : Table) → Fin (tcTables nBuf tb) → BufTy
  | .hbm, ⟨0, _⟩ => ⟨S16x256x1024, .f32⟩
  | .hbm, ⟨1, _⟩ => ⟨S1x1024, .f32⟩
  | .hbm, ⟨2, _⟩ => ⟨S1x1024x512, .f32⟩
  | .hbm, ⟨3, _⟩ => ⟨S1x1024x512, .f32⟩
  | .hbm, ⟨4, _⟩ => ⟨S16x256x1024, .f32⟩
  | .hbm, ⟨5, _⟩ => ⟨S_, .f32⟩
  | .hbm, ⟨6, _⟩ => ⟨S16x256, .f32⟩
  | .hbm, ⟨7, _⟩ => ⟨S16x256x1, .f32⟩
  | .hbm, ⟨8, _⟩ => ⟨S_, .f32⟩
  | .hbm, ⟨9, _⟩ => ⟨S16x256x1, .f32⟩
  | .hbm, ⟨10, _⟩ => ⟨S16x256x1, .f32⟩
  | .hbm, ⟨11, _⟩ => ⟨S_, .f32⟩
  | .hbm, ⟨12, _⟩ => ⟨S16x256x1, .f32⟩
  | .hbm, ⟨13, _⟩ => ⟨S16x256x1, .f32⟩
  | .hbm, ⟨14, _⟩ => ⟨S16x256x1, .f32⟩
  | .hbm, ⟨15, _⟩ => ⟨S16x256x1024, .f32⟩
  | .hbm, ⟨16, _⟩ => ⟨S16x256x1024, .f32⟩
  | .hbm, ⟨17, _⟩ => ⟨S1024, .f32⟩
  | .hbm, ⟨18, _⟩ => ⟨S1x1x1024, .f32⟩
  | .hbm, ⟨19, _⟩ => ⟨S16x256x1024, .f32⟩
  | .hbm, ⟨20, _⟩ => ⟨S16x256x1024, .f32⟩
  | .hbm, ⟨21, _⟩ => ⟨S1024x512, .f32⟩
  | .hbm, ⟨22, _⟩ => ⟨S16x256x512, .f32⟩
  | .hbm, ⟨23, _⟩ => ⟨S4096x512, .f32⟩
  | .hbm, ⟨24, _⟩ => ⟨S1024x512, .f32⟩
  | .hbm, ⟨25, _⟩ => ⟨S16x256x512, .f32⟩
  | .hbm, ⟨26, _⟩ => ⟨S4096x512, .f32⟩
  | _, _ => ⟨S16x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== Kernel5.lean ====
abbrev S32x8x1024 : Shape := ⟨3, ![32, 8, 1024]⟩
abbrev S1x1024 : Shape := ⟨2, ![1, 1024]⟩
abbrev S1x1024x3072 : Shape := ⟨3, ![1, 1024, 3072]⟩
abbrev S1024x3072 : Shape := ⟨2, ![1024, 3072]⟩
abbrev S1024x512 : Shape := ⟨2, ![1024, 512]⟩
abbrev S1024x1536 : Shape := ⟨2, ![1024, 1536]⟩
abbrev S1024x2048 : Shape := ⟨2, ![1024, 2048]⟩
abbrev S1024x1024 : Shape := ⟨2, ![1024, 1024]⟩
abbrev S256x1024 : Shape := ⟨2, ![256, 1024]⟩
abbrev S1024 : Shape := ⟨1, ![1024]⟩
abbrev S256x512 : Shape := ⟨2, ![256, 512]⟩
abbrev S1x512x256 : Shape := ⟨3, ![1, 512, 256]⟩
abbrev S1x1x512x256 : Shape := ⟨4, ![1, 1, 512, 256]⟩
abbrev S256 : Shape := ⟨1, ![256]⟩
abbrev S256x1 : Shape := ⟨2, ![256, 1]⟩
abbrev S1024x256 : Shape := ⟨2, ![1024, 256]⟩
abbrev S512x256 : Shape := ⟨2, ![512, 256]⟩

abbrev nBuf : Space → Nat
  | .hbm => 20
  | .vmem => 11
  | .smem => 0
  | _ => 0

abbrev bufTy : (tb : Table) → Fin (tcTables nBuf tb) → BufTy
  | .hbm, ⟨0, _⟩ => ⟨S32x8x1024, .f32⟩
  | .hbm, ⟨1, _⟩ => ⟨S1x1024, .f32⟩
  | .hbm, ⟨2, _⟩ => ⟨S1x1024x3072, .f32⟩
  | .hbm, ⟨3, _⟩ => ⟨S1024x3072, .f32⟩
  | .hbm, ⟨4, _⟩ => ⟨S1024x3072, .bf16⟩
  | .hbm, ⟨5, _⟩ => ⟨S1024x512, .bf16⟩
  | .hbm, ⟨6, _⟩ => ⟨S1024x1536, .bf16⟩
  | .hbm, ⟨7, _⟩ => ⟨S1024x2048, .bf16⟩
  | .hbm, ⟨8, _⟩ => ⟨S1024x1024, .bf16⟩
  | .hbm, ⟨9, _⟩ => ⟨S1024x1024, .bf16⟩
  | .hbm, ⟨10, _⟩ => ⟨S256x1024, .f32⟩
  | .hbm, ⟨11, _⟩ => ⟨S1024, .f32⟩
  | .hbm, ⟨12, _⟩ => ⟨S1x1024, .f32⟩
  | .hbm, ⟨13, _⟩ => ⟨S256x512, .bf16⟩
  | .hbm, ⟨14, _⟩ => ⟨S1x512x256, .f32⟩
  | .hbm, ⟨15, _⟩ => ⟨S1x512x256, .f32⟩
  | .hbm, ⟨16, _⟩ => ⟨S1x1x512x256, .bf16⟩
  | .hbm, ⟨17, _⟩ => ⟨S1x1x512x256, .bf16⟩
  | .hbm, ⟨18, _⟩ => ⟨S256x512, .f32⟩
  | .hbm, ⟨19, _⟩ => ⟨S256x512, .f32⟩
  | .local _ .vmem, ⟨0, _⟩ => ⟨S256x1024, .f32⟩
  | .local _ .vmem, ⟨1, _⟩ => ⟨S1x1024, .f32⟩
  | .local _ .vmem, ⟨2, _⟩ => ⟨S1024x2048, .bf16⟩
  | .local _ .vmem, ⟨3, _⟩ => ⟨S1024x1024, .bf16⟩
  | .local _ .vmem, ⟨4, _⟩ => ⟨S256x512, .bf16⟩
  | .local _ .vmem, ⟨5, _⟩ => ⟨S1x512x256, .f32⟩
  | .local _ .vmem, ⟨6, _⟩ => ⟨S1x512x256, .f32⟩
  | .local _ .vmem, ⟨7, _⟩ => ⟨S1x1x512x256, .bf16⟩
  | .local _ .vmem, ⟨8, _⟩ => ⟨S1x1x512x256, .bf16⟩
  | .local _ .vmem, ⟨9, _⟩ => ⟨S256x512, .f32⟩
  | .local _ .vmem, ⟨10, _⟩ => ⟨S256x512, .f32⟩
  | _, _ => ⟨S32x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10_0 : Ref sig .tc := ⟨.hbm, 13, rfl⟩
abbrev main_v10_1 : Ref sig .tc := ⟨.hbm, 14, rfl⟩
abbrev main_v10_2 : Ref sig .tc := ⟨.hbm, 15, rfl⟩
abbrev main_v10_3 : Ref sig .tc := ⟨.hbm, 16, rfl⟩
abbrev main_v10_4 : Ref sig .tc := ⟨.hbm, 17, rfl⟩
abbrev main_v10_5 : Ref sig .tc := ⟨.hbm, 18, rfl⟩
abbrev main_v10_6 : Ref sig .tc := ⟨.hbm, 19, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_10 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S256x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x512x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x512x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x1x512x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]

abbrev stage0_8 : Fin 1 → Memref sig .tc .vmem S1x1x512x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, true]

abbrev stage0_9 : Fin 1 → Memref sig .tc .vmem S256x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true, true]

abbrev stage0_10 : Fin 1 → Memref sig .tc .vmem S256x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true, true]
-- ==== Reference5Ideal.lean ====
abbrev S32x8x1024 : Shape := ⟨3, ![32, 8, 1024]⟩
abbrev S1x1024 : Shape := ⟨2, ![1, 1024]⟩
abbrev S1x1024x3072 : Shape := ⟨3, ![1, 1024, 3072]⟩
abbrev S_ : Shape := ⟨0, ![]⟩
abbrev S32x8 : Shape := ⟨2, ![32, 8]⟩
abbrev S32x8x1 : Shape := ⟨3, ![32, 8, 1]⟩
abbrev S1024 : Shape := ⟨1, ![1024]⟩
abbrev S1x1x1024 : Shape := ⟨3, ![1, 1, 1024]⟩
abbrev S1024x3072 : Shape := ⟨2, ![1024, 3072]⟩
abbrev S32x8x3072 : Shape := ⟨3, ![32, 8, 3072]⟩
abbrev S32x8x512 : Shape := ⟨3, ![32, 8, 512]⟩
abbrev S256x512 : Shape := ⟨2, ![256, 512]⟩
abbrev S1x256x512 : Shape := ⟨3, ![1, 256, 512]⟩
abbrev S1x512x256 : Shape := ⟨3, ![1, 512, 256]⟩
abbrev S1x1x256x512 : Shape := ⟨4, ![1, 1, 256, 512]⟩
abbrev S1x1x512x256 : Shape := ⟨4, ![1, 1, 512, 256]⟩

abbrev nBuf : Space → Nat
  | .hbm => 46
  | .vmem => 0
  | .smem => 0
  | _ => 0

abbrev bufTy : (tb : Table) → Fin (tcTables nBuf tb) → BufTy
  | .hbm, ⟨0, _⟩ => ⟨S32x8x1024, .f32⟩
  | .hbm, ⟨1, _⟩ => ⟨S1x1024, .f32⟩
  | .hbm, ⟨2, _⟩ => ⟨S1x1024x3072, .f32⟩
  | .hbm, ⟨3, _⟩ => ⟨S32x8x1024, .f32⟩
  | .hbm, ⟨4, _⟩ => ⟨S_, .f32⟩
  | .hbm, ⟨5, _⟩ => ⟨S32x8, .f32⟩
  | .hbm, ⟨6, _⟩ => ⟨S32x8x1, .f32⟩
  | .hbm, ⟨7, _⟩ => ⟨S_, .f32⟩
  | .hbm, ⟨8, _⟩ => ⟨S32x8x1, .f32⟩
  | .hbm, ⟨9, _⟩ => ⟨S32x8x1, .f32⟩
  | .hbm, ⟨10, _⟩ => ⟨S_, .f32⟩
  | .hbm, ⟨11, _⟩ => ⟨S32x8x1, .f32⟩
  | .hbm, ⟨12, _⟩ => ⟨S32x8x1, .f32⟩
  | .hbm, ⟨13, _⟩ => ⟨S32x8x1, .f32⟩
  | .hbm, ⟨14, _⟩ => ⟨S32x8x1024, .f32⟩
  | .hbm, ⟨15, _⟩ => ⟨S32x8x1024, .f32⟩
  | .hbm, ⟨16, _⟩ => ⟨S1024, .f32⟩
  | .hbm, ⟨17, _⟩ => ⟨S1x1x1024, .f32⟩
  | .hbm, ⟨18, _⟩ => ⟨S32x8x1024, .f32⟩
  | .hbm, ⟨19, _⟩ => ⟨S32x8x1024, .f32⟩
  | .hbm, ⟨20, _⟩ => ⟨S1024x3072, .f32⟩
  | .hbm, ⟨21, _⟩ => ⟨S32x8x3072, .f32⟩
  | .hbm, ⟨22, _⟩ => ⟨S32x8x512, .f32⟩
  | .hbm, ⟨23, _⟩ => ⟨S32x8x512, .f32⟩
  | .hbm, ⟨24, _⟩ => ⟨S32x8x512, .f32⟩
  | .hbm, ⟨25, _⟩ => ⟨S32x8x512, .f32⟩
  | .hbm, ⟨26, _⟩ => ⟨S32x8x512, .f32⟩
  | .hbm, ⟨27, _⟩ => ⟨S32x8x512, .f32⟩
  | .hbm, ⟨28, _⟩ => ⟨S32x8x512, .f32⟩
  | .hbm, ⟨29, _⟩ => ⟨S_, .f32⟩
  | .hbm, ⟨30, _⟩ => ⟨S32x8x512, .f32⟩
  | .hbm, ⟨31, _⟩ => ⟨S32x8x512, .f32⟩
  | .hbm, ⟨32, _⟩ => ⟨S256x512, .f32⟩
  | .hbm, ⟨33, _⟩ => ⟨S256x512, .bf16⟩
  | .hbm, ⟨34, _⟩ => ⟨S1x256x512, .f32⟩
  | .hbm, ⟨35, _⟩ => ⟨S1x512x256, .f32⟩
  | .hbm, ⟨36, _⟩ => ⟨S1x256x512, .f32⟩
  | .hbm, ⟨37, _⟩ => ⟨S1x512x256, .f32⟩
  | .hbm, ⟨38, _⟩ => ⟨S1x1x256x512, .f32⟩
  | .hbm, ⟨39, _⟩ => ⟨S1x1x512x256, .f32⟩
  | .hbm, ⟨40, _⟩ => ⟨S1x1x512x256, .bf16⟩
  | .hbm, ⟨41, _⟩ => ⟨S1x1x256x512, .f32⟩
  | .hbm, ⟨42, _⟩ => ⟨S1x1x512x256, .f32⟩
  | .hbm, ⟨43, _⟩ => ⟨S1x1x512x256, .bf16⟩
  | .hbm, ⟨44, _⟩ => ⟨S256x512, .f32⟩
  | .hbm, ⟨45, _⟩ => ⟨S256x512, .f32⟩
  | _, _ => ⟨S32x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_2 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩

abbrev nD : Nat := 1
abbrev τ : Topo := Topo.v7x

variable {F : FTy → Type} [FloatOps F]
-- ==== Proof.Pre.lean ====
/- What the precondition says: the queries, the keys and the biases are real numbers. -/
module

public import proofs.«01_k».proof.Pre_finite_logits
public import proofs.«01_k».proof.Proof.Gen.Pre_finite_logits
public import Idealize.ShloMosaic.Lib.ReduceAll
public import Idealize.ShloMosaic.PureOps.Ideal.Laws
public import Idealize.ShloMosaic.Lib.Pointwise

@[expose] public section

set_option maxRecDepth 16384

noncomputable section

namespace Cert.Pre_finite_logits.Own

open Idealize.ShloMosaic Idealize.ShloMosaic.Pointwise Cert.Pre_finite_logits.Gen

instance : Subsingleton S_.Idx := ⟨fun a b => funext fun i => i.elim0⟩

theorem ninf_f32 : Ideal.ofBits .f32 0xFF800000#32 = ⊥ := by
  simp [Ideal.ofBits, Ideal.ieee]

theorem pinf_f32 : Ideal.ofBits .f32 0x7F800000#32 = ⊤ := by
  simp [Ideal.ofBits, Ideal.ieee]

/-- Two bits whose conjunction is set are both set. -/
theorem both {a b : BitVec 1} (h : IntOp.andi a b = 1#1) : a = 1#1 ∧ b = 1#1 := by
  revert a b; decide

/-- A comparison against both infinities leaves the real numbers. -/
theorem real_of_between {x : EReal}
    (h : IntOp.andi (Ideal.cmp .ogt x (Ideal.ofBits .f32 0xFF800000#32)) (Ideal.cmp .olt x (Ideal.ofBits .f32 0x7F800000#32)) = 1#1) :
    x = (x.toReal : EReal) := by
  rw [ninf_f32, pinf_f32] at h
  obtain ⟨h1, h2⟩ := both h
  refine (EReal.coe_toReal ?_ ?_).symm
  · rintro rfl
    simp [Ideal.cmp] at h2
  · rintro rfl
    simp [Ideal.cmp] at h1

/-- The precondition, read: every query, key and bias is a real number. -/
theorem reals (x0 : FVec Ideal S32768x512 .bf16) (x1 x2 : FVec Ideal S16x8x512x256 .bf16) (x3 : FVec Ideal S8 .f32)
    (h : fn (F := Ideal) x0 x1 x2 x3 = fun _ => 1#1) :
    (∀ y, x0 y = ((x0 y).toReal : EReal)) ∧ (∀ y, x1 y = ((x1 y).toReal : EReal)) ∧ ∀ y, x3 y = ((x3 y).toReal : EReal) := by
  have e := congrFun h (Shape.Idx.first h_S_)
  unfold fn fn_part1 at e
  obtain ⟨e01, e3⟩ := both e
  obtain ⟨e0, e1⟩ := both e01
  exact ⟨fun y => real_of_between (Host.reduce_andi_all _ _ _ _ _ e0 y), fun y => real_of_between (Host.reduce_andi_all _ _ _ _ _ e1 y),
    fun y => real_of_between (Host.reduce_andi_all _ _ _ _ _ e3 y)⟩

end Cert.Pre_finite_logits.Own

end
-- ==== Proof.Tile.lean ====
/- One tile of the kernel's attention: a pair of heads' 512 rows against a block of 256 keys, written once for all
   four pairs. The generated payloads of the four pairs, which the scheduling of the body cuts at different places, are
   all instances of these definitions. -/
module

public import proofs.«01_k».proof.Proof.Gen.KernelIdeal.Skeleton

@[expose] public section

noncomputable section

namespace Cert.KernelIdeal.Own

open Idealize.ShloMosaic Idealize.ShloMosaic.TcCoe Cert.KernelIdeal.Gen

variable {F : FTy → Type} [FloatOps F] [Named F]

theorem slices_pair (p : Fin 4) : S512x256.Slices ![128 * p.val, 0] S128x256 := by revert p; decide

/-- The pair's 128 lanes of a key (or value) block. -/
def pairOf (p : Fin 4) (kb : Vec F S1x1x512x256 .bf16) : FVec F S128x256 .bf16 :=
  extractStridedSlice S128x256 ![128 * p.val, 0] (shapeCast S512x256 kb shapeCasts_S1x1x512x256_S512x256) (slices_pair p)

/-- The logits: queries against keys, and the bias of the row's head. -/
def logits (p : Fin 4) (top : IVec S512x1 1) (q : Vec F S1x512x128 .bf16) (kb : Vec F S1x1x512x256 .bf16)
    (b0 b1 : Elt F .f32) : FVec F S512x256 .f32 :=
  addf (matmul dot_S512x128_S128x256_S512x256_1_0_0_1_n_n none
      (shapeCast S512x128 q shapeCasts_S1x512x128_S512x128) (pairOf p kb) (constant S512x256 .f32 0x00000000#32))
    (broadcastTo S512x256 (select top (broadcast S512x1 b0) (broadcast S512x1 b1)) broadcasts_S512x1_S512x256)

/-- The logarithms of the sigmoids. -/
def logB (z : FVec F S512x256 .f32) : FVec F S512x256 .f32 :=
  subf (minimumf z (broadcast S512x256 (Scalar.ofBits .f32 0x00000000#32)))
    (log (addf (broadcast S512x256 (Scalar.ofBits .f32 0x3F800000#32))
      (exp2 (mulf (absf z) (broadcast S512x256 (Named.named κ "neg_log2e" 0xBFB8AA3B#32))))))

/-- The logarithms of one minus the sigmoids. -/
def logR (z : FVec F S512x256 .f32) : FVec F S512x256 .f32 := subf (logB z) z

/-- The sums to the right of each key inside the block, as a product with a triangle of ones. -/
def suffixes (tri : FVec F S256x256 .bf16) (lo : FVec F S512x256 .f32) : FVec F S512x256 .f32 :=
  matmul dot_S512x256_S256x256_S512x256_1_0_0_1_n_n none (truncf .bf16 lo bitsLt_bf16_f32) tri
    (constant S512x256 .f32 0x00000000#32)

/-- A row's total over the block. -/
def total (lo : FVec F S512x256 .f32) : FVec F S512x1 .f32 :=
  shapeCast S512x1 (multiReduction .add [1] S512 lo 0x00000000#32 reduces_S512x256_S512 (.inl rfl) rfl)
    shapeCasts_S512_S512x1

/-- The weights of a block wholly to the left of the queries. -/
def weights (tri : FVec F S256x256 .bf16) (z : FVec F S512x256 .f32) (carry : FVec F S512x1 .f32) : FVec F S512x256 .f32 :=
  exp (addf (addf (logB z) (suffixes tri (logR z))) (broadcastTo S512x256 carry broadcasts_S512x1_S512x256))

/-- The weights' product with the values. -/
def mix (p : Fin 4) (a : FVec F S512x256 .f32) (vb : Vec F S1x1x512x256 .bf16) : FVec F S512x128 .f32 :=
  matmul dot_S512x256_S128x256_S512x128_1_1_0_0_n_n none (truncf .bf16 a bitsLt_bf16_f32) (pairOf p vb)
    (constant S512x128 .f32 0x00000000#32)

/-- What one trip stores to the pair's accumulator. -/
def newAcc (p : Fin 4) (top : IVec S512x1 1) (tri : FVec F S256x256 .bf16) (q : Vec F S1x512x128 .bf16)
    (kb vb : Vec F S1x1x512x256 .bf16) (b0 b1 : Elt F .f32) (carry : Vec F S1x512x1 .f32) (acc : Vec F S1x512x128 .f32) :
    FVec F S1x512x128 .f32 :=
  shapeCast S1x512x128
    (addf (shapeCast S512x128 acc shapeCasts_S1x512x128_S512x128)
      (mix p (weights tri (logits p top q kb b0 b1) (shapeCast S512x1 carry shapeCasts_S1x512x1_S512x1)) vb))
    shapeCasts_S512x128_S1x512x128

/-- What one trip stores to the pair's carry. -/
def newCarry (p : Fin 4) (top : IVec S512x1 1) (q : Vec F S1x512x128 .bf16) (kb : Vec F S1x1x512x256 .bf16)
    (b0 b1 : Elt F .f32) (carry : Vec F S1x512x1 .f32) : FVec F S1x512x1 .f32 :=
  shapeCast S1x512x1
    (addf (shapeCast S512x1 carry shapeCasts_S1x512x1_S512x1) (total (logR (logits p top q kb b0 b1))))
    shapeCasts_S512x1_S1x512x1

/-- The masked log-complements of the block on the diagonal. -/
def logRd (rd : IVec S512x256 1) (z : FVec F S512x256 .f32) : FVec F S512x256 .f32 :=
  select rd (logR z) (broadcast S512x256 (Scalar.ofBits .f32 0x00000000#32))

/-- The weights of the block on the diagonal. -/
def weightsD (rd : IVec S512x256 1) (tri : FVec F S256x256 .bf16) (z : FVec F S512x256 .f32) : FVec F S512x256 .f32 :=
  select rd (exp (addf (logB z) (suffixes tri (logRd rd z)))) (broadcast S512x256 (Scalar.ofBits .f32 0x00000000#32))

/-- What the block on the diagonal stores to the pair's accumulator. -/
def diagAcc (p : Fin 4) (top : IVec S512x1 1) (rd : IVec S512x256 1) (tri : FVec F S256x256 .bf16)
    (q : Vec F S1x512x128 .bf16) (kb vb : Vec F S1x1x512x256 .bf16) (b0 b1 : Elt F .f32) : FVec F S1x512x128 .f32 :=
  shapeCast S1x512x128 (mix p (weightsD rd tri (logits p top q kb b0 b1)) vb) shapeCasts_S512x128_S1x512x128

/-- What the block on the diagonal stores to the pair's carry. -/
def diagCarry (p : Fin 4) (top : IVec S512x1 1) (rd : IVec S512x256 1) (q : Vec F S1x512x128 .bf16)
    (kb : Vec F S1x1x512x256 .bf16) (b0 b1 : Elt F .f32) : FVec F S1x512x1 .f32 :=
  shapeCast S1x512x1 (total (logRd rd (logits p top q kb b0 b1))) shapeCasts_S512x1_S1x512x1

end Cert.KernelIdeal.Own

end
-- ==== Proof.Trip.lean ====
/- The pieces one trip of the loop over the earlier blocks stores, in the vocabulary of `Proof.Tile`: the four pairs'
   accumulators and carries, each a function of what the trip finds there. -/
module

public import proofs.«01_k».proof.Proof.Gen.KernelIdeal.Loops
public import proofs.«01_k».proof.Proof.Tile
import all proofs.«01_k».proof.Proof.Gen.KernelIdeal.Loops

@[expose] public section

set_option maxRecDepth 16384

noncomputable section

namespace Cert.KernelIdeal.Own

open Idealize.ShloMosaic Idealize.ShloMosaic.TcCoe Idealize.ShloMosaic.Tactic Cert.KernelIdeal.Gen
open Idealize.SL Idealize.SL.RA Idealize.SL.BI
open Idealize.SL.Sem

variable {F : FTy → Type} [FloatOps F] [Named F]

theorem inb_acc (p : Fin 4) : ∀ a, (![p.val, 0, 0] : Fin 3 → Nat) a + S1x512x128.size a ≤ S4x512x128.size a := by
  revert p; decide

theorem inb_carry (p : Fin 4) : ∀ a, (![p.val, 0, 0] : Fin 3 → Nat) a + S1x512x1.size a ≤ S4x512x1.size a := by
  revert p; decide

theorem inb_bias (p : Fin 4) (d : Fin 2) : ∀ a, (![2 * p.val + d.val] : Fin 1 → Nat) a + S1.size a ≤ S8.size a := by
  revert p d; decide

/-- The pair's part of a buffer of four. -/
abbrev rAcc (p : Fin 4) : Rect S4x512x128 := Rect.unit ![p.val, 0, 0] S1x512x128.size (inb_acc p)
abbrev rCarry (p : Fin 4) : Rect S4x512x1 := Rect.unit ![p.val, 0, 0] S1x512x1.size (inb_carry p)
abbrev rBias (p : Fin 4) (d : Fin 2) : Rect S8 := Rect.unit ![2 * p.val + d.val] S1.size (inb_bias p d)

/-- Four pieces, one for each pair. -/
abbrev four {s : Shape} {e : EltTy} (P : Fin 4 → View.Piece (Elt F) s e) : List (View.Piece (Elt F) s e) := [P 3, P 2, P 1, P 0]

variable (arg2 : Memref sig .tc .smem S8 .f32) (harg2 : arg2.IsWhole) (arg3 : Memref sig .tc .vmem S256x512 .bf16) (harg3 : arg3.IsWhole)
  (arg4 : Memref sig .tc .vmem S1x8x512x256 .bf16) (harg4 : arg4.IsWhole) (arg5 : Memref sig .tc .vmem S1x8x512x256 .bf16) (harg5 : arg5.IsWhole)
  (arg6 : Memref sig .tc .vmem S256x512 .f32) (harg6 : arg6.IsWhole) (arg7 : Memref sig .tc .vmem S4x512x128 .bf16) (harg7 : arg7.IsWhole)
  (arg8 : Memref sig .tc .vmem S4x512x128 .f32) (harg8 : arg8.IsWhole) (arg9 : Memref sig .tc .vmem S4x512x1 .f32) (harg9 : arg9.IsWhole)

set_option maxHeartbeats 1000000 in
/-- A trip's stores to the four carries. -/
theorem trip_carry (𝒱 : Variants) (c : Dev nD) (bd : Option 𝒱.V) (i : grid0.Coords)         (arg1 : BitVec 32) (v7 : IVec S512x1 1) (v13 : FVec F S256x256 .bf16) (c1_i32_100 : BitVec 32) (c0_i32_101 : BitVec 32) (c0_i32_102 : BitVec 32) (X_arg2 : BufTy.Contents (Elt F) arg2.view.ty) (X_arg4 : BufTy.Contents (Elt F) arg4.view.ty) (X_arg5 : BufTy.Contents (Elt F) arg5.view.ty) (X_arg7 : BufTy.Contents (Elt F) arg7.view.ty) (k : Fin (k0_t1_loop i).trips)
    (f8 : BufTy.Contents (Elt F) arg8.view.ty) (f9 : BufTy.Contents (Elt F) arg9.view.ty) (hb) :
    (trip_k0_t1 (F := F) 𝒱 c bd i arg2 harg2 arg3 harg3 arg4 harg4 arg5 harg5 arg6 harg6 arg7 harg7 arg8 harg8 arg9 harg9 arg1 v7 v13 c1_i32_100 c0_i32_101 c0_i32_102 X_arg2
  X_arg4 X_arg5 X_arg7 k).2.1 f8 f9
      = four fun p => ⟨rCarry p, newCarry p v7 (View.readAt (Elt F) arg7.view (rAcc p).toLoadRect X_arg7)
          (View.readAt (Elt F) arg4.view (Rect.unit (s := S1x8x512x256) (k0_off2 i k) S1x1x512x256.size hb).toLoadRect X_arg4)
          (View.readAt (Elt F) arg2.view (rBias p 0).toLoadRect X_arg2 (Shape.Idx.first (s := S1) (by decide)))
          (View.readAt (Elt F) arg2.view (rBias p 1).toLoadRect X_arg2 (Shape.Idx.first (s := S1) (by decide)))
          (View.readAt (Elt F) arg9.view (rCarry p).toLoadRect f9)⟩ := by
  unfold trip_k0_t1
  dsimp only
  sl_unfold_words
  rfl

set_option maxHeartbeats 1000000 in
/-- A trip's stores to the four accumulators. -/
theorem trip_acc (𝒱 : Variants) (c : Dev nD) (bd : Option 𝒱.V) (i : grid0.Coords)         (arg1 : BitVec 32) (v7 : IVec S512x1 1) (v13 : FVec F S256x256 .bf16) (c1_i32_100 : BitVec 32) (c0_i32_101 : BitVec 32) (c0_i32_102 : BitVec 32) (X_arg2 : BufTy.Contents (Elt F) arg2.view.ty) (X_arg4 : BufTy.Contents (Elt F) arg4.view.ty) (X_arg5 : BufTy.Contents (Elt F) arg5.view.ty) (X_arg7 : BufTy.Contents (Elt F) arg7.view.ty) (k : Fin (k0_t1_loop i).trips)
    (f8 : BufTy.Contents (Elt F) arg8.view.ty) (f9 : BufTy.Contents (Elt F) arg9.view.ty) (hb) :
    (trip_k0_t1 (F := F) 𝒱 c bd i arg2 harg2 arg3 harg3 arg4 harg4 arg5 harg5 arg6 harg6 arg7 harg7 arg8 harg8 arg9 harg9 arg1 v7 v13 c1_i32_100 c0_i32_101 c0_i32_102 X_arg2
  X_arg4 X_arg5 X_arg7 k).1 f8 f9
      = four fun p => ⟨rAcc p, newAcc p v7 v13 (View.readAt (Elt F) arg7.view (rAcc p).toLoadRect X_arg7)
          (View.readAt (Elt F) arg4.view (Rect.unit (s := S1x8x512x256) (k0_off2 i k) S1x1x512x256.size hb).toLoadRect X_arg4)
          (View.readAt (Elt F) arg5.view (Rect.unit (s := S1x8x512x256) (k0_off2 i k) S1x1x512x256.size hb).toLoadRect X_arg5)
          (View.readAt (Elt F) arg2.view (rBias p 0).toLoadRect X_arg2 (Shape.Idx.first (s := S1) (by decide)))
          (View.readAt (Elt F) arg2.view (rBias p 1).toLoadRect X_arg2 (Shape.Idx.first (s := S1) (by decide)))
          (View.readAt (Elt F) arg9.view (rCarry p).toLoadRect f9)
          (View.readAt (Elt F) arg8.view (rAcc p).toLoadRect f8)⟩ := by
  unfold trip_k0_t1
  dsimp only
  sl_unfold_words
  rfl

end Cert.KernelIdeal.Own

end
-- ==== Proof.Body.lean ====
/- What the whole body leaves, in the vocabulary of `Proof.Tile`: the four pieces of the output block, each cut out of the
   accumulator the loop leaves; the loop starts from what the block on the diagonal stored. -/
module

public import proofs.«01_k».proof.Proof.Gen.KernelIdeal.Frame
public import proofs.«01_k».proof.Proof.Trip
import all proofs.«01_k».proof.Proof.Gen.KernelIdeal.Frame.RunA
import all proofs.«01_k».proof.Proof.Gen.KernelIdeal.Loops

@[expose] public section

set_option maxRecDepth 16384

noncomputable section

namespace Cert.KernelIdeal.Own

open Idealize.ShloMosaic Idealize.ShloMosaic.TcCoe Idealize.ShloMosaic.Tactic Cert.KernelIdeal.Gen

variable {F : FTy → Type} [FloatOps F] [Named F]

theorem inb_cols (p : Fin 4) : ∀ a, (![0, 128 * p.val] : Fin 2 → Nat) a + S256x128.size a ≤ S256x512.size a := by
  revert p; decide

/-- The pair's columns of a block of 256 rows. -/
abbrev rCols (p : Fin 4) : Rect S256x512 := Rect.unit ![0, 128 * p.val] S256x128.size (inb_cols p)

/-- A pair's queries, once for each of its two heads, the other head's lanes at zero. -/
def queries (q : Vec F S256x128 .bf16) : FVec F S1x512x128 .bf16 :=
  shapeCast S1x512x128
    (concatenate S512x128 0
      [⟨S256x128, select k0_pay88 q (broadcast S256x128 (Scalar.ofBits .bf16 0x0000#16))⟩,
       ⟨S256x128, select k0_pay88 (broadcast S256x128 (Scalar.ofBits .bf16 0x0000#16)) q⟩]
      concatenates_S256x128_S256x128_S512x128_d0)
    shapeCasts_S512x128_S1x512x128

/-- A pair's columns of the output: each lane from the rows of its head. -/
def merged (acc : Vec F S1x512x128 .f32) : FVec F S256x128 .f32 :=
  select k0_pay88
    (extractStridedSlice S256x128 ![0, 0] (shapeCast S512x128 acc shapeCasts_S1x512x128_S512x128) slices_S512x128_o0_0_S256x128)
    (extractStridedSlice S256x128 ![256, 0] (shapeCast S512x128 acc shapeCasts_S1x512x128_S512x128) slices_S512x128_o256_0_S256x128)

variable (arg2 : Memref sig .tc .smem S8 .f32) (harg2 : arg2.IsWhole) (arg3 : Memref sig .tc .vmem S256x512 .bf16) (harg3 : arg3.IsWhole)
  (arg4 : Memref sig .tc .vmem S1x8x512x256 .bf16) (harg4 : arg4.IsWhole) (arg5 : Memref sig .tc .vmem S1x8x512x256 .bf16) (harg5 : arg5.IsWhole)
  (arg6 : Memref sig .tc .vmem S256x512 .f32) (harg6 : arg6.IsWhole) (arg7 : Memref sig .tc .vmem S4x512x128 .bf16) (harg7 : arg7.IsWhole)
  (arg8 : Memref sig .tc .vmem S4x512x128 .f32) (harg8 : arg8.IsWhole) (arg9 : Memref sig .tc .vmem S4x512x1 .f32) (harg9 : arg9.IsWhole)
  (x0 : Vec F S8 .f32) (x1 : Vec F S256x512 .bf16) (x2 : Vec F S1x8x512x256 .bf16) (x3 : Vec F S1x8x512x256 .bf16)

/-- What the body stores to the queries' buffer. -/
abbrev qmL : List (View.Piece (Elt F) S4x512x128 .bf16) :=
  four fun p => ⟨rAcc p, queries (View.readAt (Elt F) arg3.view (rCols p).toLoadRect (harg3.unread x1))⟩

/-- The pair's bias, of the head in the upper or lower rows. -/
abbrev biasAt (p : Fin 4) (d : Fin 2) : Elt F .f32 :=
  View.readAt (Elt F) arg2.view (rBias p d).toLoadRect (harg2.unread x0) (Shape.Idx.first (s := S1) (by decide))

/-- A block of keys or values. -/
abbrev blockAt {b : Memref sig .tc .vmem S1x8x512x256 .bf16} (hb : b.IsWhole) (x : Vec F S1x8x512x256 .bf16) (off : Fin 4 → ℕ)
    (inb : ∀ a, off a + S1x1x512x256.size a ≤ S1x8x512x256.size a) : Vec F S1x1x512x256 .bf16 :=
  View.readAt (Elt F) b.view (Rect.unit (s := S1x8x512x256) off S1x1x512x256.size inb).toLoadRect (hb.unread x)

/-- What the block on the diagonal stores to the accumulators. -/
abbrev accL (i : grid0.Coords) : List (View.Piece (Elt F) S4x512x128 .f32) :=
  four fun p => ⟨rAcc p, diagAcc p k0_pay86 k0_pay85 k0_pay87
    (arg7.view.readCov (qmL arg3 harg3 x1) (rAcc p).toLoadRect)
    (blockAt harg4 x2 (k0_off1 i) (k0_off1_inb i)) (blockAt harg5 x3 (k0_off1 i) (k0_off1_inb i))
    (biasAt arg2 harg2 x0 p 0) (biasAt arg2 harg2 x0 p 1)⟩

/-- What the block on the diagonal stores to the carries. -/
abbrev carryL (i : grid0.Coords) : List (View.Piece (Elt F) S4x512x1 .f32) :=
  four fun p => ⟨rCarry p, diagCarry p k0_pay86 k0_pay85
    (arg7.view.readCov (qmL arg3 harg3 x1) (rAcc p).toLoadRect)
    (blockAt harg4 x2 (k0_off1 i) (k0_off1_inb i))
    (biasAt arg2 harg2 x0 p 0) (biasAt arg2 harg2 x0 p 1)⟩

set_option maxHeartbeats 1000000 in
/-- The pieces the body leaves in the output block. -/
theorem body_pieces (c : Dev nD) (i : grid0.Coords) :
    ∃ (u1 u2 u3 : BitVec 32) (b1 : BitVec 32) (w1 w2 w3 : BitVec 32) (b2 : BitVec 32) (v7 : IVec S512x1 1) (v13 : FVec F S256x256 .bf16), ∃ X2 X4 X5 X7 G8 G9,
    (kernelRun0_A c i arg2 harg2 arg3 harg3 arg4 harg4 arg5 harg5 arg6 harg6 arg7 harg7 arg8 harg8 arg9 harg9 x0 x1 x2 x3).1
      = four fun p => ⟨rCols p, merged (arg8.view.readCov
          ((pb_k0_t2 .none c none i arg2 harg2 arg3 harg3 arg4 harg4 arg5 harg5 arg6 harg6 arg7 harg7 arg8 harg8 arg9 harg9 b2 v7 v13
              w1 w2 w3 X2 X4 X5 X7 G8 G9 (k0_t2_loop i).trips).1
            ++ ((pb_k0_t1 .none c none i arg2 harg2 arg3 harg3 arg4 harg4 arg5 harg5 arg6 harg6 arg7 harg7 arg8 harg8 arg9 harg9 b1
                k0_pay86 k0_pay87 u1 u2 u3 (harg2.unread x0) (harg4.unread x2) (harg5.unread x3)
                (arg7.view.writes (Elt F) arg7.view.junk (qmL arg3 harg3 x1))
                (arg8.view.writes (Elt F) arg8.view.junk (accL arg2 harg2 arg3 harg3 arg4 harg4 arg5 harg5 arg7 x0 x1 x2 x3 i))
                (arg9.view.writes (Elt F) arg9.view.junk (carryL arg2 harg2 arg3 harg3 arg4 harg4 arg7 x0 x1 x2 i))
                (k0_t1_loop i).trips).1
              ++ accL arg2 harg2 arg3 harg3 arg4 harg4 arg5 harg5 arg7 x0 x1 x2 x3 i))
          (rAcc p).toLoadRect)⟩ := by
  unfold kernelRun0_A
  dsimp only
  sl_unfold_words
  exact ⟨_, _, _, _, _, _, _, _, _, _, _, _, _, _, _, _, rfl⟩

end Cert.KernelIdeal.Own

end
-- ==== Proof.Stick.lean ====
/- The real mathematics of stick-breaking attention: the two log-sigmoids of a logit, as the kernel and the
   reference write them over the extended reals, and the sum of the log-complements to the right of a key taken
   block by block. No program is named here. -/
module

public import Idealize.ShloMosaic.PureOps.Ideal
public import Idealize.ShloMosaic.PureOps.Ideal.Laws
public import Mathlib.Analysis.SpecialFunctions.Pow.Real
public import Mathlib.Algebra.BigOperators.Intervals

@[expose] public section

noncomputable section

namespace Cert.Stick

open Idealize.ShloMosaic

/-- The logarithm of the sigmoid of `z`. -/
def logBeta (z : ℝ) : ℝ := min z 0 - Real.log (1 + Real.exp (-|z|))

/-- The logarithm of one minus the sigmoid of `z`, as the kernel forms it. -/
def logRest (z : ℝ) : ℝ := logBeta z - z

/-- It is the logarithm of the sigmoid of `-z`, which is how the reference writes it. -/
theorem logBeta_neg (z : ℝ) : logBeta (-z) = logRest z := by
  unfold logRest logBeta
  rw [abs_neg]
  rcases le_total z 0 with h | h
  · rw [min_eq_right (by linarith), min_eq_left h]; ring
  · rw [min_eq_left (by linarith), min_eq_right h]; ring

theorem coe_max (a b : ℝ) : max (a : EReal) (b : EReal) = ((max a b : ℝ) : EReal) :=
  (EReal.coe_strictMono.monotone.map_max).symm

theorem coe_min (a b : ℝ) : min (a : EReal) (b : EReal) = ((min a b : ℝ) : EReal) :=
  (EReal.coe_strictMono.monotone.map_min).symm

theorem coe_abs (a : ℝ) : max (a : EReal) (-(a : EReal)) = ((|a| : ℝ) : EReal) := by
  rw [← EReal.coe_neg, coe_max]; rfl

theorem exp_coe (x : ℝ) : Ideal.exp (x : EReal) = ((Real.exp x : ℝ) : EReal) := rfl

theorem log_coe_pos {x : ℝ} (h : 0 < x) : Ideal.log (x : EReal) = ((Real.log x : ℝ) : EReal) := by
  show (if x ≤ 0 then (⊥ : EReal) else (Real.log x : EReal)) = _
  rw [if_neg (not_le.mpr h)]

theorem one_add_exp_pos (x : ℝ) : 0 < 1 + Real.exp x := by positivity

/-- The kernel's base-two exponential of a multiple of the reciprocal logarithm is the natural exponential. -/
theorem exp2_scaled (x : ℝ) :
    Ideal.exp2 ((x : EReal) * ((-((Real.log 2)⁻¹) : ℝ) : EReal)) = ((Real.exp (-x) : ℝ) : EReal) := by
  rw [← EReal.coe_mul]
  show ((Real.rpow 2 (x * -((Real.log 2)⁻¹)) : ℝ) : EReal) = _
  congr 1
  have h2 : Real.log 2 ≠ 0 := (Real.log_pos (by norm_num)).ne'
  show (2 : ℝ) ^ (x * -((Real.log 2)⁻¹)) = _
  rw [Real.rpow_def_of_pos (by norm_num)]
  congr 1
  field_simp

/-- The kernel's log-sigmoid of a real logit. -/
theorem kernel_logBeta (z : ℝ) :
    min (z : EReal) 0 - Ideal.log (1 + Ideal.exp2 (max (z : EReal) (-(z : EReal)) * ((-((Real.log 2)⁻¹) : ℝ) : EReal)))
      = ((logBeta z : ℝ) : EReal) := by
  rw [coe_abs, exp2_scaled, ← EReal.coe_one, ← EReal.coe_add, log_coe_pos (one_add_exp_pos _), ← EReal.coe_zero,
    coe_min, ← EReal.coe_sub]
  rfl

/-- The reference's log-sigmoid of an extended real: minus the soft plus of minus its argument, with the guard
    against an undefined difference. -/
def refLogSigmoid (x : EReal) : EReal :=
  -(Scalar.select (Ideal.cmp .une (-x - 0) (-x - 0)) (-x + 0)
    (max (-x) 0 + Ideal.log1p (Ideal.exp (-(max (-x - 0) (-(-x - 0)))))))

theorem refLogSigmoid_coe (z : ℝ) : refLogSigmoid (z : EReal) = ((logBeta z : ℝ) : EReal) := by
  have hc : Ideal.cmp .une (-(z : EReal) - 0) (-(z : EReal) - 0) = 0#1 := by
    simp [Ideal.cmp]
  unfold refLogSigmoid
  rw [hc]
  show -(max (-(z : EReal)) 0 + Ideal.log1p (Ideal.exp (-(max (-(z : EReal) - 0) (-(-(z : EReal) - 0)))))) = _
  rw [sub_zero, ← EReal.coe_neg, coe_abs, ← EReal.coe_neg, exp_coe, Ideal.log1p, ← EReal.coe_one, ← EReal.coe_add,
    log_coe_pos (one_add_exp_pos _), ← EReal.coe_zero, coe_max, ← EReal.coe_add, ← EReal.coe_neg, abs_neg]
  congr 1
  unfold logBeta
  rcases le_total z 0 with h | h
  · rw [min_eq_left h, max_eq_left (by linarith)]; ring
  · rw [min_eq_right h, max_eq_right (by linarith)]; ring

theorem refLogSigmoid_neg (z : ℝ) : refLogSigmoid (-(z : EReal)) = ((logRest z : ℝ) : EReal) := by
  rw [← EReal.coe_neg, refLogSigmoid_coe, logBeta_neg]

/-- A sum of reals, taken in the extended reals. -/
theorem coe_sum {ι : Type*} (s : Finset ι) (f : ι → ℝ) : ∑ i ∈ s, ((f i : ℝ) : EReal) = ((∑ i ∈ s, f i : ℝ) : EReal) :=
  (map_sum (⟨⟨Real.toEReal, EReal.coe_zero⟩, EReal.coe_add⟩ : ℝ →+ EReal) f s).symm

/-- A block's columns are the keys of an interval. -/
theorem sum_block {M : Type*} [AddCommMonoid M] (w j : ℕ) (f : ℕ → M) :
    ∑ c : Fin w, f (j * w + c.val) = ∑ k ∈ Finset.Ico (j * w) ((j + 1) * w), f k := by
  rw [Finset.sum_Ico_eq_sum_range, Fin.sum_univ_eq_sum_range (fun c => f (j * w + c))]
  congr 2
  rw [Nat.add_mul, Nat.one_mul, Nat.add_sub_cancel_left]

/-- The columns of a block to the right of column `c` are the keys of an interval. -/
theorem sum_block_after {M : Type*} [AddCommMonoid M] (w j : ℕ) (c : Fin w) (f : ℕ → M) :
    ∑ c' : Fin w, (if c.val < c'.val then f (j * w + c'.val) else 0)
      = ∑ k ∈ Finset.Ico (j * w + c.val + 1) ((j + 1) * w), f k := by
  have h := sum_block w j (fun k => if j * w + c.val < k then f k else 0)
  have e : ∀ c' : Fin w, (if j * w + c.val < j * w + c'.val then f (j * w + c'.val) else 0)
      = if c.val < c'.val then f (j * w + c'.val) else 0 := fun c' => by
    simp only [Nat.add_lt_add_iff_left]
  rw [Finset.sum_congr rfl (fun c' _ => e c')] at h
  rw [h, ← Finset.sum_filter]
  congr 1
  ext k
  simp only [Finset.mem_filter, Finset.mem_Ico]
  omega

end Cert.Stick

end
-- ==== Proof.TileRead.lean ====
/- The tile's definitions read at an index over the extended reals. -/
module

public import proofs.«01_k».proof.Proof.Tile
public import proofs.«01_k».proof.Proof.Stick
public import Idealize.ShloMosaic.Lib.Pointwise
public import Idealize.ShloMosaic.PureOps.IdealRules

@[expose] public section

noncomputable section

namespace Cert.KernelIdeal.Own

open Idealize.ShloMosaic Idealize.ShloMosaic.TcCoe Cert.KernelIdeal.Gen Cert.Stick
open Idealize.ShloMosaic.Pointwise

theorem named_scale : Named.named (F := Ideal) (φ := .f32) κ "neg_log2e" 0xBFB8AA3B#32 = ((-((Real.log 2)⁻¹) : ℝ) : EReal) :=
  IdealRules.named_const.ideal_named_scalar _ _ _ _ rfl

theorem one_f32 : Ideal.ofBits .f32 0x3F800000#32 = 1 := by
  simp [Ideal.ofBits, Ideal.ieee]
  rw [← EReal.coe_mul]
  norm_num

theorem pairOf_apply (p : Fin 4) (kb : Vec Ideal S1x1x512x256 .bf16) (l : Fin 128) (c : Fin 256) :
    pairOf p kb (ix2 l c) = kb (ix4 (0 : Fin 1) (0 : Fin 1) (⟨128 * p.val + l.val, by omega⟩ : Fin 512) c) := by
  pointwise [pairOf]

theorem logits_apply (p : Fin 4) (top : IVec S512x1 1) (q : Vec Ideal S1x512x128 .bf16) (kb : Vec Ideal S1x1x512x256 .bf16)
    (b0 b1 : Elt Ideal .f32) (r : Fin 512) (c : Fin 256) :
    logits p top q kb b0 b1 (ix2 r c) = (∑ l : Fin 128, q (ix3 (0 : Fin 1) r l) * kb (ix4 (0 : Fin 1) (0 : Fin 1) (⟨128 * p.val + l.val, by omega⟩ : Fin 512) c))
      + Scalar.select (top (ix2 r (0 : Fin 1))) b0 b1 := by
  pointwise [logits]
  simp only [pairOf_apply]

theorem logB_apply (z : FVec Ideal S512x256 .f32) (r : Fin 512) (c : Fin 256) (x : ℝ) (h : z (ix2 r c) = (x : EReal)) :
    logB z (ix2 r c) = ((logBeta x : ℝ) : EReal) := by
  pointwise [logB]
  rw [h, ← kernel_logBeta, named_scale]
  rfl

theorem suffixes_apply (tri : FVec Ideal S256x256 .bf16) (lo : FVec Ideal S512x256 .f32) (r : Fin 512) (c : Fin 256) :
    suffixes tri lo (ix2 r c) = ∑ k : Fin 256, lo (ix2 r k) * tri (ix2 k c) := by
  pointwise [suffixes]

theorem total_apply (lo : FVec Ideal S512x256 .f32) (r : Fin 512) :
    total lo (ix2 r (0 : Fin 1)) = ∑ k : Fin 256, lo (ix2 r k) := by
  pointwise [total]

theorem mix_apply (p : Fin 4) (a : FVec Ideal S512x256 .f32) (vb : Vec Ideal S1x1x512x256 .bf16) (r : Fin 512) (l : Fin 128) :
    mix p a vb (ix2 r l) = ∑ c : Fin 256, a (ix2 r c) * vb (ix4 (0 : Fin 1) (0 : Fin 1) (⟨128 * p.val + l.val, by omega⟩ : Fin 512) c) := by
  pointwise [mix]
  simp only [pairOf_apply]

/-- A comparison of two small numbers as words. -/
theorem slt_ofNat (a b : ℕ) (ha : a < 2 ^ 31) (hb : b < 2 ^ 31) :
    IntOp.cmpi .slt (BitVec.ofNat 32 a) (BitVec.ofNat 32 b) = if a < b then 1#1 else 0#1 := by
  have e : ∀ n : ℕ, n < 2 ^ 31 → (BitVec.ofNat 32 n).toInt = n := fun n hn => by
    rw [BitVec.toInt_eq_toNat_of_lt] <;> simp only [BitVec.toNat_ofNat] <;> omega
  unfold IntOp.cmpi
  simp only [BitVec.slt, e a ha, e b hb, Nat.cast_lt]
  by_cases h : a < b <;> simp [h]

theorem sgt_ofNat (a b : ℕ) (ha : a < 2 ^ 31) (hb : b < 2 ^ 31) :
    IntOp.cmpi .sgt (BitVec.ofNat 32 a) (BitVec.ofNat 32 b) = if b < a then 1#1 else 0#1 :=
  slt_ofNat b a hb ha

theorem tri_apply (r c : Fin 256) : k0_pay87 (F := Ideal) (ix2 r c) = if c.val < r.val then (1 : EReal) else 0 := by
  pointwise [k0_pay87]
  rw [sgt_ofNat _ _ (by omega) (by omega)]
  split
  · show (((BitVec.setWidth 32 1#1).toInt : ℝ) : EReal) = 1
    norm_num
  · show (((BitVec.setWidth 32 0#1).toInt : ℝ) : EReal) = 0
    norm_num

theorem top_apply (r : Fin 512) : k0_pay86 (ix2 r (0 : Fin 1)) = if r.val < 256 then 1#1 else 0#1 := by
  pointwise [k0_pay86]
  exact slt_ofNat _ _ (by omega) (by omega)

theorem left_apply (r : Fin 256) (l : Fin 128) : k0_pay88 (ix2 r l) = if l.val < 64 then 1#1 else 0#1 := by
  pointwise [k0_pay88]
  exact slt_ofNat _ _ (by omega) (by omega)

theorem readable_apply (r : Fin 512) (c : Fin 256) :
    k0_pay85 (ix2 r c) = if c.val < r.val % 256 then 1#1 else 0#1 := by
  pointwise [k0_pay85]
  have e : BitVec.ofNat 32 r.val &&& 255#32 = BitVec.ofNat 32 (r.val % 256) := by
    revert r; decide
  rw [show IntOp.andi (BitVec.ofNat 32 r.val) 255#32 = BitVec.ofNat 32 (r.val % 256) from e]
  exact slt_ofNat _ _ (by omega) (by omega)

/-- The sum of a row to the right of a key. -/
theorem suffixes_tri (lo : FVec Ideal S512x256 .f32) (r : Fin 512) (x : Fin 256 → ℝ) (h : ∀ c, lo (ix2 r c) = (x c : EReal))
    (c : Fin 256) :
    suffixes k0_pay87 lo (ix2 r c) = ((∑ k : Fin 256, (if c.val < k.val then x k else 0) : ℝ) : EReal) := by
  rw [suffixes_apply, ← coe_sum]
  refine Finset.sum_congr rfl fun k _ => ?_
  rw [h, tri_apply]
  split
  · rw [mul_one]
  · rw [mul_zero, EReal.coe_zero]

theorem total_coe (lo : FVec Ideal S512x256 .f32) (r : Fin 512) (x : Fin 256 → ℝ) (h : ∀ c, lo (ix2 r c) = (x c : EReal)) :
    total lo (ix2 r (0 : Fin 1)) = ((∑ k : Fin 256, x k : ℝ) : EReal) := by
  rw [total_apply, ← coe_sum]
  exact Finset.sum_congr rfl fun k _ => h k

theorem logR_apply (z : FVec Ideal S512x256 .f32) (r : Fin 512) (c : Fin 256) (x : ℝ) (h : z (ix2 r c) = (x : EReal)) :
    logR z (ix2 r c) = ((logRest x : ℝ) : EReal) := by
  show logB z (ix2 r c) - z (ix2 r c) = _
  rw [logB_apply z r c x h, h, ← EReal.coe_sub]
  rfl

/-- The weights of a block left of the queries. -/
theorem weights_apply (z : FVec Ideal S512x256 .f32) (carry : FVec Ideal S512x1 .f32) (r : Fin 512) (x : Fin 256 → ℝ) (y : ℝ)
    (h : ∀ c, z (ix2 r c) = (x c : EReal)) (hy : carry (ix2 r (0 : Fin 1)) = (y : EReal)) (c : Fin 256) :
    weights k0_pay87 z carry (ix2 r c)
      = ((Real.exp (logBeta (x c) + ∑ k : Fin 256, (if c.val < k.val then logRest (x k) else 0) + y) : ℝ) : EReal) := by
  pointwise [weights]
  rw [logB_apply z r c _ (h c), suffixes_tri (logR z) r _ (fun k => logR_apply z r k _ (h k)), hy, ← EReal.coe_add,
    ← EReal.coe_add]
  rfl

theorem logRd_apply (z : FVec Ideal S512x256 .f32) (r : Fin 512) (c : Fin 256) (x : ℝ) (h : z (ix2 r c) = (x : EReal)) :
    logRd k0_pay85 z (ix2 r c) = ((if c.val < r.val % 256 then logRest x else 0 : ℝ) : EReal) := by
  pointwise [logRd]
  rw [readable_apply, logR_apply z r c x h]
  split
  · rfl
  · exact EReal.coe_zero.symm

/-- The weights of the block on the diagonal. -/
theorem weightsD_apply (z : FVec Ideal S512x256 .f32) (r : Fin 512) (x : Fin 256 → ℝ)
    (h : ∀ c, z (ix2 r c) = (x c : EReal)) (c : Fin 256) :
    weightsD k0_pay85 k0_pay87 z (ix2 r c)
      = ((if c.val < r.val % 256 then Real.exp (logBeta (x c)
          + ∑ k : Fin 256, (if c.val < k.val then (if k.val < r.val % 256 then logRest (x k) else 0) else 0)) else 0 : ℝ) : EReal) := by
  pointwise [weightsD]
  rw [readable_apply, logB_apply z r c _ (h c), suffixes_tri (logRd k0_pay85 z) r _ (fun k => logRd_apply z r k _ (h k)),
    ← EReal.coe_add]
  split
  · rfl
  · exact EReal.coe_zero.symm

end Cert.KernelIdeal.Own

end
-- ==== Proof.Rows.lean ====
/- A tile's stores as sums over intervals of keys: what one row of the accumulator and of the carry holds after the block
   on the diagonal and after each earlier block. -/
module

public import proofs.«01_k».proof.Proof.TileRead

@[expose] public section

noncomputable section

namespace Cert.Stick

/-- A key's log-complement, for a query at position `n`: keys from the query on are masked. -/
def lo (Z : ℕ → ℝ) (n k : ℕ) : ℝ := if k < n then logRest (Z k) else 0

/-- A key's weight for a query at position `n`, the keys ending at `E`. -/
def wt (Z : ℕ → ℝ) (n E k : ℕ) : ℝ :=
  if k < n then Real.exp (logBeta (Z k) + ∑ k' ∈ Finset.Ico (k + 1) E, lo Z n k') else 0

end Cert.Stick

namespace Cert.KernelIdeal.Own

open Idealize.ShloMosaic Idealize.ShloMosaic.TcCoe Cert.KernelIdeal.Gen Cert.Stick
open Idealize.ShloMosaic.Pointwise

variable (p : Fin 4) (q : Vec Ideal S1x512x128 .bf16) (kb vb : Vec Ideal S1x1x512x256 .bf16) (b0 b1 : Elt Ideal .f32)
  (r : Fin 512) (l : Fin 128) (i j : ℕ) (Z : ℕ → ℝ) (V : ℕ → EReal)

theorem diag_lo (c : Fin 256) :
    (if c.val < r.val % 256 then logRest (Z (i * 256 + c.val)) else 0) = lo Z (i * 256 + r.val % 256) (i * 256 + c.val) := by
  simp only [lo, Nat.add_lt_add_iff_left]

theorem diagCarry_row (hz : ∀ c, logits p k0_pay86 q kb b0 b1 (ix2 r c) = ((Z (i * 256 + c.val) : ℝ) : EReal)) :
    diagCarry p k0_pay86 k0_pay85 q kb b0 b1 (ix3 (0 : Fin 1) r (0 : Fin 1))
      = ((∑ k ∈ Finset.Ico (i * 256) ((i + 1) * 256), lo Z (i * 256 + r.val % 256) k : ℝ) : EReal) := by
  pointwise [diagCarry]
  rw [total_coe _ r _ fun c => logRd_apply _ r c _ (hz c)]
  simp only [diag_lo, sum_block 256 i (lo Z (i * 256 + r.val % 256))]

theorem diagAcc_row (hz : ∀ c, logits p k0_pay86 q kb b0 b1 (ix2 r c) = ((Z (i * 256 + c.val) : ℝ) : EReal))
    (hv : ∀ c, vb (ix4 (0 : Fin 1) (0 : Fin 1) (⟨128 * p.val + l.val, by omega⟩ : Fin 512) c) = V (i * 256 + c.val)) :
    diagAcc p k0_pay86 k0_pay85 k0_pay87 q kb vb b0 b1 (ix3 (0 : Fin 1) r l)
      = ∑ k ∈ Finset.Ico (i * 256) ((i + 1) * 256), ((wt Z (i * 256 + r.val % 256) ((i + 1) * 256) k : ℝ) : EReal) * V k := by
  pointwise [diagAcc]
  rw [mix_apply, ← sum_block 256 i (fun k => ((wt Z (i * 256 + r.val % 256) ((i + 1) * 256) k : ℝ) : EReal) * V k)]
  refine Finset.sum_congr rfl fun c _ => ?_
  rw [hv, weightsD_apply _ r _ hz]
  simp only [diag_lo, sum_block_after 256 i c (lo Z (i * 256 + r.val % 256)), wt, Nat.add_lt_add_iff_left]

/-- The keys of an earlier block are not masked. -/
theorem lo_before {n k : ℕ} (h : k < n) : lo Z n k = logRest (Z k) := if_pos h

theorem block_lt {n : ℕ} (hj : j < i) (hn : i * 256 ≤ n) (c : Fin 256) : j * 256 + c.val < n := by omega

theorem newCarry_row (n E : ℕ) (hj : j < i) (hn : i * 256 ≤ n) (hE : i * 256 ≤ E) (carry : Vec Ideal S1x512x1 .f32)
    (hz : ∀ c, logits p k0_pay86 q kb b0 b1 (ix2 r c) = ((Z (j * 256 + c.val) : ℝ) : EReal))
    (hc : carry (ix3 (0 : Fin 1) r (0 : Fin 1)) = ((∑ k ∈ Finset.Ico ((j + 1) * 256) E, lo Z n k : ℝ) : EReal)) :
    newCarry p k0_pay86 q kb b0 b1 carry (ix3 (0 : Fin 1) r (0 : Fin 1))
      = ((∑ k ∈ Finset.Ico (j * 256) E, lo Z n k : ℝ) : EReal) := by
  pointwise [newCarry]
  rw [hc, total_coe _ r _ fun c => logR_apply _ r c _ (hz c), ← EReal.coe_add]
  congr 1
  rw [← Finset.sum_Ico_consecutive (lo Z n) (by omega : j * 256 ≤ (j + 1) * 256) (by omega), ← sum_block 256 j (lo Z n), add_comm]
  congr 1
  exact Finset.sum_congr rfl fun c _ => (lo_before Z (block_lt i j hj hn c)).symm

theorem newAcc_row (n E : ℕ) (hj : j < i) (hn : i * 256 ≤ n) (hE : i * 256 ≤ E) (carry : Vec Ideal S1x512x1 .f32)
    (acc : Vec Ideal S1x512x128 .f32)
    (hz : ∀ c, logits p k0_pay86 q kb b0 b1 (ix2 r c) = ((Z (j * 256 + c.val) : ℝ) : EReal))
    (hv : ∀ c, vb (ix4 (0 : Fin 1) (0 : Fin 1) (⟨128 * p.val + l.val, by omega⟩ : Fin 512) c) = V (j * 256 + c.val))
    (hc : carry (ix3 (0 : Fin 1) r (0 : Fin 1)) = ((∑ k ∈ Finset.Ico ((j + 1) * 256) E, lo Z n k : ℝ) : EReal))
    (ha : acc (ix3 (0 : Fin 1) r l) = ∑ k ∈ Finset.Ico ((j + 1) * 256) E, ((wt Z n E k : ℝ) : EReal) * V k) :
    newAcc p k0_pay86 k0_pay87 q kb vb b0 b1 carry acc (ix3 (0 : Fin 1) r l)
      = ∑ k ∈ Finset.Ico (j * 256) E, ((wt Z n E k : ℝ) : EReal) * V k := by
  have hcy : shapeCast S512x1 carry shapeCasts_S1x512x1_S512x1 (ix2 r (0 : Fin 1))
      = ((∑ k ∈ Finset.Ico ((j + 1) * 256) E, lo Z n k : ℝ) : EReal) := by
    rw [← hc]; pointwise []
  pointwise [newAcc]
  rw [ha, mix_apply,
    ← Finset.sum_Ico_consecutive (fun k => ((wt Z n E k : ℝ) : EReal) * V k) (by omega : j * 256 ≤ (j + 1) * 256) (by omega),
    ← sum_block 256 j (fun k => ((wt Z n E k : ℝ) : EReal) * V k), add_comm]
  congr 1
  refine Finset.sum_congr rfl fun c _ => ?_
  rw [hv, weights_apply _ _ r _ _ hz hcy]
  have e : ∀ k : Fin 256, logRest (Z (j * 256 + k.val)) = lo Z n (j * 256 + k.val) := fun k =>
    (lo_before Z (block_lt i j hj hn k)).symm
  simp only [e, sum_block_after 256 j c (lo Z n)]
  rw [wt, if_pos (block_lt i j hj hn c), add_assoc, Finset.sum_Ico_consecutive (lo Z n) (by omega) (by omega)]

end Cert.KernelIdeal.Own

end
-- ==== Proof.Loop.lean ====
/- The loop over the earlier blocks, run: after each trip the accumulators and carries hold the sums over the keys from
   the block just read to the block on the diagonal. -/
module

public import proofs.«01_k».proof.Proof.Trip
public import proofs.«01_k».proof.Proof.Rows
public import Idealize.ShloMosaic.Lib.WritesUnit

@[expose] public section

set_option maxRecDepth 16384

noncomputable section

namespace Cert.KernelIdeal.Own

open Idealize.ShloMosaic Idealize.ShloMosaic.TcCoe Idealize.ShloMosaic.Tactic Cert.KernelIdeal.Gen Cert.Stick
open Idealize.ShloMosaic.Pointwise

/-! ## The loops' bounds and the blocks they read -/

/-- The loop makes as many trips as there are earlier blocks. -/
theorem trips_before (i : grid0.Coords) : (k0_t1_loop i).trips = (i 1).val := by
  have key : ∀ n : Fin 8, (Scf.Loop.trips (⟨0#32, Scalar.addi 0#32 (Scalar.muli (Scalar.divsi (Scalar.subi (Scalar.divsi
      (Scalar.addi (Scalar.subi (BitVec.ofNat 32 n.val) 0#32) (Scalar.subi 1#32 1#32)) 1#32) 0#32) 1#32) 1#32), 1#32⟩ : Scf.Loop 32))
      = n.val := by decide
  exact key (i 1)

/-- There is no remainder loop. -/
theorem trips_rest (i : grid0.Coords) : (k0_t2_loop i).trips = 0 := by
  have key : ∀ n : Fin 8, (Scf.Loop.trips (⟨Scalar.addi 0#32 (Scalar.muli (Scalar.divsi (Scalar.subi (Scalar.divsi
      (Scalar.addi (Scalar.subi (BitVec.ofNat 32 n.val) 0#32) (Scalar.subi 1#32 1#32)) 1#32) 0#32) 1#32) 1#32),
      Scalar.addi 0#32 (Scalar.subi (Scalar.divsi
      (Scalar.addi (Scalar.subi (BitVec.ofNat 32 n.val) 0#32) (Scalar.subi 1#32 1#32)) 1#32) 0#32), 1#32⟩ : Scf.Loop 32))
      = 0 := by decide
  exact key (i 1)

theorem diag_off (i : grid0.Coords) : k0_off1 i = ![0, (i 1).val, 0, 0] := by
  have key : ∀ n : Fin 8, (Scalar.indexCast (BitVec.ofNat 32 n.val)).toNat = n.val := by decide
  exact congrArg (fun x => ![0, x, 0, 0]) (key (i 1))

theorem before_off (i : grid0.Coords) (k : Fin (k0_t1_loop i).trips) : k0_off2 i k = ![0, (i 1).val - 1 - k.val, 0, 0] := by
  have key : ∀ n k : Fin 8, k.val < n.val → (Scalar.indexCast (Scalar.subi (Scalar.subi (BitVec.ofNat 32 n.val) 1#32)
      (Scalar.addi 0#32 (Scalar.muli (Scf.iv 0#32 1#32 k.val) 1#32)))).toNat = n.val - 1 - k.val := by decide
  have hk : k.val < (i 1).val := lt_of_lt_of_eq k.isLt (trips_before i)
  have h8 : (i 1).val < 8 := (i 1).isLt
  exact congrArg (fun x => ![0, x, 0, 0]) (key (i 1) ⟨k.val, by omega⟩ hk)

/-! ## A buffer of four, read after its four stores -/

section Buffer

variable {W : ℕ} {sp : Space} {e : EltTy} (v : View sig .tc sp (⟨3, ![4, 512, W]⟩ : Shape) e) (f : v.ty.Contents (Elt Ideal))

/-- The pair's part of a buffer of four, whatever its width. -/
abbrev part (inb : ∀ p : Fin 4, ∀ a, (![p.val, 0, 0] : Fin 3 → ℕ) a + (![1, 512, W] : Fin 3 → ℕ) a ≤ (![4, 512, W] : Fin 3 → ℕ) a) (p : Fin 4) :
    Rect (⟨3, ![4, 512, W]⟩ : Shape) :=
  Rect.unit (s := (⟨3, ![4, 512, W]⟩ : Shape)) ![p.val, 0, 0] ![1, 512, W] (inb p)

variable (inb : ∀ p : Fin 4, ∀ a, (![p.val, 0, 0] : Fin 3 → ℕ) a + (![1, 512, W] : Fin 3 → ℕ) a ≤ (![4, 512, W] : Fin 3 → ℕ) a)
  (P : (p : Fin 4) → (part inb p).shape.Idx → Elt Ideal e) (L : List (View.Piece (Elt Ideal) (⟨3, ![4, 512, W]⟩ : Shape) e))
  (r : Fin 512) (l : Fin W)

theorem part_hit (p : Fin 4) (w : (part inb p).shape.Idx → Elt Ideal e) :
    v.read (Elt Ideal) (v.writes (Elt Ideal) f (⟨part inb p, w⟩ :: L)) (ix3 p r l) = w (ix3 (0 : Fin 1) r l) :=
  View.read_writes_cons_unit_of_mem v f (inb p) w L (ix3 p r l) (ix3 (0 : Fin 1) r l) rfl
    (fun a => by fin_cases a <;> simp [ix3])

theorem part_miss (p p' : Fin 4) (h : p'.val < p.val ∨ p.val + 1 ≤ p'.val) (w : (part inb p).shape.Idx → Elt Ideal e) :
    v.read (Elt Ideal) (v.writes (Elt Ideal) f (⟨part inb p, w⟩ :: L)) (ix3 p' r l)
      = v.read (Elt Ideal) (v.writes (Elt Ideal) f L) (ix3 p' r l) :=
  View.read_writes_cons_unit_of_not_mem v f (inb p) w L (ix3 p' r l) rfl 0 h

/-- A buffer of four, read after its four stores. -/
theorem read_four (p : Fin 4) :
    v.read (Elt Ideal) (v.writes (Elt Ideal) f (four (fun p => ⟨part inb p, P p⟩) ++ L)) (ix3 p r l) = P p (ix3 (0 : Fin 1) r l) := by
  match p with
  | 3 => exact part_hit v f inb _ r l 3 _
  | 2 => exact (part_miss v f inb _ r l 3 2 (by decide) _).trans (part_hit v f inb _ r l 2 _)
  | 1 => exact (part_miss v f inb _ r l 3 1 (by decide) _).trans ((part_miss v f inb _ r l 2 1 (by decide) _).trans (part_hit v f inb _ r l 1 _))
  | 0 => exact (part_miss v f inb _ r l 3 0 (by decide) _).trans ((part_miss v f inb _ r l 2 0 (by decide) _).trans
      ((part_miss v f inb _ r l 1 0 (by decide) _).trans (part_hit v f inb _ r l 0 _)))

theorem read_four_only (p : Fin 4) :
    v.read (Elt Ideal) (v.writes (Elt Ideal) f (four fun p => ⟨part inb p, P p⟩)) (ix3 p r l) = P p (ix3 (0 : Fin 1) r l) :=
  read_four v f inb P [] r l p

/-- A load of the pair's part. -/
theorem load_part (p : Fin 4) :
    View.readAt (Elt Ideal) v (part inb p).toLoadRect f (ix3 (0 : Fin 1) r l) = v.read (Elt Ideal) f (ix3 p r l) := by
  rw [View.readAt_eq_ld]
  show v.read (Elt Ideal) f ((part inb p).emb (ix3 (0 : Fin 1) r l)) = _
  congr 1
  funext a
  apply Fin.ext
  fin_cases a <;> simp [ix3, part]

end Buffer

/-! ## The trips -/

theorem inb_block (j : ℕ) (hj : j < 8) : ∀ a, (![0, j, 0, 0] : Fin 4 → ℕ) a + S1x1x512x256.size a ≤ S1x8x512x256.size a := by
  have key : ∀ n : Fin 8, ∀ a, (![0, n.val, 0, 0] : Fin 4 → ℕ) a + S1x1x512x256.size a ≤ S1x8x512x256.size a := by decide
  exact key ⟨j, hj⟩

/-- A block of 256 keys, loaded. -/
abbrev loadBlock (v : View sig .tc .vmem S1x8x512x256 .bf16) (f : v.ty.Contents (Elt Ideal)) (off : Fin 4 → ℕ)
    (inb : ∀ a, off a + S1x1x512x256.size a ≤ S1x8x512x256.size a) : Vec Ideal S1x1x512x256 .bf16 :=
  View.readAt (Elt Ideal) v (Rect.unit (s := S1x8x512x256) off S1x1x512x256.size inb).toLoadRect f

theorem loadBlock_congr (v : View sig .tc .vmem S1x8x512x256 .bf16) (f : v.ty.Contents (Elt Ideal)) {off off' : Fin 4 → ℕ} (h : off = off')
    (inb : ∀ a, off a + S1x1x512x256.size a ≤ S1x8x512x256.size a) (inb' : ∀ a, off' a + S1x1x512x256.size a ≤ S1x8x512x256.size a) :
    loadBlock v f off inb = loadBlock v f off' inb' := by
  subst h; rfl

variable (arg2 : Memref sig .tc .smem S8 .f32) (harg2 : arg2.IsWhole) (arg3 : Memref sig .tc .vmem S256x512 .bf16) (harg3 : arg3.IsWhole)
  (arg4 : Memref sig .tc .vmem S1x8x512x256 .bf16) (harg4 : arg4.IsWhole) (arg5 : Memref sig .tc .vmem S1x8x512x256 .bf16) (harg5 : arg5.IsWhole)
  (arg6 : Memref sig .tc .vmem S256x512 .f32) (harg6 : arg6.IsWhole) (arg7 : Memref sig .tc .vmem S4x512x128 .bf16) (harg7 : arg7.IsWhole)
  (arg8 : Memref sig .tc .vmem S4x512x128 .f32) (harg8 : arg8.IsWhole) (arg9 : Memref sig .tc .vmem S4x512x1 .f32) (harg9 : arg9.IsWhole)
  (X2 : BufTy.Contents (Elt Ideal) arg2.view.ty) (X4 : BufTy.Contents (Elt Ideal) arg4.view.ty)
  (X5 : BufTy.Contents (Elt Ideal) arg5.view.ty) (X7 : BufTy.Contents (Elt Ideal) arg7.view.ty)
  (G8 : BufTy.Contents (Elt Ideal) arg8.view.ty) (G9 : BufTy.Contents (Elt Ideal) arg9.view.ty)
  (Z : Fin 4 → Fin 512 → ℕ → ℝ) (V : Fin 512 → ℕ → EReal)

/-- The pair's bias, of the head in the upper or lower rows. -/
abbrev loadBias (p : Fin 4) (d : Fin 2) : Elt Ideal .f32 :=
  View.readAt (Elt Ideal) arg2.view (rBias p d).toLoadRect X2 (Shape.Idx.first (s := S1) (by decide))

/-- The logits of every block are those of the keys. -/
def LogitsAre : Prop := ∀ (j : ℕ) (hj : j < 8) (p : Fin 4) (r : Fin 512) (c : Fin 256),
  logits p k0_pay86 (View.readAt (Elt Ideal) arg7.view (rAcc p).toLoadRect X7) (loadBlock arg4.view X4 ![0, j, 0, 0] (inb_block j hj))
    (loadBias arg2 X2 p 0) (loadBias arg2 X2 p 1) (ix2 r c) = ((Z p r (j * 256 + c.val) : ℝ) : EReal)

/-- The values of every block are those of the keys. -/
def ValuesAre : Prop := ∀ (j : ℕ) (hj : j < 8) (d : Fin 512) (c : Fin 256),
  loadBlock arg5.view X5 ![0, j, 0, 0] (inb_block j hj) (ix4 (0 : Fin 1) (0 : Fin 1) d c) = V d (j * 256 + c.val)

/-- A buffer of carries holding the sums over the keys from block `b` to block `i`. -/
def CarriesAre (f : BufTy.Contents (Elt Ideal) arg9.view.ty) (i b : ℕ) : Prop := ∀ (p : Fin 4) (r : Fin 512),
  arg9.view.read (Elt Ideal) f (ix3 p r (0 : Fin 1))
    = ((∑ k ∈ Finset.Ico (b * 256) ((i + 1) * 256), lo (Z p r) (i * 256 + r.val % 256) k : ℝ) : EReal)

/-- A buffer of accumulators holding the sums over the keys from block `b` to block `i`. -/
def AccsAre (f : BufTy.Contents (Elt Ideal) arg8.view.ty) (i b : ℕ) : Prop := ∀ (p : Fin 4) (r : Fin 512) (l : Fin 128),
  arg8.view.read (Elt Ideal) f (ix3 p r l)
    = ∑ k ∈ Finset.Ico (b * 256) ((i + 1) * 256), ((wt (Z p r) (i * 256 + r.val % 256) ((i + 1) * 256) k : ℝ) : EReal)
        * V (⟨128 * p.val + l.val, by omega⟩ : Fin 512) k

/-- After `n` trips the sums run from the block that trip read. -/
theorem after_trips (𝒱 : Variants) (c : Dev nD) (bd : Option 𝒱.V) (i : grid0.Coords) (arg1 u1 u2 u3 : BitVec 32)
    (hz : LogitsAre arg2 arg4 arg7 X2 X4 X7 Z) (hv : ValuesAre arg5 X5 V)
    (h8 : AccsAre arg8 Z V G8 (i 1).val (i 1).val) (h9 : CarriesAre arg9 Z G9 (i 1).val (i 1).val) (n : ℕ) (hn : n ≤ (i 1).val) :
    AccsAre arg8 Z V (arg8.view.writes (Elt Ideal) G8 (pb_k0_t1 (F := Ideal) 𝒱 c bd i arg2 harg2 arg3 harg3 arg4 harg4 arg5 harg5 arg6 harg6 arg7 harg7 arg8 harg8 arg9 harg9
        arg1 k0_pay86 k0_pay87 u1 u2 u3 X2 X4 X5 X7 G8 G9 n).1) (i 1).val ((i 1).val - n)
      ∧ CarriesAre arg9 Z (arg9.view.writes (Elt Ideal) G9 (pb_k0_t1 (F := Ideal) 𝒱 c bd i arg2 harg2 arg3 harg3 arg4 harg4 arg5 harg5 arg6 harg6 arg7 harg7 arg8 harg8 arg9 harg9
        arg1 k0_pay86 k0_pay87 u1 u2 u3 X2 X4 X5 X7 G8 G9 n).2) (i 1).val ((i 1).val - n) := by
  induction n with
  | zero => exact ⟨h8, h9⟩
  | succ n ih =>
    obtain ⟨ih8, ih9⟩ := ih (by omega)
    have h8' : (i 1).val < 8 := (i 1).isLt
    have ht : n < (k0_t1_loop i).trips := by rw [trips_before]; omega
    have hj : (i 1).val - 1 - n < 8 := by omega
    have hs : (i 1).val - (n + 1) = (i 1).val - 1 - n := by omega
    have hs' : (i 1).val - n = (i 1).val - 1 - n + 1 := by omega
    have e := pb_k0_t1_succ (F := Ideal) 𝒱 c bd i arg2 harg2 arg3 harg3 arg4 harg4 arg5 harg5 arg6 harg6 arg7 harg7 arg8 harg8 arg9 harg9
        arg1 k0_pay86 k0_pay87 u1 u2 u3 X2 X4 X5 X7 G8 G9 ⟨n, ht⟩
    have e' : pb_k0_t1 (F := Ideal) 𝒱 c bd i arg2 harg2 arg3 harg3 arg4 harg4 arg5 harg5 arg6 harg6 arg7 harg7 arg8 harg8 arg9 harg9
        arg1 k0_pay86 k0_pay87 u1 u2 u3 X2 X4 X5 X7 G8 G9 (n + 1) = _ := e
    rw [e', hs]
    rw [hs'] at ih8 ih9
    have hc : ∀ (p : Fin 4) (r : Fin 512), _ = _ := fun p r => (load_part arg9.view _ inb_carry r (0 : Fin 1) p).trans (ih9 p r)
    have ha : ∀ (p : Fin 4) (r : Fin 512) (l : Fin 128), _ = _ := fun p r l => (load_part arg8.view _ inb_acc r l p).trans (ih8 p r l)
    have hb := loadBlock_congr arg4.view X4 (before_off i ⟨n, ht⟩) (k0_off2_inb i ⟨n, ht⟩) (inb_block _ hj)
    have hb' := loadBlock_congr arg5.view X5 (before_off i ⟨n, ht⟩) (k0_off2_inb i ⟨n, ht⟩) (inb_block _ hj)
    unfold loadBlock at hb hb'
    refine ⟨fun p r l => ?_, fun p r => ?_⟩
    · dsimp only
      rw [trip_acc (hb := k0_off2_inb i ⟨n, ht⟩)]
      refine (read_four arg8.view _ inb_acc _ _ r l p).trans ?_
      rw [hb, hb']
      exact newAcc_row p _ _ _ _ _ r l (i 1).val _ (Z p r) (V (⟨128 * p.val + l.val, by omega⟩ : Fin 512)) _ _ (by omega) (by omega) (by omega) _ _
        (fun c => hz _ hj p r c) (fun c => hv _ hj _ c) (hc p r) (ha p r l)
    · dsimp only
      rw [trip_carry (hb := k0_off2_inb i ⟨n, ht⟩)]
      refine (read_four arg9.view _ inb_carry _ _ r (0 : Fin 1) p).trans ?_
      rw [hb]
      exact newCarry_row p _ _ _ _ r (i 1).val _ (Z p r) _ _ (by omega) (by omega) (by omega) _
        (fun c => hz _ hj p r c) (hc p r)

end Cert.KernelIdeal.Own

end
-- ==== Proof.Out.lean ====
/- What the body leaves in its output block: at each row and column, the weighted sum of the values over the keys up to
   the end of the row's own block. -/
module

public import proofs.«01_k».proof.Proof.Body
public import proofs.«01_k».proof.Proof.Loop

@[expose] public section

set_option maxRecDepth 16384

noncomputable section

namespace Cert.Stick

open Idealize.ShloMosaic Idealize.ShloMosaic.Pointwise

/-- The logit of a query of a block against key `k`, in head `h`. -/
def logitOf (Q : Cert.KernelIdeal.S256x512.Idx → ℝ) (K : Cert.KernelIdeal.S1x8x512x256.Idx → ℝ) (B : Cert.KernelIdeal.S8.Idx → ℝ)
    (h : Fin 8) (r : Fin 256) (k : ℕ) : ℝ :=
  (∑ d : Fin 64, Q (ix2 r (⟨64 * h.val + d.val, by omega⟩ : Fin 512))
      * K (ix4 (0 : Fin 1) (⟨k / 256 % 8, by omega⟩ : Fin 8) (⟨64 * h.val + d.val, by omega⟩ : Fin 512) (⟨k % 256, by omega⟩ : Fin 256)))
    + B (ix1 h)

/-- The value of key `k` in a lane. -/
def valueOf (v : Cert.KernelIdeal.S1x8x512x256.Idx → EReal) (d : Fin 512) (k : ℕ) : EReal :=
  v (ix4 (0 : Fin 1) (⟨k / 256 % 8, by omega⟩ : Fin 8) d (⟨k % 256, by omega⟩ : Fin 256))

/-- The head of a pair that a row belongs to. -/
def headOf (p : Fin 4) (r : Fin 512) : Fin 8 := ⟨2 * p.val + r.val / 256, by omega⟩

/-- The query of a block that a row belongs to. -/
def rowOf (r : Fin 512) : Fin 256 := ⟨r.val % 256, by omega⟩

/-- A sum over 128 lanes of which one half counts. -/
theorem sum_low {M : Type*} [AddCommMonoid M] (f : Fin 128 → M) :
    ∑ l : Fin 128, (if l.val < 64 then f l else 0) = ∑ d : Fin 64, f ⟨d.val, by omega⟩ := by
  refine (Fin.sum_univ_add (a := 64) (b := 64) (fun l : Fin 128 => if l.val < 64 then f l else 0)).trans ?_
  simp [Fin.castAdd, Fin.castLE]

theorem sum_high {M : Type*} [AddCommMonoid M] (f : Fin 128 → M) :
    ∑ l : Fin 128, (if l.val < 64 then 0 else f l) = ∑ d : Fin 64, f ⟨64 + d.val, by omega⟩ := by
  refine (Fin.sum_univ_add (a := 64) (b := 64) (fun l : Fin 128 => if l.val < 64 then 0 else f l)).trans ?_
  simp [Fin.natAdd]

end Cert.Stick

namespace Cert.KernelIdeal.Own

open Idealize.ShloMosaic Idealize.ShloMosaic.TcCoe Idealize.ShloMosaic.Tactic Cert.KernelIdeal.Gen Cert.Stick
open Idealize.ShloMosaic.Pointwise

theorem queries_apply (q : Vec Ideal S256x128 .bf16) (r : Fin 512) (l : Fin 128) :
    queries q (ix3 (0 : Fin 1) r l)
      = if r.val < 256 then (if l.val < 64 then q (ix2 (rowOf r) l) else 0) else (if l.val < 64 then 0 else q (ix2 (rowOf r) l)) := by
  pointwise [queries]
  split
  · next h =>
    have e : (⟨r.val, h⟩ : Fin 256) = rowOf r := Fin.ext (Nat.mod_eq_of_lt h).symm
    rw [left_apply, e]
    split <;> simp [Scalar.select]
  · next h =>
    have e : (⟨r.val - 256, by omega⟩ : Fin 256) = rowOf r := Fin.ext (by show r.val - 256 = r.val % 256; omega)
    rw [left_apply, e]
    split <;> simp [Scalar.select]

theorem merged_apply (acc : Vec Ideal S1x512x128 .f32) (r : Fin 256) (l : Fin 128) :
    merged acc (ix2 r l) = if l.val < 64 then acc (ix3 (0 : Fin 1) (⟨r.val, by omega⟩ : Fin 512) l)
      else acc (ix3 (0 : Fin 1) (⟨256 + r.val, by omega⟩ : Fin 512) l) := by
  pointwise [merged]
  rw [left_apply]
  split <;> simp [Scalar.select]

/-! ## The loads -/

variable (arg2 : Memref sig .tc .smem S8 .f32) (harg2 : arg2.IsWhole) (arg3 : Memref sig .tc .vmem S256x512 .bf16) (harg3 : arg3.IsWhole)
  (arg4 : Memref sig .tc .vmem S1x8x512x256 .bf16) (harg4 : arg4.IsWhole) (arg5 : Memref sig .tc .vmem S1x8x512x256 .bf16) (harg5 : arg5.IsWhole)
  (arg6 : Memref sig .tc .vmem S256x512 .f32) (harg6 : arg6.IsWhole) (arg7 : Memref sig .tc .vmem S4x512x128 .bf16) (harg7 : arg7.IsWhole)
  (arg8 : Memref sig .tc .vmem S4x512x128 .f32) (harg8 : arg8.IsWhole) (arg9 : Memref sig .tc .vmem S4x512x1 .f32) (harg9 : arg9.IsWhole)
  (x0 : Vec Ideal S8 .f32) (x1 : Vec Ideal S256x512 .bf16) (x2 x3 : Vec Ideal S1x8x512x256 .bf16)

theorem loadBias_apply (p : Fin 4) (d : Fin 2) :
    loadBias arg2 (harg2.unread x0) p d = x0 (ix1 (⟨2 * p.val + d.val, by omega⟩ : Fin 8)) := by
  show View.readAt (Elt Ideal) arg2.view (rBias p d).toLoadRect (harg2.unread x0) _ = _
  rw [View.readAt_eq_ld]
  show arg2.view.read (Elt Ideal) (harg2.unread x0) ((rBias p d).emb _) = _
  rw [harg2.read_unread]
  congr 1
  funext a
  apply Fin.ext
  fin_cases a
  simp [ix1, Shape.Idx.first, rBias]

theorem loadBlock_apply {b : Memref sig .tc .vmem S1x8x512x256 .bf16} (hb : b.IsWhole) (x : Vec Ideal S1x8x512x256 .bf16) (j : ℕ) (hj : j < 8)
    (d : Fin 512) (c : Fin 256) :
    loadBlock b.view (hb.unread x) ![0, j, 0, 0] (inb_block j hj) (ix4 (0 : Fin 1) (0 : Fin 1) d c) = x (ix4 (0 : Fin 1) (⟨j, hj⟩ : Fin 8) d c) := by
  show View.readAt (Elt Ideal) b.view (Rect.unit (s := S1x8x512x256) ![0, j, 0, 0] S1x1x512x256.size (inb_block j hj)).toLoadRect (hb.unread x) _ = _
  rw [View.readAt_eq_ld]
  show b.view.read (Elt Ideal) (hb.unread x) ((Rect.unit (s := S1x8x512x256) ![0, j, 0, 0] S1x1x512x256.size (inb_block j hj)).emb _) = _
  rw [hb.read_unread]
  congr 1
  funext a
  apply Fin.ext
  fin_cases a <;> simp [ix4]

theorem loadCols_apply (p : Fin 4) (r : Fin 256) (l : Fin 128) :
    View.readAt (Elt Ideal) arg3.view (rCols p).toLoadRect (harg3.unread x1) (ix2 r l) = x1 (ix2 r (⟨128 * p.val + l.val, by omega⟩ : Fin 512)) := by
  rw [View.readAt_eq_ld]
  show arg3.view.read (Elt Ideal) (harg3.unread x1) ((rCols p).emb _) = _
  rw [harg3.read_unread]
  congr 1
  funext a
  apply Fin.ext
  fin_cases a <;> simp [ix2, rCols]

/-- A row of the queries' buffer, its other head's lanes at zero. -/
theorem loadQueries_apply (p : Fin 4) (r : Fin 512) (l : Fin 128) :
    View.readAt (Elt Ideal) arg7.view (rAcc p).toLoadRect (arg7.view.writes (Elt Ideal) arg7.view.junk (qmL arg3 harg3 x1)) (ix3 (0 : Fin 1) r l)
      = if r.val < 256 then (if l.val < 64 then x1 (ix2 (rowOf r) (⟨128 * p.val + l.val, by omega⟩ : Fin 512)) else 0)
        else (if l.val < 64 then 0 else x1 (ix2 (rowOf r) (⟨128 * p.val + l.val, by omega⟩ : Fin 512))) := by
  refine (load_part arg7.view _ inb_acc r l p).trans ?_
  refine (read_four_only arg7.view _ inb_acc (fun p => queries (View.readAt (Elt Ideal) arg3.view (rCols p).toLoadRect (harg3.unread x1))) r l p).trans ?_
  rw [queries_apply]
  simp only [loadCols_apply]

/-! ## The logits and the values -/

variable (Q : S256x512.Idx → ℝ) (K : S1x8x512x256.Idx → ℝ) (B : S8.Idx → ℝ)

/-- The logit of a row of a pair against a key. -/
abbrev rowLogit (p : Fin 4) (r : Fin 512) : ℕ → ℝ := logitOf Q K B (headOf p r) (rowOf r)

theorem logits_are (hB : ∀ y, x0 y = ((B y : ℝ) : EReal)) (hQ : ∀ y, x1 y = ((Q y : ℝ) : EReal)) (hK : ∀ y, x2 y = ((K y : ℝ) : EReal)) :
    LogitsAre arg2 arg4 arg7 (harg2.unread x0) (harg4.unread x2) (arg7.view.writes (Elt Ideal) arg7.view.junk (qmL arg3 harg3 x1))
      (rowLogit Q K B) := by
  intro j hj p r c
  rw [logits_apply, top_apply, loadBias_apply, loadBias_apply]
  simp only [loadQueries_apply, loadBlock_apply _ _ j hj]
  have hk : (j * 256 + c.val) / 256 % 8 = j := by omega
  have hk' : (j * 256 + c.val) % 256 = c.val := by omega
  have term : ∀ (l : Fin 128) (d : Fin 64), 128 * p.val + l.val = 64 * (headOf p r).val + d.val →
      x1 (ix2 (rowOf r) (⟨128 * p.val + l.val, by omega⟩ : Fin 512))
          * x2 (ix4 (0 : Fin 1) (⟨j, hj⟩ : Fin 8) (⟨128 * p.val + l.val, by omega⟩ : Fin 512) c)
        = ((Q (ix2 (rowOf r) (⟨64 * (headOf p r).val + d.val, by omega⟩ : Fin 512))
            * K (ix4 (0 : Fin 1) (⟨(j * 256 + c.val) / 256 % 8, by omega⟩ : Fin 8) (⟨64 * (headOf p r).val + d.val, by omega⟩ : Fin 512)
                (⟨(j * 256 + c.val) % 256, by omega⟩ : Fin 256)) : ℝ) : EReal) := by
    intro l d h
    rw [hQ, hK, ← EReal.coe_mul]
    simp only [h, hk, hk']
  have bias : ∀ d : Fin 2, 2 * p.val + d.val = (headOf p r).val → x0 (ix1 (⟨2 * p.val + d.val, by omega⟩ : Fin 8)) = ((B (ix1 (headOf p r)) : ℝ) : EReal) := by
    intro d h
    rw [hB]
    simp only [h]
  unfold rowLogit logitOf
  rw [EReal.coe_add, ← coe_sum]
  by_cases hr : r.val < 256
  · have hh : (headOf p r).val = 2 * p.val := by show 2 * p.val + r.val / 256 = _; omega
    simp only [hr, if_true, ite_mul, zero_mul]
    rw [sum_low]
    congr 1
    · exact Finset.sum_congr rfl fun d _ => term ⟨d.val, by omega⟩ d (by simp only [hh]; omega)
    · exact bias 0 (by rw [hh]; rfl)
  · have hh : (headOf p r).val = 2 * p.val + 1 := by show 2 * p.val + r.val / 256 = _; omega
    simp only [hr, if_false, ite_mul, zero_mul]
    rw [sum_high]
    congr 1
    · exact Finset.sum_congr rfl fun d _ => term ⟨64 + d.val, by omega⟩ d (by simp only [hh]; omega)
    · exact bias 1 (by rw [hh]; rfl)

theorem values_are : ValuesAre arg5 (harg5.unread x3) (valueOf x3) := by
  intro j hj d c
  rw [loadBlock_apply harg5 x3 j hj]
  unfold valueOf
  have hk : (j * 256 + c.val) / 256 % 8 = j := by omega
  have hk' : (j * 256 + c.val) % 256 = c.val := by omega
  simp only [hk, hk']

/-! ## The block on the diagonal -/

theorem diag_accs (i : grid0.Coords) (hB : ∀ y, x0 y = ((B y : ℝ) : EReal)) (hQ : ∀ y, x1 y = ((Q y : ℝ) : EReal))
    (hK : ∀ y, x2 y = ((K y : ℝ) : EReal)) :
    AccsAre arg8 (rowLogit Q K B) (valueOf x3)
      (arg8.view.writes (Elt Ideal) arg8.view.junk (accL arg2 harg2 arg3 harg3 arg4 harg4 arg5 harg5 arg7 x0 x1 x2 x3 i)) (i 1).val (i 1).val := by
  intro p r l
  have h8 : (i 1).val < 8 := (i 1).isLt
  have hb := loadBlock_congr arg4.view (harg4.unread x2) (diag_off i) (k0_off1_inb i) (inb_block _ h8)
  have hb' := loadBlock_congr arg5.view (harg5.unread x3) (diag_off i) (k0_off1_inb i) (inb_block _ h8)
  unfold loadBlock at hb hb'
  refine (read_four_only arg8.view _ inb_acc _ r l p).trans ?_
  unfold blockAt
  rw [hb, hb']
  exact diagAcc_row p _ _ _ _ _ r l (i 1).val (rowLogit Q K B p r) (valueOf x3 _)
    (fun c => logits_are arg2 harg2 arg3 harg3 arg4 harg4 arg7 x0 x1 x2 Q K B hB hQ hK _ h8 p r c)
    (fun c => values_are arg5 harg5 x3 _ h8 _ c)

theorem diag_carries (i : grid0.Coords) (hB : ∀ y, x0 y = ((B y : ℝ) : EReal)) (hQ : ∀ y, x1 y = ((Q y : ℝ) : EReal))
    (hK : ∀ y, x2 y = ((K y : ℝ) : EReal)) :
    CarriesAre arg9 (rowLogit Q K B)
      (arg9.view.writes (Elt Ideal) arg9.view.junk (carryL arg2 harg2 arg3 harg3 arg4 harg4 arg7 x0 x1 x2 i)) (i 1).val (i 1).val := by
  intro p r
  have h8 : (i 1).val < 8 := (i 1).isLt
  have hb := loadBlock_congr arg4.view (harg4.unread x2) (diag_off i) (k0_off1_inb i) (inb_block _ h8)
  unfold loadBlock at hb
  refine (read_four_only arg9.view _ inb_carry _ r (0 : Fin 1) p).trans ?_
  unfold blockAt
  rw [hb]
  exact diagCarry_row p _ _ _ _ r (i 1).val (rowLogit Q K B p r)
    (fun c => logits_are arg2 harg2 arg3 harg3 arg4 harg4 arg7 x0 x1 x2 Q K B hB hQ hK _ h8 p r c)

/-! ## The output block -/

theorem cols_hit {e : EltTy} {sp : Space} (v : View sig .tc sp S256x512 e) (f : v.ty.Contents (Elt Ideal)) (p : Fin 4)
    (w : (rCols p).shape.Idx → Elt Ideal e) (L : List (View.Piece (Elt Ideal) S256x512 e)) (r : Fin 256) (l : Fin 128) (d : Fin 512)
    (h : d.val = 128 * p.val + l.val) :
    v.read (Elt Ideal) (v.writes (Elt Ideal) f (⟨rCols p, w⟩ :: L)) (ix2 r d) = w (ix2 r l) :=
  View.read_writes_cons_unit_of_mem v f (inb_cols p) w L (ix2 r d) (ix2 r l) rfl
    (fun a => by fin_cases a <;> simp [ix2, h])

theorem cols_miss {e : EltTy} {sp : Space} (v : View sig .tc sp S256x512 e) (f : v.ty.Contents (Elt Ideal)) (p : Fin 4)
    (w : (rCols p).shape.Idx → Elt Ideal e) (L : List (View.Piece (Elt Ideal) S256x512 e)) (r : Fin 256) (d : Fin 512)
    (h : d.val < 128 * p.val ∨ 128 * p.val + 128 ≤ d.val) :
    v.read (Elt Ideal) (v.writes (Elt Ideal) f (⟨rCols p, w⟩ :: L)) (ix2 r d) = v.read (Elt Ideal) (v.writes (Elt Ideal) f L) (ix2 r d) :=
  View.read_writes_cons_unit_of_not_mem v f (inb_cols p) w L (ix2 r d) rfl 1 h

theorem read_cols {e : EltTy} {sp : Space} (v : View sig .tc sp S256x512 e) (f : v.ty.Contents (Elt Ideal))
    (P : (p : Fin 4) → (rCols p).shape.Idx → Elt Ideal e) (p : Fin 4) (r : Fin 256) (l : Fin 128) (d : Fin 512) (h : d.val = 128 * p.val + l.val) :
    v.read (Elt Ideal) (v.writes (Elt Ideal) f (four fun p => ⟨rCols p, P p⟩)) (ix2 r d) = P p (ix2 r l) := by
  match p with
  | 3 => exact cols_hit v f 3 _ _ r l d h
  | 2 => exact (cols_miss v f 3 _ _ r d (by simp at h ⊢; omega)).trans (cols_hit v f 2 _ _ r l d h)
  | 1 => exact (cols_miss v f 3 _ _ r d (by simp at h ⊢; omega)).trans ((cols_miss v f 2 _ _ r d (by simp at h ⊢; omega)).trans
      (cols_hit v f 1 _ _ r l d h))
  | 0 => exact (cols_miss v f 3 _ _ r d (by simp at h ⊢; omega)).trans ((cols_miss v f 2 _ _ r d (by simp at h ⊢; omega)).trans
      ((cols_miss v f 1 _ _ r d (by simp at h ⊢; omega)).trans (cols_hit v f 0 _ _ r l d h)))

/-- The accumulators' columns merged, when the sums run over all the keys. -/
theorem merged_row (f : BufTy.Contents (Elt Ideal) arg8.view.ty) (i : ℕ) (st : AccsAre arg8 (rowLogit Q K B) (valueOf x3) f i 0)
    (r : Fin 256) (d : Fin 512) :
    merged (View.readAt (Elt Ideal) arg8.view (rAcc (⟨d.val / 128, by omega⟩ : Fin 4)).toLoadRect f) (ix2 r (⟨d.val % 128, by omega⟩ : Fin 128))
      = ∑ k ∈ Finset.range ((i + 1) * 256),
          ((wt (logitOf Q K B (⟨d.val / 64, by omega⟩ : Fin 8) r) (i * 256 + r.val) ((i + 1) * 256) k : ℝ) : EReal) * valueOf x3 d k := by
  have row : ∀ (R : Fin 512), rowOf R = r → headOf (⟨d.val / 128, by omega⟩ : Fin 4) R = (⟨d.val / 64, by omega⟩ : Fin 8) →
      View.readAt (Elt Ideal) arg8.view (rAcc (⟨d.val / 128, by omega⟩ : Fin 4)).toLoadRect f (ix3 (0 : Fin 1) R (⟨d.val % 128, by omega⟩ : Fin 128))
        = ∑ k ∈ Finset.range ((i + 1) * 256),
          ((wt (logitOf Q K B (⟨d.val / 64, by omega⟩ : Fin 8) r) (i * 256 + r.val) ((i + 1) * 256) k : ℝ) : EReal) * valueOf x3 d k := fun R h1 h2 => by
    refine (load_part arg8.view f inb_acc R (⟨d.val % 128, by omega⟩ : Fin 128) (⟨d.val / 128, by omega⟩ : Fin 4)).trans ((st _ R _).trans ?_)
    have hd : (⟨128 * (d.val / 128) + d.val % 128, by omega⟩ : Fin 512) = d := Fin.ext (by show 128 * (d.val / 128) + d.val % 128 = d.val; omega)
    have hr : R.val % 256 = r.val := congrArg Fin.val h1
    simp only [rowLogit, h1, h2, hd, hr, Nat.zero_mul, Finset.range_eq_Ico]
  rw [merged_apply]
  split
  · next h =>
    refine row _ (Fin.ext ?_) (Fin.ext ?_)
    · show r.val % 256 = r.val; omega
    · show 2 * (d.val / 128) + r.val / 256 = d.val / 64
      have h' : d.val % 128 < 64 := h
      omega
  · next h =>
    refine row _ (Fin.ext ?_) (Fin.ext ?_)
    · show (256 + r.val) % 256 = r.val; omega
    · show 2 * (d.val / 128) + (256 + r.val) / 256 = d.val / 64
      have h' : ¬ d.val % 128 < 64 := h
      omega

theorem merged_cov (S : List (View.Piece (Elt Ideal) S4x512x128 .f32)) (i : ℕ)
    (st : AccsAre arg8 (rowLogit Q K B) (valueOf x3) (arg8.view.writes (Elt Ideal) arg8.view.junk S) i 0)
    (r : Fin 256) (d : Fin 512) :
    merged (arg8.view.readCov S (rAcc (⟨d.val / 128, by omega⟩ : Fin 4)).toLoadRect) (ix2 r (⟨d.val % 128, by omega⟩ : Fin 128))
      = ∑ k ∈ Finset.range ((i + 1) * 256),
          ((wt (logitOf Q K B (⟨d.val / 64, by omega⟩ : Fin 8) r) (i * 256 + r.val) ((i + 1) * 256) k : ℝ) : EReal) * valueOf x3 d k :=
  merged_row arg8 x3 Q K B _ i st r d

/-- The output block, at a row and a column. -/
theorem out_apply (c : Dev nD) (i : grid0.Coords) (hB : ∀ y, x0 y = ((B y : ℝ) : EReal)) (hQ : ∀ y, x1 y = ((Q y : ℝ) : EReal))
    (hK : ∀ y, x2 y = ((K y : ℝ) : EReal)) (r : Fin 256) (d : Fin 512) :
    out0_A_4 c i arg2 harg2 arg3 harg3 arg4 harg4 arg5 harg5 arg6 harg6 arg7 harg7 arg8 harg8 arg9 harg9 x0 x1 x2 x3 (ix2 r d)
      = ∑ k ∈ Finset.range (((i 1).val + 1) * 256),
          ((wt (logitOf Q K B (⟨d.val / 64, by omega⟩ : Fin 8) r) ((i 1).val * 256 + r.val) (((i 1).val + 1) * 256) k : ℝ) : EReal)
            * valueOf x3 d k := by
  obtain ⟨u1, u2, u3, b1, w1, w2, w3, b2, v7, v13, X2, X4, X5, X7, G8, G9, e⟩ :=
    body_pieces arg2 harg2 arg3 harg3 arg4 harg4 arg5 harg5 arg6 harg6 arg7 harg7 arg8 harg8 arg9 harg9 x0 x1 x2 x3 c i
  unfold out0_A_4
  rw [e]
  have hp : d.val / 128 < 4 := by omega
  have hl : d.val % 128 < 128 := by omega
  refine (read_cols _ _ _ ⟨d.val / 128, hp⟩ r ⟨d.val % 128, hl⟩ d (by show d.val = 128 * (d.val / 128) + d.val % 128; omega)).trans ?_
  have st := (after_trips arg2 harg2 arg3 harg3 arg4 harg4 arg5 harg5 arg6 harg6 arg7 harg7 arg8 harg8 arg9 harg9 (harg2.unread x0) (harg4.unread x2) (harg5.unread x3)
    (arg7.view.writes (Elt Ideal) arg7.view.junk (qmL arg3 harg3 x1))
    (arg8.view.writes (Elt Ideal) arg8.view.junk (accL arg2 harg2 arg3 harg3 arg4 harg4 arg5 harg5 arg7 x0 x1 x2 x3 i))
    (arg9.view.writes (Elt Ideal) arg9.view.junk (carryL arg2 harg2 arg3 harg3 arg4 harg4 arg7 x0 x1 x2 i))
    (rowLogit Q K B) (valueOf x3) .none c none i b1 u1 u2 u3
    (logits_are arg2 harg2 arg3 harg3 arg4 harg4 arg7 x0 x1 x2 Q K B hB hQ hK) (values_are arg5 harg5 x3)
    (diag_accs arg2 harg2 arg3 harg3 arg4 harg4 arg5 harg5 arg7 arg8 x0 x1 x2 x3 Q K B i hB hQ hK)
    (diag_carries arg2 harg2 arg3 harg3 arg4 harg4 arg7 arg9 x0 x1 x2 Q K B i hB hQ hK) (k0_t1_loop i).trips (trips_before i).le).1
  rw [show (i 1).val - (k0_t1_loop i).trips = 0 by rw [trips_before i, Nat.sub_self], ← View.writes_append] at st
  have rest : ∀ S : List (View.Piece (Elt Ideal) S4x512x128 .f32),
      (pb_k0_t2 (F := Ideal) .none c none i arg2 harg2 arg3 harg3 arg4 harg4 arg5 harg5 arg6 harg6 arg7 harg7 arg8 harg8 arg9 harg9 b2 v7 v13
        w1 w2 w3 X2 X4 X5 X7 G8 G9 (k0_t2_loop i).trips).1 ++ S = S := fun S => by
    rw [trips_rest]; rfl
  dsimp only
  rw [rest]
  exact merged_cov arg8 x3 Q K B _ (i 1).val st r d

end Cert.KernelIdeal.Own

end
-- ==== Proof.Ref.lean ====
/- The reference at an index: its logits, its reversed cumulative sum, its weights and its output. -/
module

public import proofs.«01_k».proof.Proof.Gen.ReferenceIdeal
public import proofs.«01_k».proof.Proof.Gen.ReferenceIdeal.Read
public import proofs.«01_k».proof.Proof.Rows
public import proofs.«01_k».proof.Proof.TileRead

@[expose] public section

set_option maxRecDepth 16384

noncomputable section

namespace Cert.Stick

open Idealize.ShloMosaic Idealize.ShloMosaic.Pointwise

/-- The logit of query `q` of batch element `b` against key `k`, in head `h`, from the whole arrays. -/
def fullLogit (Q : Cert.ReferenceIdeal.S32768x512.Idx → ℝ) (K : Cert.ReferenceIdeal.S16x8x512x256.Idx → ℝ)
    (B : Cert.ReferenceIdeal.S8.Idx → ℝ) (b : Fin 16) (h : Fin 8) (q : Fin 2048) (k : ℕ) : ℝ :=
  (∑ d : Fin 64, Q (ix2 (⟨b.val * 2048 + q.val, by omega⟩ : Fin 32768) (⟨64 * h.val + d.val, by omega⟩ : Fin 512))
      * K (ix4 b (⟨k / 256 % 8, by omega⟩ : Fin 8) (⟨64 * h.val + d.val, by omega⟩ : Fin 512) (⟨k % 256, by omega⟩ : Fin 256)))
    + B (ix1 h)

/-- The value of key `k` of a batch element in a lane, from the whole array. -/
def fullValue (v : Cert.ReferenceIdeal.S16x8x512x256.Idx → EReal) (b : Fin 16) (d : Fin 512) (k : ℕ) : EReal :=
  v (ix4 b (⟨k / 256 % 8, by omega⟩ : Fin 8) d (⟨k % 256, by omega⟩ : Fin 256))

/-- Adding a list's terms one after another adds their sum. -/
theorem foldl_add_terms {ι : Type*} (g : ι → EReal) : ∀ (l : List ι) (a : EReal),
    l.foldl (fun r n => r + g n) a = a + (l.map g).sum
  | [], a => by simp
  | n :: l, a => by
    rw [List.foldl_cons, foldl_add_terms g l, List.map_cons, List.sum_cons, add_assoc]

/-- The indices of a window along the last of four axes are the positions in it. -/
theorem sum_window_idx (f : (⟨4, ![1, 1, 1, 2048]⟩ : Shape).Idx → EReal) :
    ∑ p, f p = ∑ w : Fin 2048, f (ix4 (0 : Fin 1) (0 : Fin 1) (0 : Fin 1) w) := by
  symm
  refine Fintype.sum_bijective (fun w : Fin 2048 => (ix4 (0 : Fin 1) (0 : Fin 1) (0 : Fin 1) w : (⟨4, ![1, 1, 1, 2048]⟩ : Shape).Idx))
    ⟨fun a b e => congrFun e 3, fun p => ⟨p 3, ?_⟩⟩ _ _ fun w => rfl
  funext a
  match a with
  | ⟨0, _⟩ => exact Subsingleton.elim (α := Fin 1) _ _
  | ⟨1, _⟩ => exact Subsingleton.elim (α := Fin 1) _ _
  | ⟨2, _⟩ => exact Subsingleton.elim (α := Fin 1) _ _
  | ⟨3, _⟩ => rfl

/-- The reversed cumulative sum along the last axis: each entry is the sum of the operand's entries from its own on. -/
theorem suffix_sum_apply (x : Cert.ReferenceIdeal.S16x8x2048x2048.Idx → EReal)
    (H : Cert.ReferenceIdeal.S16x8x2048x2048.ReduceWindows ![1, 1, 1, 2048] ![1, 1, 1, 1] ![0, 0, 0, 0] ![0, 0, 0, 2047] Cert.ReferenceIdeal.S16x8x2048x2048)
    (b : Fin 16) (h : Fin 8) (q k : Fin 2048) :
    Ideal.hostReduceWindowAdd ![1, 1, 1, 2048] ![1, 1, 1, 1] ![0, 0, 0, 0] ![0, 0, 0, 2047] H x 0 (ix4 b h q k)
      = ∑ w : Fin 2048, if hw : k.val + w.val < 2048 then x (ix4 b h q ⟨k.val + w.val, hw⟩) else 0 := by
  let G : (⟨4, ![1, 1, 1, 2048]⟩ : Shape).Idx → EReal := fun p =>
    if hw : k.val + (p 3).val < 2048 then x (ix4 b h q ⟨k.val + (p 3).val, hw⟩) else 0
  refine Eq.trans ?_ (sum_window_idx G)
  refine Eq.trans ?_ (Equiv.sum_comp (Shape.rowMajor (⟨4, ![1, 1, 1, 2048]⟩ : Shape)).symm G)
  rw [Fin.sum_univ_def, ← zero_add (List.sum _), ← foldl_add_terms]
  unfold Ideal.hostReduceWindowAdd Host.reduceWindow
  refine congrArg (fun F => List.foldl F (0 : EReal) _) (funext₂ fun r n => congrArg (r + ·) ?_)
  let p : (⟨4, ![1, 1, 1, 2048]⟩ : Shape).Idx := (Shape.rowMajor (⟨4, ![1, 1, 1, 2048]⟩ : Shape)).symm n
  show _ = G p
  dsimp only
  have h0 : (p 0).val = 0 := congrArg Fin.val (Subsingleton.elim (α := Fin 1) (p 0) 0)
  have h1 : (p 1).val = 0 := congrArg Fin.val (Subsingleton.elim (α := Fin 1) (p 1) 0)
  have h2 : (p 2).val = 0 := congrArg Fin.val (Subsingleton.elim (α := Fin 1) (p 2) 0)
  by_cases hw : k.val + (p 3).val < 2048
  · have hG : G p = x (ix4 b h q ⟨k.val + (p 3).val, hw⟩) := dif_pos hw
    rw [hG, dif_pos]
    · refine congrArg x (funext fun a => Fin.ext ?_)
      match a with
      | ⟨0, _⟩ => show b.val * 1 + (p 0).val - 0 = b.val; omega
      | ⟨1, _⟩ => show h.val * 1 + (p 1).val - 0 = h.val; omega
      | ⟨2, _⟩ => show q.val * 1 + (p 2).val - 0 = q.val; omega
      | ⟨3, _⟩ => show k.val * 1 + (p 3).val - 0 = k.val + (p 3).val; omega
    · intro a
      match a with
      | ⟨0, _⟩ => show 0 ≤ b.val * 1 + (p 0).val ∧ b.val * 1 + (p 0).val - 0 < 16; omega
      | ⟨1, _⟩ => show 0 ≤ h.val * 1 + (p 1).val ∧ h.val * 1 + (p 1).val - 0 < 8; omega
      | ⟨2, _⟩ => show 0 ≤ q.val * 1 + (p 2).val ∧ q.val * 1 + (p 2).val - 0 < 2048; omega
      | ⟨3, _⟩ => show 0 ≤ k.val * 1 + (p 3).val ∧ k.val * 1 + (p 3).val - 0 < 2048; omega
  · have hG : G p = 0 := dif_neg hw
    rw [hG, dif_neg]
    intro hin
    have h3 : 0 ≤ k.val * 1 + (p 3).val ∧ k.val * 1 + (p 3).val - 0 < 2048 := hin 3
    omega

/-- The reversed cumulative sum of real entries, given at every key. -/
theorem suffix_sum_coe (x : Cert.ReferenceIdeal.S16x8x2048x2048.Idx → EReal)
    (H : Cert.ReferenceIdeal.S16x8x2048x2048.ReduceWindows ![1, 1, 1, 2048] ![1, 1, 1, 1] ![0, 0, 0, 0] ![0, 0, 0, 2047] Cert.ReferenceIdeal.S16x8x2048x2048)
    (b : Fin 16) (h : Fin 8) (q k : Fin 2048) (L : ℕ → ℝ) (hx : ∀ k : Fin 2048, x (ix4 b h q k) = ((L k.val : ℝ) : EReal)) :
    Ideal.hostReduceWindowAdd ![1, 1, 1, 2048] ![1, 1, 1, 1] ![0, 0, 0, 0] ![0, 0, 0, 2047] H x 0 (ix4 b h q k)
      = ((∑ k' ∈ Finset.Ico k.val 2048, L k' : ℝ) : EReal) := by
  rw [suffix_sum_apply]
  have e : ∀ w : Fin 2048, (if hw : k.val + w.val < 2048 then x (ix4 b h q ⟨k.val + w.val, hw⟩) else 0)
      = (((if k.val + w.val < 2048 then L (k.val + w.val) else 0) : ℝ) : EReal) := fun w => by
    split
    · rw [hx]
    · rfl
  rw [Finset.sum_congr rfl fun w _ => e w, coe_sum, Fin.sum_univ_eq_sum_range (fun w => if k.val + w < 2048 then L (k.val + w) else 0) 2048,
    Finset.sum_Ico_eq_sum_range]
  congr 1
  rw [← Finset.sum_filter]
  refine Finset.sum_congr ?_ fun _ _ => rfl
  ext w
  simp only [Finset.mem_filter, Finset.mem_range]
  omega

end Cert.Stick

namespace Cert.ReferenceIdeal.Own

open Idealize.ShloMosaic Idealize.ShloMosaic.TcCoe Idealize.ShloMosaic.Pointwise Cert.ReferenceIdeal.Gen Cert.ReferenceIdeal.Read Cert.Stick

variable (x0 : S32768x512.Idx → EReal) (x1 x2 : S16x8x512x256.Idx → EReal) (x3 : S8.Idx → EReal)
  (Q : S32768x512.Idx → ℝ) (K : S16x8x512x256.Idx → ℝ) (B : S8.Idx → ℝ)
  (b : Fin 16) (h : Fin 8) (q k : Fin 2048)

theorem query_read (d : Fin 64) :
    val_main_v1 (F := Ideal) x0 (lidx_main_v14 (ix4 b h q k) d)
      = x0 (ix2 (⟨b.val * 2048 + q.val, by omega⟩ : Fin 32768) (⟨64 * h.val + d.val, by omega⟩ : Fin 512)) := by
  rw [val_main_v1_apply, val_main_v0_apply]
  refine congrArg x0 (funext fun a => Fin.ext ?_)
  match a with
  | ⟨0, _⟩ => show (((b.val * 2048 + q.val) * 8 + h.val) * 64 + d.val) / 512 = b.val * 2048 + q.val; omega
  | ⟨1, _⟩ => show (((b.val * 2048 + q.val) * 8 + h.val) * 64 + d.val) % 512 = 64 * h.val + d.val; omega

theorem key_read (d : Fin 64) :
    val_main_v4 (F := Ideal) x1 (ridx_main_v14 (ix4 b h q k) d)
      = x1 (ix4 b (⟨k.val / 256 % 8, by omega⟩ : Fin 8) (⟨64 * h.val + d.val, by omega⟩ : Fin 512) (⟨k.val % 256, by omega⟩ : Fin 256)) := by
  rw [val_main_v4_apply, val_main_v3_apply, val_main_v2_apply]
  refine congrArg x1 (funext fun a => Fin.ext ?_)
  match a with
  | ⟨0, _⟩ => show (((b.val * 2048 + k.val) * 8 + h.val) * 64 + d.val) / 1048576 = b.val; omega
  | ⟨1, _⟩ => show (((b.val * 2048 + k.val) * 8 + h.val) * 64 + d.val) / 131072 % 8 = k.val / 256 % 8; omega
  | ⟨2, _⟩ => show (((b.val * 2048 + k.val) * 8 + h.val) * 64 + d.val) % 512 = 64 * h.val + d.val; omega
  | ⟨3, _⟩ => show (((b.val * 2048 + k.val) * 8 + h.val) * 64 + d.val) / 512 % 256 = k.val % 256; omega

theorem value_read (d : Fin 64) :
    val_main_v7 (F := Ideal) x2 (lidx_main_v27 (ix4 b h d q) k) = fullValue x2 b ⟨64 * h.val + d.val, by omega⟩ k.val := by
  rw [val_main_v7_apply, val_main_v6_apply, val_main_v5_apply]
  refine congrArg x2 (funext fun a => Fin.ext ?_)
  match a with
  | ⟨0, _⟩ => show (((b.val * 2048 + k.val) * 8 + h.val) * 64 + d.val) / 1048576 = b.val; omega
  | ⟨1, _⟩ => show (((b.val * 2048 + k.val) * 8 + h.val) * 64 + d.val) / 131072 % 8 = k.val / 256 % 8; omega
  | ⟨2, _⟩ => show (((b.val * 2048 + k.val) * 8 + h.val) * 64 + d.val) % 512 = 64 * h.val + d.val; omega
  | ⟨3, _⟩ => show (((b.val * 2048 + k.val) * 8 + h.val) * 64 + d.val) / 512 % 256 = k.val % 256; omega

/-- Which keys a query sees: those before it. -/
theorem mask_read (i : S2048x2048.Idx) (hi : i = ix2 q k) :
    val_main_v13 (F := Ideal) i = if k.val < q.val then 1#1 else 0#1 := by
  subst hi
  rw [val_main_v13_apply, val_main_v11_apply, val_main_v9_apply, val_main_v12_apply, val_main_v10_apply, val_main_v8_apply, val_main_v8_apply]
  exact Cert.KernelIdeal.Own.slt_ofNat k.val q.val (by omega) (by omega)

theorem mask_idx (a : S2048x2048.Idx) (h0 : a 0 = q) (h1 : a 1 = k) : a = ix2 q k := by
  rw [eq_ix2 a, h0, h1]

variable (hQ : ∀ y, x0 y = (Q y : EReal)) (hK : ∀ y, x1 y = (K y : EReal)) (hB : ∀ y, x3 y = (B y : EReal))

include hQ hK hB

theorem logit_read : val_main_v17 (F := Ideal) x0 x1 x3 (ix4 b h q k) = (fullLogit Q K B b h q k.val : EReal) := by
  rw [val_main_v17_apply, val_main_v14_apply, val_main_v16_apply, val_main_v15_apply]
  have e : ∀ d : Fin 64, val_main_v1 (F := Ideal) x0 (lidx_main_v14 (ix4 b h q k) d) * val_main_v4 (F := Ideal) x1 (ridx_main_v14 (ix4 b h q k) d)
      = ((Q (ix2 (⟨b.val * 2048 + q.val, by omega⟩ : Fin 32768) (⟨64 * h.val + d.val, by omega⟩ : Fin 512))
          * K (ix4 b (⟨k.val / 256 % 8, by omega⟩ : Fin 8) (⟨64 * h.val + d.val, by omega⟩ : Fin 512) (⟨k.val % 256, by omega⟩ : Fin 256)) : ℝ) : EReal) :=
    fun d => by rw [query_read, key_read, hQ, hK, EReal.coe_mul]
  rw [Finset.sum_congr rfl fun d _ => e d, coe_sum, hB]
  have eh : idx_main_v15 (idx_main_v16 (ix4 b h q k)) = ix1 h := eq_ix1 _
  rw [eh]
  exact (EReal.coe_add _ _).symm

/-- The log of the rest of the stick at a key. -/
theorem rest_read : val_main_v19 (F := Ideal) x0 x1 x3 (ix4 b h q k) = (logRest (fullLogit Q K B b h q k.val) : EReal) := by
  rw [← refLogSigmoid_neg, ← logit_read x0 x1 x3 Q K B b h q k hQ hK hB]
  simp only [val_main_v19_apply, val_main_call0_v1_apply, val_main_call0_call0_v4_apply, val_main_call0_call0_v6_apply, val_main_call0_call0_v11_apply,
    val_main_call0_call0_v10_apply, val_main_call0_call0_v9_apply, val_main_call0_call0_v8_apply, val_main_call0_call0_v7_apply,
    val_main_call0_call0_v5_apply, val_main_call0_call0_v3_apply, val_main_call0_call0_v2_apply, val_main_call0_call0_v1_apply,
    val_main_call0_call0_v0_apply, val_main_call0_call0_cst_apply, val_main_call0_v0_apply, val_main_v18_apply, Ideal.ofBits_def, Ideal.ofBits_zero_f32]
  rfl

/-- The log of the part taken at a key. -/
theorem beta_read : val_main_v23 (F := Ideal) x0 x1 x3 (ix4 b h q k) = (logBeta (fullLogit Q K B b h q k.val) : EReal) := by
  rw [← refLogSigmoid_coe, ← logit_read x0 x1 x3 Q K B b h q k hQ hK hB]
  simp only [val_main_v23_apply, val_main_call3_v1_apply, val_main_call3_call0_v4_apply, val_main_call3_call0_v6_apply, val_main_call3_call0_v11_apply,
    val_main_call3_call0_v10_apply, val_main_call3_call0_v9_apply, val_main_call3_call0_v8_apply, val_main_call3_call0_v7_apply,
    val_main_call3_call0_v5_apply, val_main_call3_call0_v3_apply, val_main_call3_call0_v2_apply, val_main_call3_call0_v1_apply,
    val_main_call3_call0_v0_apply, val_main_call3_call0_cst_apply, val_main_call3_v0_apply, Ideal.ofBits_def, Ideal.ofBits_zero_f32]
  rfl

theorem rests_read : val_main_v20 (F := Ideal) x0 x1 x3 (ix4 b h q k) = (lo (fullLogit Q K B b h q) q.val k.val : EReal) := by
  rw [val_main_v20_apply, val_main_call1_v1_apply, mask_read q k _ (mask_idx q k _ rfl rfl),
    rest_read x0 x1 x3 Q K B b h q k hQ hK hB, val_main_call1_v2_apply, val_main_call1_v0_apply,
    val_main_cst_apply, Ideal.ofBits_def]
  unfold lo
  split
  · rfl
  · exact Ideal.ofBits_zero_f32

/-- The logs of the rest summed from a key on. -/
theorem suffix_read : val_main_v21 (F := Ideal) x0 x1 x3 (ix4 b h q k)
    = ((∑ k' ∈ Finset.Ico k.val 2048, lo (fullLogit Q K B b h q) q.val k' : ℝ) : EReal) := by
  have hx := fun k => rests_read x0 x1 x3 Q K B b h q k hQ hK hB
  have h0 : val_main_call2_v0 (F := Ideal) (Shape.Idx.first h_S_) = 0 := by
    rw [val_main_call2_v0_apply, val_main_call2_cst_apply, Ideal.ofBits_def, Ideal.ofBits_zero_f32]
  unfold val_main_v21
  generalize val_main_v20 (F := Ideal) x0 x1 x3 = y at hx ⊢
  unfold Host.reduceWindowAdd
  rw [h0, Ideal.hostReduceWindowAdd_def]
  exact suffix_sum_coe y _ b h q k _ hx

/-- A key's weight. -/
theorem weight_read : val_main_v26 (F := Ideal) x0 x1 x3 (ix4 b h q k) = (wt (fullLogit Q K B b h q) q.val 2048 k.val : EReal) := by
  rw [val_main_v26_apply, val_main_call4_v1_apply, mask_read q k _ (mask_idx q k _ rfl rfl)]
  unfold wt
  split
  · show val_main_v25 (F := Ideal) x0 x1 x3 (ix4 b h q k) = _
    rw [val_main_v25_apply, val_main_v24_apply, val_main_v22_apply, beta_read x0 x1 x3 Q K B b h q k hQ hK hB,
      rests_read x0 x1 x3 Q K B b h q k hQ hK hB]
    rw [suffix_read x0 x1 x3 Q K B b h q k hQ hK hB, Finset.sum_eq_sum_Ico_succ_bot k.isLt]
    rw [Ideal.addf_def, Ideal.subf_def, Ideal.hostUnary_exp_def]
    rw [← EReal.coe_sub, ← EReal.coe_add, exp_coe]
    congr 3
    ring
  · show val_main_call4_v2 (F := Ideal) (ix4 b h q k) = _
    rw [val_main_call4_v2_apply, val_main_call4_v0_apply, val_main_cst_0_apply, Ideal.ofBits_def]
    exact Ideal.ofBits_zero_f32

/-- The reference at row `q` of a batch element, in lane `d` of head `h`: the weighted sum of the values. -/
theorem result_read (d : Fin 64) :
    val_main_v29 (F := Ideal) x0 x1 x2 x3 (ix2 (⟨b.val * 2048 + q.val, by omega⟩ : Fin 32768) (⟨64 * h.val + d.val, by omega⟩ : Fin 512))
      = ∑ k : Fin 2048, (wt (fullLogit Q K B b h q) q.val 2048 k.val : EReal) * fullValue x2 b ⟨64 * h.val + d.val, by omega⟩ k.val := by
  rw [val_main_v29_apply, val_main_v28_apply]
  have e : idx_main_v28 (idx_main_v29 (ix2 (⟨b.val * 2048 + q.val, by omega⟩ : Fin 32768) (⟨64 * h.val + d.val, by omega⟩ : Fin 512))) = ix4 b h d q :=
    funext fun a => Fin.ext (by
      match a with
      | ⟨0, _⟩ => show ((b.val * 2048 + q.val) * 512 + (64 * h.val + d.val)) / 1048576 = b.val; omega
      | ⟨1, _⟩ => show ((b.val * 2048 + q.val) * 512 + (64 * h.val + d.val)) / 64 % 8 = h.val; omega
      | ⟨2, _⟩ => show ((b.val * 2048 + q.val) * 512 + (64 * h.val + d.val)) % 64 = d.val; omega
      | ⟨3, _⟩ => show ((b.val * 2048 + q.val) * 512 + (64 * h.val + d.val)) / 512 % 2048 = q.val; omega)
  rw [e, val_main_v27_apply]
  refine Finset.sum_congr rfl fun k _ => ?_
  have er : ridx_main_v27 (ix4 b h d q) k = ix4 b h q k := eq_ix4 _
  rw [value_read, er, weight_read x0 x1 x3 Q K B b h q k hQ hK hB, mul_comm]

end Cert.ReferenceIdeal.Own

end
-- ==== Proof.Whole.lean ====
/- The kernel's output array is the reference's, for finite queries, keys and biases. -/
module

public import proofs.«01_k».proof.Proof.Out
public import proofs.«01_k».proof.Proof.Ref
public import proofs.«01_k».proof.Proof.Gen.KernelIdeal.Value
public import Idealize.ShloMosaic.Lib.Pipeline.ValueKit

@[expose] public section

set_option maxRecDepth 16384

noncomputable section

namespace Cert.Stick

/-- Keys from the query on leave nothing to the weights, so where the keys end does not matter. -/
theorem wt_end (Z : ℕ → ℝ) {n E N : ℕ} (hn : n ≤ E) (hE : E ≤ N) (k : ℕ) : wt Z n N k = wt Z n E k := by
  unfold wt
  split
  · congr 2
    symm
    refine Finset.sum_subset (Finset.Ico_subset_Ico_right hE) fun x hx hx' => ?_
    simp only [Finset.mem_Ico] at hx hx'
    exact if_neg (by omega)
  · rfl

/-- A query's weighted sum over all the keys is the sum over those before some later place. -/
theorem weighted_sum_end (Z : ℕ → ℝ) (V : ℕ → EReal) {n E N : ℕ} (hn : n ≤ E) (hE : E ≤ N) :
    ∑ k ∈ Finset.range E, (wt Z n E k : EReal) * V k = ∑ k : Fin N, (wt Z n N k.val : EReal) * V k.val := by
  rw [Fin.sum_univ_eq_sum_range (fun k => (wt Z n N k : EReal) * V k) N]
  rw [Finset.sum_congr rfl fun k _ => by rw [← wt_end Z hn hE k]]
  refine Finset.sum_subset (Finset.range_subset_range.2 hE) fun x _ hx => ?_
  have hx' : ¬ x < n := by simp only [Finset.mem_range] at hx; omega
  rw [show wt Z n N x = 0 from if_neg hx', EReal.coe_zero, zero_mul]

end Cert.Stick

namespace Cert.KernelIdeal.Own

open Idealize.ShloMosaic Idealize.ShloMosaic.TcCoe Idealize.ShloMosaic.Tactic Idealize.SL.Sem Cert.KernelIdeal.Gen Cert.Stick
open Idealize.ShloMosaic.Pointwise

theorem bias_block : ∀ t : Fin cfg0.N, win0_0.index t = ![0] :=
  (by decide +kernel : ∀ t : Fin grid0.N, _)

theorem query_block : ∀ t : Fin cfg0.N, win0_1.index t = ![(grid0.coords t 0).val * 8 + (grid0.coords t 1).val, 0] :=
  (by decide +kernel : ∀ t : Fin grid0.N, _)

theorem key_block : ∀ t : Fin cfg0.N, win0_2.index t = ![(grid0.coords t 0).val, 0, 0, 0] :=
  (by decide +kernel : ∀ t : Fin grid0.N, _)

theorem value_block : ∀ t : Fin cfg0.N, win0_3.index t = ![(grid0.coords t 0).val, 0, 0, 0] :=
  (by decide +kernel : ∀ t : Fin grid0.N, _)

theorem out_block : ∀ t : Fin cfg0.N, win0_4.index t = ![(grid0.coords t 0).val * 8 + (grid0.coords t 1).val, 0] :=
  (by decide +kernel : ∀ t : Fin grid0.N, _)

variable (m : (ℓ : Loc nD τ sig) → Buf (Elt Ideal) ℓ) (c : Dev nD)

theorem emb_out (t : Fin cfg0.N) (y : S256x512.Idx) (b : Fin 16) (q : Fin 2048) (h : Fin 8) (d : Fin 64)
    (hb : b.val = (grid0.coords t 0).val) (hq : q.val = (grid0.coords t 1).val * 256 + (y 0).val) (hd : 64 * h.val + d.val = (y 1).val) :
    (win0_4.blk t).view.emb y = ix2 (⟨b.val * 2048 + q.val, by omega⟩ : Fin 32768) (⟨64 * h.val + d.val, by omega⟩ : Fin 512) := by
  blk_ext [out_block t]

theorem query_blk (Q : S32768x512.Idx → ℝ) (hQ : ∀ y, m ((c.tc : Thread nD τ).loc main_arg0) y = (Q y : EReal)) (t : Fin cfg0.N) (y : S256x512.Idx) :
    iblk m c 1 t y = (Q ((win0_1.blk t).view.emb y) : EReal) := by
  blk_simp [iblk]
  rw [V_main_arg0]
  exact hQ _

theorem key_blk (K : S16x8x512x256.Idx → ℝ) (hK : ∀ y, m ((c.tc : Thread nD τ).loc main_arg1) y = (K y : EReal)) (t : Fin cfg0.N) (y : S1x8x512x256.Idx) :
    iblk m c 2 t y = (K ((win0_2.blk t).view.emb y) : EReal) := by
  blk_simp [iblk]
  rw [V_main_arg1]
  exact hK _

theorem bias_blk (B : S8.Idx → ℝ) (hB : ∀ y, m ((c.tc : Thread nD τ).loc main_arg3) y = (B y : EReal)) (t : Fin cfg0.N) (y : S8.Idx) :
    iblk m c 0 t y = (B ((win0_0.blk t).view.emb y) : EReal) := by
  blk_simp [iblk]
  rw [V_main_arg3]
  exact hB _

theorem value_blk (t : Fin cfg0.N) (b : Fin 16) (hb : b.val = (grid0.coords t 0).val) (d : Fin 512) (k : ℕ) :
    valueOf (iblk m c 3 t) d k = fullValue (m ((c.tc : Thread nD τ).loc main_arg2)) b d k := by
  unfold valueOf fullValue
  blk_simp [iblk]
  rw [V_main_arg2]
  refine congrArg _ ?_
  blk_ext [value_block t]

theorem logit_blk (Q : S32768x512.Idx → ℝ) (K : S16x8x512x256.Idx → ℝ) (B : S8.Idx → ℝ) (t : Fin cfg0.N) (b : Fin 16) (q : Fin 2048) (h : Fin 8)
    (r : Fin 256) (hb : b.val = (grid0.coords t 0).val) (hq : q.val = (grid0.coords t 1).val * 256 + r.val) :
    logitOf (fun y => Q ((win0_1.blk t).view.emb y)) (fun y => K ((win0_2.blk t).view.emb y)) (fun y => B ((win0_0.blk t).view.emb y)) h r
      = fullLogit Q K B b h q := by
  funext k
  unfold logitOf fullLogit
  refine congrArg₂ (· + ·) (Finset.sum_congr rfl fun d _ => congrArg₂ (· * ·) (congrArg Q ?_) (congrArg K ?_)) (congrArg B ?_)
  · blk_ext [query_block t]
  · blk_ext [key_block t]
  · blk_ext [bias_block t]

theorem out_point (Q : S32768x512.Idx → ℝ) (K : S16x8x512x256.Idx → ℝ) (B : S8.Idx → ℝ)
    (hQ : ∀ y, m ((c.tc : Thread nD τ).loc main_arg0) y = (Q y : EReal))
    (hK : ∀ y, m ((c.tc : Thread nD τ).loc main_arg1) y = (K y : EReal))
    (hB : ∀ y, m ((c.tc : Thread nD τ).loc main_arg3) y = (B y : EReal)) (t : Fin cfg0.N) (y : S256x512.Idx) :
    out0_A_4 c (grid0.coords t) (ms0_0 t) (hs0_0 t) (ms0_1 t) (hs0_1 t) (ms0_2 t) (hs0_2 t) (ms0_3 t) (hs0_3 t) (ms0_4 t) (hs0_4 t)
        scM0_0 (Memref.isWhole_whole _) scM0_1 (Memref.isWhole_whole _) scM0_2 (Memref.isWhole_whole _)
        (iblk m c 0 t) (iblk m c 1 t) (iblk m c 2 t) (iblk m c 3 t) y
      = Cert.ReferenceIdeal.Read.val_main_v29 (F := Ideal) (m ((c.tc : Thread nD τ).loc main_arg0)) (m ((c.tc : Thread nD τ).loc main_arg1))
          (m ((c.tc : Thread nD τ).loc main_arg2)) (m ((c.tc : Thread nD τ).loc main_arg3)) ((win0_4.blk t).view.emb y) := by
  obtain ⟨r, d, rfl⟩ : ∃ (r : Fin 256) (d : Fin 512), y = ix2 r d := ⟨y 0, y 1, eq_ix2 y⟩
  have hi0 : (grid0.coords t 0).val < 16 := (grid0.coords t 0).isLt
  have hi1 : (grid0.coords t 1).val < 8 := (grid0.coords t 1).isLt
  have hd : 64 * (d.val / 64) + d.val % 64 = d.val := Nat.div_add_mod _ _
  rw [emb_out t (ix2 r d) ⟨(grid0.coords t 0).val, hi0⟩ ⟨(grid0.coords t 1).val * 256 + r.val, by omega⟩ ⟨d.val / 64, by omega⟩ ⟨d.val % 64, by omega⟩ rfl rfl hd,
    Cert.ReferenceIdeal.Own.result_read _ _ _ _ Q K B _ _ _ hQ hK hB,
    out_apply _ _ _ _ _ _ _ _ _ _ _ _ _ _ _ _ _ _ _ _ _ _ _ _ _ (bias_blk m c B hB t) (query_blk m c Q hQ t) (key_blk m c K hK t) r d]
  refine Eq.trans ?_ (weighted_sum_end (fullLogit Q K B ⟨(grid0.coords t 0).val, hi0⟩ ⟨d.val / 64, by omega⟩ ⟨(grid0.coords t 1).val * 256 + r.val, by omega⟩)
    (fullValue (m ((c.tc : Thread nD τ).loc main_arg2)) ⟨(grid0.coords t 0).val, hi0⟩ ⟨64 * (d.val / 64) + d.val % 64, by omega⟩)
    (n := (grid0.coords t 1).val * 256 + r.val) (E := ((grid0.coords t 1).val + 1) * 256) (N := 2048) (by omega) (by omega))
  refine Finset.sum_congr rfl fun k _ => ?_
  rw [value_blk m c t ⟨(grid0.coords t 0).val, hi0⟩ rfl]
  have eZ := logit_blk Q K B t ⟨(grid0.coords t 0).val, hi0⟩ ⟨(grid0.coords t 1).val * 256 + r.val, by omega⟩ ⟨d.val / 64, by omega⟩ r rfl rfl
  rw [eZ]
  have ed : (⟨64 * (d.val / 64) + d.val % 64, by omega⟩ : Fin 512) = d := Fin.ext hd
  rw [ed]

/-- The output array after the run. -/
theorem final (Q : S32768x512.Idx → ℝ) (K : S16x8x512x256.Idx → ℝ) (B : S8.Idx → ℝ)
    (hQ : ∀ y, m ((c.tc : Thread nD τ).loc main_arg0) y = (Q y : EReal))
    (hK : ∀ y, m ((c.tc : Thread nD τ).loc main_arg1) y = (K y : EReal))
    (hB : ∀ y, m ((c.tc : Thread nD τ).loc main_arg3) y = (B y : EReal)) :
    (dats m 0 c).arrAt 4 cfg0.N
      = Cert.ReferenceIdeal.Read.val_main_v29 (F := Ideal) (m ((c.tc : Thread nD τ).loc main_arg0)) (m ((c.tc : Thread nD τ).loc main_arg1))
          (m ((c.tc : Thread nD τ).loc main_arg2)) (m ((c.tc : Thread nD τ).loc main_arg3)) := by
  refine (dats m 0 c).arrAt_eq_of_covers 4 _ (by decide +kernel) fun t hf y => ?_
  blk_simp
  rw [after0_4]
  simp only [outsAt0]
  exact out_point m c Q K B hQ hK hB t y

end Cert.KernelIdeal.Own

end
-- ==== Proof.TailRow.lean ====
/- One row of the layer's tail over the extended reals: the mixer's output, the attention over the memory, the
   feed-forward and the last norm, as functions of the row's inputs and of the weights. -/
module

public import Idealize.ShloMosaic.PureOps.Ideal.Laws

@[expose] public section

noncomputable section

namespace Cert.Tail

open Idealize.ShloMosaic

/-- The norms' small constant. -/
def eps : EReal := Ideal.ofBits .f32 0x358637BD#32

/-- The widths as the norms' divisors. -/
def half : EReal := Ideal.ofBits .f32 0x44000000#32

def full : EReal := Ideal.ofBits .f32 0x44800000#32

/-- The scores' scale, one over the root of the heads' width. -/
def scale : EReal := (((Real.sqrt 128)⁻¹ : ℝ) : EReal)

/-- What a norm multiplies a row by. -/
def rmsFactor {n : ℕ} (D : EReal) (x : Fin n → EReal) : EReal := Ideal.rsqrt (Ideal.div (∑ k, x k * x k) D + eps)

/-- A row over its root mean square, times the gain. -/
def rms {n : ℕ} (D : EReal) (x g : Fin n → EReal) (j : Fin n) : EReal := x j * rmsFactor D x * g j

/-- A row times a matrix. -/
def proj {n m : ℕ} (x : Fin n → EReal) (W : Fin n → Fin m → EReal) (j : Fin m) : EReal := ∑ k, x k * W k j

/-- Two half rows as one row. -/
def joined (a c : Fin 512 → EReal) (k : Fin 1024) : EReal :=
  if h : k.val < 512 then a ⟨k.val, h⟩ else c ⟨k.val - 512, by omega⟩

/-- Lane `d` of head `h`. -/
def lane (h : Fin 4) (d : Fin 128) : Fin 512 := ⟨h.val * 128 + d.val, by omega⟩

/-- The head of a lane. -/
def headOf (j : Fin 512) : Fin 4 := ⟨j.val / 128, by omega⟩

/-- The scaled score of a query against memory row `i`, in head `h`. -/
def score (q : Fin 512 → EReal) (K : Fin 256 → Fin 512 → EReal) (h : Fin 4) (i : Fin 256) : EReal :=
  (∑ d : Fin 128, q (lane h d) * K i (lane h d)) * scale

/-- The greatest of a row of scores. -/
def top (s : Fin 256 → EReal) : EReal := Finset.univ.fold max (Ideal.ofBits .f32 0xFF800000#32) s

/-- A score's weight before it is normalised. -/
def expo (s : Fin 256 → EReal) (i : Fin 256) : EReal := Ideal.exp (s i - top s)

/-- A mean over the memory, the weights normalised after the sum. -/
def ratio (s v : Fin 256 → EReal) : EReal := Ideal.div (∑ i, expo s i * v i) (∑ i, expo s i)

/-- The gate's activation times the other factor. -/
def gated (g u : EReal) : EReal := Ideal.div g (1 + Ideal.exp (0 - g)) * u

/-- The reference's spelling of the gate's activation times the other factor. -/
def gatedRef (g u : EReal) : EReal :=
  g * Ideal.div 1 (1 + Ideal.exp (-g)) * u

/-- A row joined of two halves, times a matrix. -/
theorem proj_joined (a c : Fin 512 → EReal) (W : Fin 1024 → Fin 1024 → EReal) (j : Fin 1024) :
    proj (joined a c) W j = (∑ k : Fin 512, a k * W ⟨k.val, by omega⟩ j) + ∑ k : Fin 512, c k * W ⟨512 + k.val, by omega⟩ j := by
  unfold proj
  refine (Fin.sum_univ_add (a := 512) (b := 512) fun k => joined a c k * W k j).trans ?_
  refine congrArg₂ (· + ·) (Finset.sum_congr rfl fun k _ => ?_) (Finset.sum_congr rfl fun k _ => ?_)
  · have : joined a c (Fin.castAdd 512 k) = a k := by
      rw [joined, dif_pos (show (Fin.castAdd 512 k).val < 512 from k.isLt)]; rfl
    rw [this]; rfl
  · have : joined a c (Fin.natAdd 512 k) = c k := by
      rw [joined, dif_neg (show ¬(Fin.natAdd 512 k).val < 512 by simp)]
      exact congrArg c (Fin.ext (by simp))
    rw [this]; rfl

theorem max_fold (s : Fin 256 → EReal) (a : EReal) : max a (Finset.univ.fold max a s) = Finset.univ.fold max a s :=
  max_eq_right ((Finset.le_fold_max a).2 (Or.inl le_rfl))

/-- The weights of the tail. -/
structure Weights where
  conv : Fin 3 → Fin 512 → EReal
  gAttn : Fin 512 → EReal
  gConv : Fin 512 → EReal
  out : Fin 1024 → Fin 1024 → EReal
  gQ : Fin 1024 → EReal
  q : Fin 1024 → Fin 512 → EReal
  o : Fin 512 → Fin 1024 → EReal
  gFfn : Fin 1024 → EReal
  gate : Fin 1024 → Fin 2816 → EReal
  up : Fin 1024 → Fin 2816 → EReal
  down : Fin 2816 → Fin 1024 → EReal
  gFinal : Fin 1024 → EReal

/-- A row's inputs: the residual, the attention's output, the convolution's gate, its three rows (the row's own, the one
    before and the one before that), and the memory's keys and values. -/
structure Inputs where
  x : Fin 1024 → EReal
  attn : Fin 512 → EReal
  bg : Fin 512 → EReal
  u0 : Fin 512 → EReal
  u1 : Fin 512 → EReal
  u2 : Fin 512 → EReal
  keys : Fin 256 → Fin 512 → EReal
  values : Fin 256 → Fin 512 → EReal

variable (w : Weights) (t : Inputs)

def convRow (j : Fin 512) : EReal := t.bg j * (w.conv 0 j * t.u2 j + w.conv 1 j * t.u1 j + w.conv 2 j * t.u0 j)

/-- The residual after the mixer. -/
def hRow (j : Fin 1024) : EReal :=
  t.x j + proj (joined (rms half t.attn w.gAttn) (rms half (convRow w t) w.gConv)) w.out j

def qRow : Fin 512 → EReal := proj (rms full (hRow w t) w.gQ) w.q

def attendRow (j : Fin 512) : EReal := ratio (score (qRow w t) t.keys (headOf j)) fun i => t.values i j

/-- The residual after the attention over the memory. -/
def h2Row (j : Fin 1024) : EReal := hRow w t j + proj (attendRow w t) w.o j

def hnRow : Fin 1024 → EReal := rms full (h2Row w t) w.gFfn

def actRow (k : Fin 2816) : EReal := gated (proj (hnRow w t) w.gate k) (proj (hnRow w t) w.up k)

/-- The residual after the feed-forward. -/
def h3Row (j : Fin 1024) : EReal := h2Row w t j + proj (actRow w t) w.down j

def lastRow : Fin 1024 → EReal := rms full (h3Row w t) w.gFinal

end Cert.Tail

end
-- ==== Proof.TailReal.lean ====
/- Facts of the extended reals the two programs' rows differ by: where the weights are normalised, and how the
   activation is spelt. -/
module

public import proofs.«01_k».proof.Proof.TailRow

@[expose] public section

noncomputable section

namespace Cert.Tail

open Idealize.ShloMosaic

/-- An extended real that is a real. -/
def IsReal (x : EReal) : Prop := ∃ r : ℝ, x = (r : EReal)

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.sum {n : ℕ} {f : Fin n → EReal} (h : ∀ k, IsReal (f k)) : IsReal (∑ k, f k) := by
  induction n with
  | zero => exact ⟨0, by simp⟩
  | succ n ih =>
    rw [Fin.sum_univ_succ]
    exact (h 0).add (ih fun k => h k.succ)

/-! ## Constants -/

theorem ninf_f32 : Ideal.ofBits .f32 0xFF800000#32 = ⊥ := by
  simp [Ideal.ofBits, Ideal.ieee]

theorem full_eq : full = ((1024 : ℝ) : EReal) := by
  unfold full
  simp [Ideal.ofBits, Ideal.ieee]
  rw [← EReal.coe_mul]
  norm_num

theorem eps_pos : ∃ e : ℝ, 0 < e ∧ eps = (e : EReal) := by
  unfold eps
  simp [Ideal.ofBits, Ideal.ieee]
  rw [← EReal.coe_mul]
  exact ⟨_, by positivity, rfl⟩

theorem scale_real : IsReal scale := ⟨_, rfl⟩

/-! ## A norm's rows are real -/

theorem mul_self_nonneg' (x : EReal) : 0 ≤ x * x := by
  rcases le_total 0 x with h | h
  · exact mul_nonneg h h
  · have := EReal.neg_nonneg.2 h
    rw [← neg_mul_neg]
    exact mul_nonneg this this

/-- What a norm multiplies by is a nonnegative real, and is zero where the row has an infinite entry. -/
theorem rmsFactor_full {n : ℕ} (x : Fin n → EReal) :
    (∀ k, IsReal (x k)) ∧ IsReal (rmsFactor full x) ∨ rmsFactor full x = 0 := by
  by_cases h : ∀ k, IsReal (x k)
  · refine Or.inl ⟨h, ?_⟩
    obtain ⟨s, hs⟩ : IsReal (∑ k, x k * x k) := IsReal.sum fun k => (h k).mul (h k)
    have h0 : (0 : EReal) ≤ ∑ k, x k * x k := Finset.sum_nonneg fun k _ => mul_self_nonneg' _
    obtain ⟨e, he, ee⟩ := eps_pos
    rw [rmsFactor, full_eq, Ideal.div_coe (by norm_num), ee, hs]
    rw [hs] at h0
    have h0' : 0 ≤ s := by exact_mod_cast h0
    have hp : 0 < s * (1 / 1024) + e := by positivity
    rw [← EReal.coe_mul, ← EReal.coe_add, Ideal.rsqrt_coe, if_neg hp.not_gt, if_neg hp.ne']
    exact ⟨_, rfl⟩
  · refine Or.inr ?_
    obtain ⟨k, hk⟩ := not_forall.1 h
    have hxx : x k * x k = ⊤ := by
      induction hx : x k with
      | bot => rfl
      | top => rfl
      | coe r => exact absurd ⟨r, hx⟩ hk
    have hs : ∑ k, x k * x k = ⊤ := by
      refine top_le_iff.1 (hxx ▸ Finset.single_le_sum (f := fun k => x k * x k) (fun k _ => mul_self_nonneg' _) (Finset.mem_univ k))
    obtain ⟨e, he, ee⟩ := eps_pos
    rw [rmsFactor, hs, full_eq, Ideal.div_coe (by norm_num), EReal.top_mul_coe_of_pos (by norm_num), ee, EReal.top_add_coe, Ideal.rsqrt_top]

theorem rms_real {n : ℕ} (x g : Fin n → EReal) (hg : ∀ k, IsReal (g k)) (j : Fin n) : IsReal (rms full x g j) := by
  unfold rms
  rcases rmsFactor_full x with ⟨hx, hf⟩ | h
  · exact ((hx j).mul hf).mul (hg j)
  · rw [h, mul_zero, zero_mul]
    exact ⟨0, rfl⟩

/-! ## The weights -/

theorem top_real (s : Fin 256 → EReal) (hs : ∀ i, IsReal (s i)) : IsReal (top s) := by
  have hlt : top s < ⊤ := by
    unfold top
    rw [Finset.fold_max_lt, ninf_f32]
    refine ⟨bot_lt_top, fun i _ => ?_⟩
    obtain ⟨r, hr⟩ := hs i
    rw [hr]
    exact EReal.coe_lt_top r
  have hgt : ⊥ < top s := by
    obtain ⟨r, hr⟩ := hs 0
    refine lt_of_lt_of_le (EReal.bot_lt_coe r) ?_
    unfold top
    rw [Finset.le_fold_max]
    exact Or.inr ⟨0, Finset.mem_univ _, hr.ge⟩
  exact ⟨(top s).toReal, (EReal.coe_toReal hlt.ne hgt.ne').symm⟩

theorem expo_real (s : Fin 256 → EReal) (hs : ∀ i, IsReal (s i)) (i : Fin 256) : ∃ r : ℝ, 0 < r ∧ expo s i = (r : EReal) := by
  obtain ⟨t, ht⟩ := top_real s hs
  obtain ⟨r, hr⟩ := hs i
  refine ⟨Real.exp (r - t), Real.exp_pos _, ?_⟩
  rw [expo, ht, hr, ← EReal.coe_sub, Ideal.exp_coe]

theorem coe_sum {n : ℕ} (f : Fin n → ℝ) : ∑ k, (f k : EReal) = ((∑ k, f k : ℝ) : EReal) := by
  induction n with
  | zero => simp
  | succ n ih => rw [Fin.sum_univ_succ, Fin.sum_univ_succ, ih, EReal.coe_add]

/-- A sum times a nonnegative real is the sum of the products. -/
theorem sum_mul_coe {n : ℕ} (f : Fin n → EReal) (c : ℝ) (hc : 0 ≤ c) : (∑ k, f k) * (c : EReal) = ∑ k, f k * (c : EReal) := by
  induction n with
  | zero => simp
  | succ n ih =>
    rw [Fin.sum_univ_succ, Fin.sum_univ_succ, EReal.right_distrib_of_nonneg_of_ne_top (by exact_mod_cast hc) (EReal.coe_ne_top c), ih]

/-- Weights normalised before the sum give the mean normalised after it. -/
theorem sum_normalised (s v : Fin 256 → EReal) (hs : ∀ i, IsReal (s i)) :
    ∑ i, v i * Ideal.div (expo s i) (∑ i, expo s i) = ratio s v := by
  choose p hp hpe using expo_real s hs
  have hD : ∑ i, expo s i = ((∑ i, p i : ℝ) : EReal) := by
    rw [← coe_sum]
    exact Finset.sum_congr rfl fun i _ => hpe i
  have hpos : 0 < ∑ i, p i := Finset.sum_pos (fun i _ => hp i) ⟨0, Finset.mem_univ _⟩
  rw [ratio, hD, Ideal.div_coe hpos.ne', sum_mul_coe _ _ (by positivity)]
  refine Finset.sum_congr rfl fun i _ => ?_
  rw [Ideal.div_coe hpos.ne', ← mul_assoc, mul_comm (v i)]

/-! ## The activation -/

theorem exp_nonneg (x : EReal) : 0 ≤ Ideal.exp x := by
  induction x with
  | bot => exact le_refl _
  | top => exact le_top
  | coe r => rw [Ideal.exp_coe]; exact EReal.coe_nonneg.2 (Real.exp_pos r).le

theorem gatedRef_eq (g u : EReal) : gatedRef g u = gated g u := by
  have h : (1 : EReal) + Ideal.exp (-g) ≠ 0 := by
    have : (0 : EReal) < 1 + Ideal.exp (-g) := lt_of_lt_of_le zero_lt_one (le_add_of_nonneg_right (exp_nonneg _))
    exact this.ne'
  unfold gatedRef gated
  rw [zero_sub, Ideal.div, if_neg h, Ideal.div, if_neg h, one_mul]

end Cert.Tail

end
-- ==== Proof.TailPre.lean ====
/- What the tail's precondition says: the memory's gain, query weights and keys are real numbers. -/
module

public import proofs.«01_k».proof.Pre_finite_scores
public import proofs.«01_k».proof.Proof.Gen.Pre_finite_scores
public import proofs.«01_k».proof.Proof.TailReal
public import proofs.«01_k».proof.Proof.Pre

@[expose] public section

set_option maxRecDepth 16384

noncomputable section

namespace Cert.Pre_finite_scores.Own

open Idealize.ShloMosaic Idealize.ShloMosaic.Pointwise Cert.Pre_finite_scores.Gen Cert.Pre_finite_logits.Own Cert.Tail

variable (x0 : FVec Ideal S32768x1024 .f32) (x1 x2 x3 : FVec Ideal S32768x512 .f32) (x4 : FVec Ideal S16x8x512 .f32) (x5 : FVec Ideal S3x512 .f32)
  (x6 x7 : FVec Ideal S1x512 .f32) (x8 : FVec Ideal S1024x1024 .bf16) (x9 : FVec Ideal S1x1024 .f32) (x10 : FVec Ideal S1024x512 .bf16)
  (x11 x12 : FVec Ideal S4096x512 .f32) (x13 : FVec Ideal S512x1024 .bf16) (x14 : FVec Ideal S1x1024 .f32) (x15 x16 : FVec Ideal S1024x2816 .bf16)
  (x17 : FVec Ideal S2816x1024 .bf16) (x18 : FVec Ideal S1x1024 .f32)

/-- The precondition, read. -/
theorem reals (h : fn (F := Ideal) x0 x1 x2 x3 x4 x5 x6 x7 x8 x9 x10 x11 x12 x13 x14 x15 x16 x17 x18 = fun _ => 1#1) :
    (∀ y, IsReal (x9 y)) ∧ (∀ y, IsReal (x10 y)) ∧ ∀ y, IsReal (x11 y) := by
  have e := congrFun h (Shape.Idx.first h_S_)
  unfold fn fn_part1 at e
  obtain ⟨e01, e3⟩ := both e
  obtain ⟨e0, e1⟩ := both e01
  exact ⟨fun y => ⟨_, real_of_between (Host.reduce_andi_all _ _ _ _ _ e0 y)⟩, fun y => ⟨_, real_of_between (Host.reduce_andi_all _ _ _ _ _ e1 y)⟩,
    fun y => ⟨_, real_of_between (Host.reduce_andi_all _ _ _ _ _ e3 y)⟩⟩

end Cert.Pre_finite_scores.Own

end
-- ==== Proof.TailTile.lean ====
/- A tile of the tail: the body's payloads as a few operations on tiles, each read at an index. -/
module

public import proofs.«01_k».proof.Proof.TailRow
public import proofs.«01_k».proof.Proof.Gen.Kernel2Ideal.Skeleton
public import Idealize.ShloMosaic.Lib.Pointwise

@[expose] public section

noncomputable section

namespace Cert.Tail.Tile

open Idealize.ShloMosaic Idealize.ShloMosaic.TcCoe Cert.Kernel2Ideal Cert.Kernel2Ideal.Gen
open Idealize.ShloMosaic.Pointwise

theorem one_f32 : Ideal.ofBits .f32 0x3F800000#32 = 1 := by
  simp [Ideal.ofBits, Ideal.ieee]
  rw [← EReal.coe_mul]
  norm_num

/-! ## The norms -/

/-- A norm over tiles of full width. -/
def norm (x : FVec Ideal S512x1024 .f32) (g : FVec Ideal S1x1024 .f32) : FVec Ideal S512x1024 .f32 :=
  mulf (mulf x (broadcastTo S512x1024
    (rsqrt (addf (divf (shapeCast S512x1 (multiReduction .add [1] S512 (mulf x x) 0x00000000#32 reduces_S512x1024_S512 (.inl rfl) rfl) shapeCasts_S512_S512x1)
      (broadcast S512x1 (Scalar.ofBits .f32 0x44800000#32))) (broadcast S512x1 (Scalar.ofBits .f32 0x358637BD#32))))
    broadcasts_S512x1_S512x1024)) (broadcastTo S512x1024 g broadcasts_S1x1024_S512x1024)

/-- A norm over tiles of half width. -/
def normHalf (x : FVec Ideal S512x512 .f32) (g : FVec Ideal S1x512 .f32) : FVec Ideal S512x512 .f32 :=
  mulf (mulf x (broadcastTo S512x512
    (rsqrt (addf (divf (shapeCast S512x1 (multiReduction .add [1] S512 (mulf x x) 0x00000000#32 reduces_S512x512_S512 (.inl rfl) rfl) shapeCasts_S512_S512x1)
      (broadcast S512x1 (Scalar.ofBits .f32 0x44000000#32))) (broadcast S512x1 (Scalar.ofBits .f32 0x358637BD#32))))
    broadcasts_S512x1_S512x512)) (broadcastTo S512x512 g broadcasts_S1x512_S512x512)

theorem norm_apply (x : FVec Ideal S512x1024 .f32) (g : FVec Ideal S1x1024 .f32) (r : Fin 512) (j : Fin 1024) :
    norm x g (ix2 r j) = rms full (fun k => x (ix2 r k)) (fun k => g (ix2 (0 : Fin 1) k)) j := by
  pointwise [norm]
  rfl

theorem normHalf_apply (x : FVec Ideal S512x512 .f32) (g : FVec Ideal S1x512 .f32) (r : Fin 512) (j : Fin 512) :
    normHalf x g (ix2 r j) = rms half (fun k => x (ix2 r k)) (fun k => g (ix2 (0 : Fin 1) k)) j := by
  pointwise [normHalf]
  rfl

/-! ## The mixer -/

theorem conv_apply (u u1 u2 : FVec Ideal S512x512 .f32) (wc : FVec Ideal S3x512 .f32) (bg : FVec Ideal S512x512 .f32) (r j : Fin 512) :
    k0_pay4 u u1 u2 wc bg (ix2 r j) = bg (ix2 r j) * (wc (ix2 (0 : Fin 3) j) * u2 (ix2 r j) + wc (ix2 (1 : Fin 3) j) * u1 (ix2 r j)
      + wc (ix2 (2 : Fin 3) j) * u (ix2 r j)) := by
  pointwise [k0_pay4]

/-- The residual plus the two half rows' products. -/
def mix (x : FVec Ideal S512x1024 .f32) (a c : FVec Ideal S512x512 .f32) (wa wc : FVec Ideal S512x1024 .bf16) : FVec Ideal S512x1024 .f32 :=
  addf (addf x (matmul dot_S512x512_S512x1024_S512x1024_1_0_0_1_n_n none (truncf .bf16 a bitsLt_bf16_f32) wa (constant S512x1024 .f32 0x00000000#32)))
    (matmul dot_S512x512_S512x1024_S512x1024_1_0_0_1_n_n none (truncf .bf16 c bitsLt_bf16_f32) wc (constant S512x1024 .f32 0x00000000#32))

theorem mix_apply (x : FVec Ideal S512x1024 .f32) (a c : FVec Ideal S512x512 .f32) (wa wc : FVec Ideal S512x1024 .bf16) (r : Fin 512) (j : Fin 1024) :
    mix x a c wa wc (ix2 r j) = x (ix2 r j) + (∑ k : Fin 512, a (ix2 r k) * wa (ix2 k j)) + ∑ k : Fin 512, c (ix2 r k) * wc (ix2 k j) := by
  pointwise [mix]

theorem pay6_eq (u u1 u2 : FVec Ideal S512x512 .f32) (wc : FVec Ideal S3x512 .f32) (bg : FVec Ideal S512x512 .f32) (gc : FVec Ideal S1x512 .f32)
    (attn : FVec Ideal S512x512 .f32) (ga : FVec Ideal S1x512 .f32) (x : FVec Ideal S512x1024 .f32) (w1 w2 : FVec Ideal S512x1024 .bf16) :
    k0_pay6 (k0_pay4 u u1 u2 wc bg) gc (k0_pay5 u u1 u2 wc bg) attn ga x w1 w2
      = mix x (normHalf attn ga) (normHalf (k0_pay4 u u1 u2 wc bg) gc) w1 w2 := rfl

/-! ## The attention over the memory -/

/-- The queries. -/
def queries (h : FVec Ideal S512x1024 .f32) (g : FVec Ideal S1x1024 .f32) (wq : FVec Ideal S1024x512 .bf16) : FVec Ideal S512x512 .f32 :=
  matmul dot_S512x1024_S1024x512_S512x512_1_0_0_1_n_n none (truncf .bf16 (norm h g) bitsLt_bf16_f32) wq (constant S512x512 .f32 0x00000000#32)

theorem queries_apply (h : FVec Ideal S512x1024 .f32) (g : FVec Ideal S1x1024 .f32) (wq : FVec Ideal S1024x512 .bf16) (r : Fin 512) (j : Fin 512) :
    queries h g wq (ix2 r j) = ∑ k : Fin 1024, norm h g (ix2 r k) * wq (ix2 k j) := by
  pointwise [queries]

theorem named_scale : Named.named (F := Ideal) (φ := .f32) κ "ca_scale" 0x3DB504F3#32 = scale :=
  IdealRules.named_const.ideal_named_scalar _ _ _ _ rfl

/-- A head's weights before they are normalised. -/
def weights (q : FVec Ideal S512x128 .f32) (k : FVec Ideal S256x128 .f32) : FVec Ideal S512x256 .f32 :=
  let s : FVec Ideal S512x256 .f32 := mulf (matmul dot_S512x128_S256x128_S512x256_1_1_0_0_n_n none (truncf .bf16 q bitsLt_bf16_f32) (truncf .bf16 k bitsLt_bf16_f32)
    (constant S512x256 .f32 0x00000000#32)) (broadcast S512x256 (Named.named κ "ca_scale" 0x3DB504F3#32))
  exp (subf s (broadcastTo S512x256 (shapeCast S512x1
    (multiReduction .maximumf [1] S512 s 0xFF800000#32 reduces_S512x256_S512 (.inl rfl) rfl) shapeCasts_S512_S512x1) broadcasts_S512x1_S512x256))

/-- A head's output. -/
def mean (p : FVec Ideal S512x256 .f32) (v : FVec Ideal S256x128 .f32) : FVec Ideal S512x128 .f32 :=
  divf (matmul dot_S512x256_S256x128_S512x128_1_0_0_1_n_n none (truncf .bf16 p bitsLt_bf16_f32) (truncf .bf16 v bitsLt_bf16_f32)
    (constant S512x128 .f32 0x00000000#32)) (broadcastTo S512x128 (shapeCast S512x1
    (multiReduction .add [1] S512 p 0x00000000#32 reduces_S512x256_S512 (.inl rfl) rfl) shapeCasts_S512_S512x1) broadcasts_S512x1_S512x128)

theorem weights_apply (q : FVec Ideal S512x128 .f32) (k : FVec Ideal S256x128 .f32) (r : Fin 512) (i : Fin 256) :
    weights q k (ix2 r i) = expo (fun i => (∑ d : Fin 128, q (ix2 r d) * k (ix2 i d)) * scale) i := by
  rw [← named_scale]
  pointwise [weights]
  rfl

theorem mean_apply (p : FVec Ideal S512x256 .f32) (v : FVec Ideal S256x128 .f32) (r : Fin 512) (d : Fin 128) :
    mean p v (ix2 r d) = Ideal.div (∑ i : Fin 256, p (ix2 r i) * v (ix2 i d)) (∑ i : Fin 256, p (ix2 r i)) := by
  pointwise [mean]

theorem pay8_eq (v28 : FVec Ideal S512x512 .f32) (v29 : FVec Ideal S1x512 .f32) (v32 : FVec Ideal S512x1 .f32) (v43 : FVec Ideal S512x512 .f32)
    (v44 : FVec Ideal S1x512 .f32) (v58 : FVec Ideal S512x1024 .f32) (v59 v62 : FVec Ideal S512x1024 .bf16) (g : FVec Ideal S1x1024 .f32)
    (wq : FVec Ideal S1024x512 .bf16) :
    k0_pay8 (k0_pay6 v28 v29 v32 v43 v44 v58 v59 v62) g (k0_pay7 v28 v29 v32 v43 v44 v58 v59 v62) (FloatOps.ofBits .f32 0x358637BD#32) wq
      = queries (k0_pay6 v28 v29 v32 v43 v44 v58 v59 v62) g wq := rfl

theorem pay9_eq (h : FVec Ideal S512x1024 .f32) (g : FVec Ideal S1x1024 .f32) (f : FVec Ideal S512x1 .f32) (e : Ideal .f32) (wq : FVec Ideal S1024x512 .bf16)
    (k v : FVec Ideal S256x128 .f32) : k0_pay9 h g f e wq k v
      = mean (weights (extractStridedSlice S512x128 ![0, 0] (k0_pay8 h g f e wq) slices_S512x512_o0_0_S512x128) k) v := rfl

theorem pay11_eq (h : FVec Ideal S512x1024 .f32) (g : FVec Ideal S1x1024 .f32) (f : FVec Ideal S512x1 .f32) (e : Ideal .f32) (wq : FVec Ideal S1024x512 .bf16)
    (k v : FVec Ideal S256x128 .f32) : k0_pay11 (k0_pay10 h g f e wq k) v
      = mean (weights (extractStridedSlice S512x128 ![0, 128] (k0_pay8 h g f e wq) slices_S512x512_o0_128_S512x128) k) v := rfl

theorem pay12_eq (q : FVec Ideal S512x512 .f32) (k v : FVec Ideal S256x128 .f32) : k0_pay12 q k v
      = mean (weights (extractStridedSlice S512x128 ![0, 256] q slices_S512x512_o0_256_S512x128) k) v := rfl

/-- The residual plus the four heads' outputs through their matrix. -/
def attended (h : FVec Ideal S512x1024 .f32) (o0 o1 o2 o3 : FVec Ideal S512x128 .f32) (wo : FVec Ideal S512x1024 .bf16) : FVec Ideal S512x1024 .f32 :=
  addf h (matmul dot_S512x512_S512x1024_S512x1024_1_0_0_1_n_n none (truncf .bf16
    (concatenate S512x512 1 [⟨S512x128, o0⟩, ⟨S512x128, o1⟩, ⟨S512x128, o2⟩, ⟨S512x128, o3⟩] concatenates_S512x128_S512x128_S512x128_S512x128_S512x512_d1)
    bitsLt_bf16_f32) wo (constant S512x1024 .f32 0x00000000#32))

theorem pay15_eq (h : FVec Ideal S512x1024 .f32) (o0 o1 o2 : FVec Ideal S512x128 .f32) (q : FVec Ideal S512x512 .f32) (k v : FVec Ideal S256x128 .f32)
    (wo : FVec Ideal S512x1024 .bf16) : k0_pay15 h o0 o1 o2 (k0_pay13 q k) (k0_pay14 q k) v wo
      = attended h o0 o1 o2 (mean (weights (extractStridedSlice S512x128 ![0, 384] q slices_S512x512_o0_384_S512x128) k) v) wo := rfl

theorem attended_apply (h : FVec Ideal S512x1024 .f32) (o0 o1 o2 o3 : FVec Ideal S512x128 .f32) (wo : FVec Ideal S512x1024 .bf16) (r : Fin 512) (j : Fin 1024)
    (a : Fin 512 → EReal) (h0 : ∀ d : Fin 128, o0 (ix2 r d) = a (lane 0 d)) (h1 : ∀ d : Fin 128, o1 (ix2 r d) = a (lane 1 d))
    (h2 : ∀ d : Fin 128, o2 (ix2 r d) = a (lane 2 d)) (h3 : ∀ d : Fin 128, o3 (ix2 r d) = a (lane 3 d)) :
    attended h o0 o1 o2 o3 wo (ix2 r j) = h (ix2 r j) + ∑ k : Fin 512, a k * wo (ix2 k j) := by
  pointwise [attended]
  congr 1
  refine Finset.sum_congr rfl fun k _ => ?_
  congr 1
  split
  · rw [h0]
    exact congrArg a (Fin.ext (by simp [lane]))
  split
  · rw [h1]
    exact congrArg a (Fin.ext (by simp [lane]; omega))
  split
  · rw [h2]
    exact congrArg a (Fin.ext (by simp [lane]; omega))
  · rw [h3]
    exact congrArg a (Fin.ext (by simp [lane]; omega))

/-! ## The feed-forward -/

/-- A chunk's activations. -/
def chunk (x : FVec Ideal S512x1024 .bf16) (wg wu : FVec Ideal S1024x256 .bf16) : FVec Ideal S512x256 .bf16 :=
  let g : FVec Ideal S512x256 .f32 := matmul dot_S512x1024_S1024x256_S512x256_1_0_0_1_n_n none x wg (constant S512x256 .f32 0x00000000#32)
  truncf .bf16 (φ := .f32) (mulf (divf g (addf (broadcast S512x256 (Scalar.ofBits .f32 0x3F800000#32))
    (exp (subf (broadcast S512x256 (Scalar.ofBits .f32 0x00000000#32)) g))))
    (matmul dot_S512x1024_S1024x256_S512x256_1_0_0_1_n_n none x wu (constant S512x256 .f32 0x00000000#32))) bitsLt_bf16_f32

/-- A chunk's product added to the sum so far. -/
def step (x : FVec Ideal S512x1024 .bf16) (wg wu : FVec Ideal S1024x256 .bf16) (wd : FVec Ideal S256x1024 .bf16) (acc : FVec Ideal S512x1024 .f32) :
    FVec Ideal S512x1024 .f32 :=
  addf acc (matmul dot_S512x256_S256x1024_S512x1024_1_0_0_1_n_n none (chunk x wg wu) wd (constant S512x1024 .f32 0x00000000#32))

theorem chunk_apply (x : FVec Ideal S512x1024 .bf16) (wg wu : FVec Ideal S1024x256 .bf16) (r : Fin 512) (l : Fin 256) :
    chunk x wg wu (ix2 r l) = gated (∑ k : Fin 1024, x (ix2 r k) * wg (ix2 k l)) (∑ k : Fin 1024, x (ix2 r k) * wu (ix2 k l)) := by
  pointwise [chunk]
  rw [gated, ← one_f32]

theorem step_apply (x : FVec Ideal S512x1024 .bf16) (wg wu : FVec Ideal S1024x256 .bf16) (wd : FVec Ideal S256x1024 .bf16) (acc : FVec Ideal S512x1024 .f32)
    (r : Fin 512) (j : Fin 1024) :
    step x wg wu wd acc (ix2 r j) = acc (ix2 r j) + ∑ l : Fin 256, chunk x wg wu (ix2 r l) * wd (ix2 l j) := by
  pointwise [step]

variable (x : FVec Ideal S512x1024 .bf16) (acc : FVec Ideal S512x1024 .f32) (g0 u0 g1 u1 g2 u2 : FVec Ideal S1024x256 .bf16)
  (d0 d1 d2 : FVec Ideal S256x1024 .bf16)

theorem pay18_eq : k0_pay18 acc x (chunk x g0 u0) d0 (constant S512x1024 .f32 0x00000000#32) g1 u1 d1 g2 u2 d2
    = step x g2 u2 d2 (step x g1 u1 d1 (step x g0 u0 d0 acc)) := rfl

theorem pay20_eq : k0_pay20 x acc (k0_pay19 x g0) u0 d0 g1 u1 d1 = step x g1 u1 d1 (step x g0 u0 d0 acc) := rfl

theorem pay24_eq : k0_pay24 x acc (k0_pay21 x g0) (k0_pay22 x u0) (k0_pay23 x g0) d0 g1 u1 d1 = step x g1 u1 d1 (step x g0 u0 d0 acc) := rfl

theorem pay25_eq : k0_pay25 x g0 u0 = chunk x g0 u0 := rfl

theorem pay26_eq : k0_pay26 x acc (chunk x g0 u0) d0 g1 u1 d1 g2 u2 d2 = step x g2 u2 d2 (step x g1 u1 d1 (step x g0 u0 d0 acc)) := rfl

theorem pay1_eq (g : FVec Ideal S1x1024 .f32) : k0_pay1 x acc g0 (constant S512x256 .f32 0x00000000#32) u0 d0 g = norm (step x g0 u0 d0 acc) g := rfl

theorem pay16_eq (h : FVec Ideal S512x1024 .f32) (o0 o1 o2 : FVec Ideal S512x128 .f32) (p : FVec Ideal S512x256 .f32) (f : FVec Ideal S512x1 .f32)
    (v : FVec Ideal S256x128 .f32) (wo : FVec Ideal S512x1024 .bf16) (g : FVec Ideal S1x1024 .f32) :
    k0_pay16 h o0 o1 o2 p f v wo g = truncf .bf16 (norm (k0_pay15 h o0 o1 o2 p f v wo) g) bitsLt_bf16_f32 := rfl

theorem pay17_eq (h : FVec Ideal S512x1024 .f32) (o0 o1 o2 : FVec Ideal S512x128 .f32) (p : FVec Ideal S512x256 .f32) (f : FVec Ideal S512x1 .f32)
    (v : FVec Ideal S256x128 .f32) (wo : FVec Ideal S512x1024 .bf16) (g : FVec Ideal S1x1024 .f32) :
    k0_pay17 h o0 o1 o2 p f v wo g g0 u0 = chunk (k0_pay16 h o0 o1 o2 p f v wo g) g0 u0 := rfl

end Cert.Tail.Tile

end
-- ==== Proof.TailLoad.lean ====
/- What the tail's body leaves in its output block: the tile's operations over the input blocks. -/
module

public import proofs.«01_k».proof.Proof.TailTile
public import proofs.«01_k».proof.Proof.Gen.Kernel2Ideal.Value
public import Idealize.ShloMosaic.Lib.Pipeline.ValueKit

@[expose] public section

set_option maxRecDepth 16384

noncomputable section

namespace Cert.Tail.Tile

open Idealize.ShloMosaic Idealize.ShloMosaic.TcCoe Cert.Kernel2Ideal Cert.Kernel2Ideal.Gen
open Idealize.ShloMosaic.Pointwise

/-- A point's input blocks. -/
structure Blocks where
  x : FVec Ideal S512x1024 .f32
  attn : FVec Ideal S512x512 .f32
  bg : FVec Ideal S512x512 .f32
  u : FVec Ideal S512x512 .f32
  before : FVec Ideal S8x512 .f32
  init : FVec Ideal S1x8x512 .f32
  conv : FVec Ideal S3x512 .f32
  gAttn : FVec Ideal S1x512 .f32
  gConv : FVec Ideal S1x512 .f32
  out : FVec Ideal S1024x1024 .bf16
  gQ : FVec Ideal S1x1024 .f32
  q : FVec Ideal S1024x512 .bf16
  keys : FVec Ideal S256x512 .f32
  values : FVec Ideal S256x512 .f32
  o : FVec Ideal S512x1024 .bf16
  gFfn : FVec Ideal S1x1024 .f32
  gate : FVec Ideal S1024x2816 .bf16
  up : FVec Ideal S1024x2816 .bf16
  down : FVec Ideal S2816x1024 .bf16
  gFinal : FVec Ideal S1x1024 .f32

variable (i : grid0.Coords) (b : Blocks)

/-- The scratch's two stores: eight rows from before the tile, then the tile's own. -/
def stored : List (View.Piece (Elt Ideal) S520x512 .f32) :=
  [⟨Rect.unit (s := S520x512) ![8, 0] S512x512.size inb_S520x512_S512x512_8_0, k0_pay3 (F := Ideal) b.u⟩,
    ⟨Rect.unit (s := S520x512) ![0, 0] S8x512.size inb_S520x512_S8x512_0_0, k0_pay2 (F := Ideal) i b.init b.before⟩]

/-- The rows before. -/
def shift1 : FVec Ideal S512x512 .f32 :=
  (View.whole cc0_scratch0).readCov (stored i b) (Rect.unit (s := S520x512) ![7, 0] S512x512.size inb_S520x512_S512x512_7_0).toLoadRect

/-- The rows before those. -/
def shift2 : FVec Ideal S512x512 .f32 :=
  (View.whole cc0_scratch0).readCov (stored i b) (Rect.unit (s := S520x512) ![6, 0] S512x512.size inb_S520x512_S512x512_6_0).toLoadRect

theorem inb_head (h : Fin 4) : ∀ a, (![0, h.val * 128] : Fin 2 → ℕ) a + S256x128.size a ≤ S256x512.size a := by
  revert h; decide

theorem slices_head (h : Fin 4) : S512x512.Slices ![0, h.val * 128] S512x128 := by
  revert h; decide

theorem inb_cols (c : Fin 11) : ∀ a, (![0, c.val * 256] : Fin 2 → ℕ) a + S1024x256.size a ≤ S1024x2816.size a := by
  revert c; decide

theorem inb_rows (c : Fin 11) : ∀ a, (![c.val * 256, 0] : Fin 2 → ℕ) a + S256x1024.size a ≤ S2816x1024.size a := by
  revert c; decide

/-- A head's columns of the memory. -/
def headCols (x : FVec Ideal S256x512 .f32) (h : Fin 4) : FVec Ideal S256x128 .f32 :=
  View.ld (Val := Elt Ideal) (e' := .f32) x (Rect.unit (s := S256x512) ![0, h.val * 128] S256x128.size (inb_head h))

/-- A chunk's columns. -/
def cols (x : FVec Ideal S1024x2816 .bf16) (c : Fin 11) : FVec Ideal S1024x256 .bf16 :=
  View.ld (Val := Elt Ideal) (e' := .bf16) x (Rect.unit (s := S1024x2816) ![0, c.val * 256] S1024x256.size (inb_cols c))

/-- A chunk's rows. -/
def rows (x : FVec Ideal S2816x1024 .bf16) (c : Fin 11) : FVec Ideal S256x1024 .bf16 :=
  View.ld (Val := Elt Ideal) (e' := .bf16) x (Rect.unit (s := S2816x1024) ![c.val * 256, 0] S256x1024.size (inb_rows c))

/-- The upper and the lower half of the mixer's matrix. -/
def upper (x : FVec Ideal S1024x1024 .bf16) : FVec Ideal S512x1024 .bf16 :=
  View.ld (Val := Elt Ideal) (e' := .bf16) x (Rect.unit (s := S1024x1024) ![0, 0] S512x1024.size inb_S1024x1024_S512x1024_0_0)

def lower (x : FVec Ideal S1024x1024 .bf16) : FVec Ideal S512x1024 .bf16 :=
  View.ld (Val := Elt Ideal) (e' := .bf16) x (Rect.unit (s := S1024x1024) ![512, 0] S512x1024.size inb_S1024x1024_S512x1024_512_0)

def hT : FVec Ideal S512x1024 .f32 :=
  mix b.x (normHalf b.attn b.gAttn) (normHalf (k0_pay4 b.u (shift1 i b) (shift2 i b) b.conv b.bg) b.gConv) (upper b.out) (lower b.out)

def headT (h : Fin 4) : FVec Ideal S512x128 .f32 :=
  mean (weights (extractStridedSlice S512x128 ![0, h.val * 128] (queries (hT i b) b.gQ b.q) (slices_head h)) (headCols b.keys h)) (headCols b.values h)

def h2T : FVec Ideal S512x1024 .f32 := attended (hT i b) (headT i b 0) (headT i b 1) (headT i b 2) (headT i b 3) b.o

def hnT : FVec Ideal S512x1024 .bf16 := truncf .bf16 (norm (h2T i b) b.gFfn) bitsLt_bf16_f32

def stepT (c : Fin 11) (acc : FVec Ideal S512x1024 .f32) : FVec Ideal S512x1024 .f32 :=
  step (hnT i b) (cols b.gate c) (cols b.up c) (rows b.down c) acc

def lastT : FVec Ideal S512x1024 .f32 :=
  norm (stepT i b 10 (stepT i b 9 (stepT i b 8 (stepT i b 7 (stepT i b 6 (stepT i b 5 (stepT i b 4 (stepT i b 3 (stepT i b 2
    (stepT i b 1 (stepT i b 0 (h2T i b)))))))))))) b.gFinal

variable (m : (ℓ : Loc nD τ sig) → Buf (Elt Ideal) ℓ)

/-- The blocks at a point. -/
def blocks (c : Dev nD) (t : Fin cfg0.N) : Blocks :=
  ⟨iblk m c 0 t, iblk m c 1 t, iblk m c 2 t, iblk m c 3 t, iblk m c 4 t, iblk m c 5 t, iblk m c 6 t, iblk m c 7 t, iblk m c 8 t, iblk m c 9 t,
    iblk m c 10 t, iblk m c 11 t, iblk m c 12 t, iblk m c 13 t, iblk m c 14 t, iblk m c 15 t, iblk m c 16 t, iblk m c 17 t, iblk m c 18 t,
    iblk m c 19 t⟩

end Cert.Tail.Tile

end
-- ==== Proof.TailOut.lean ====
/- What the tail's body leaves in its output block: the tile's operations over the input blocks. -/
module

public import proofs.«01_k».proof.Proof.TailLoad
public import proofs.«01_k».proof.Proof.Gen.Kernel2Ideal.Value
public import Idealize.ShloMosaic.Lib.Pipeline.ValueKit

@[expose] public section

set_option maxRecDepth 16384

noncomputable section

namespace Cert.Tail.Tile

open Idealize.ShloMosaic Idealize.ShloMosaic.TcCoe Cert.Kernel2Ideal Cert.Kernel2Ideal.Gen

variable (m : (ℓ : Loc nD τ sig) → Buf (Elt Ideal) ℓ)

variable (c : Dev nD) (t : Fin cfg0.N)

theorem hT_fold (s1 s2 : FVec Ideal S512x512 .f32) (w1 w2 : FVec Ideal S512x1024 .bf16) (h1 : s1 = shift1 (grid0.coords t) (blocks m c t))
    (h2 : s2 = shift2 (grid0.coords t) (blocks m c t)) (h3 : w1 = upper (iblk m c 9 t)) (h4 : w2 = lower (iblk m c 9 t)) :
    mix (iblk m c 0 t) (normHalf (iblk m c 1 t) (iblk m c 7 t))
      (normHalf (k0_pay4 (iblk m c 3 t) s1 s2 (iblk m c 6 t) (iblk m c 2 t)) (iblk m c 8 t)) w1 w2
    = hT (grid0.coords t) (blocks m c t) := by
  subst h1 h2 h3 h4
  rfl

theorem h2T_fold (o0 o1 o2 o3 : FVec Ideal S512x128 .f32) (h0 : o0 = headT (grid0.coords t) (blocks m c t) 0)
    (h1 : o1 = headT (grid0.coords t) (blocks m c t) 1) (h2 : o2 = headT (grid0.coords t) (blocks m c t) 2)
    (h3 : o3 = headT (grid0.coords t) (blocks m c t) 3) :
    attended (hT (grid0.coords t) (blocks m c t)) o0 o1 o2 o3 (iblk m c 14 t) = h2T (grid0.coords t) (blocks m c t) := by
  subst h0 h1 h2 h3
  rfl

theorem hnT_fold : truncf .bf16 (norm (h2T (grid0.coords t) (blocks m c t)) (iblk m c 15 t)) bitsLt_bf16_f32
    = hnT (grid0.coords t) (blocks m c t) := rfl

set_option maxHeartbeats 1000000 in
/-- The body leaves the tile in its output block. -/
theorem out_eq : outsAt0 m c t = lastT (grid0.coords t) (blocks m c t) := by
  unfold outsAt0
  frame_out
  simp only [pay17_eq, pay16_eq]
  simp only [pay8_eq, pay9_eq, pay11_eq, pay12_eq, pay15_eq]
  simp only [pay6_eq, pay25_eq, pay18_eq, pay20_eq, pay24_eq, pay26_eq, pay1_eq]
  rw [hT_fold m c t, h2T_fold m c t, hnT_fold m c t]
  all_goals rfl

end Cert.Tail.Tile

end
-- ==== Proof.TailReads.lean ====
/- The tail's tile read at an element: each of its rows is the row function of the tail. -/
module

public import proofs.«01_k».proof.Proof.TailLoad

@[expose] public section

set_option maxRecDepth 16384

noncomputable section

namespace Cert.Tail.Tile

open Idealize.ShloMosaic Idealize.ShloMosaic.TcCoe Cert.Kernel2Ideal Cert.Kernel2Ideal.Gen
open Idealize.ShloMosaic.Pointwise

variable (i : grid0.Coords) (b : Blocks)

/-! ## Parts of a block -/

theorem headCols_apply (x : FVec Ideal S256x512 .f32) (h : Fin 4) (k : Fin 256) (d : Fin 128) :
    headCols x h (ix2 k d) = x (ix2 k (lane h d)) := by
  refine congrArg x (funext fun a => Fin.ext ?_)
  fin_cases a <;> simp [ix2, lane, Rect.emb, Rect.unit]

theorem cols_apply (x : FVec Ideal S1024x2816 .bf16) (c : Fin 11) (k : Fin 1024) (l : Fin 256) :
    cols x c (ix2 k l) = x (ix2 k (⟨c.val * 256 + l.val, by omega⟩ : Fin 2816)) := by
  refine congrArg x (funext fun a => Fin.ext ?_)
  fin_cases a <;> simp [ix2, Rect.emb, Rect.unit]

theorem rows_apply (x : FVec Ideal S2816x1024 .bf16) (c : Fin 11) (l : Fin 256) (j : Fin 1024) :
    rows x c (ix2 l j) = x (ix2 (⟨c.val * 256 + l.val, by omega⟩ : Fin 2816) j) := by
  refine congrArg x (funext fun a => Fin.ext ?_)
  fin_cases a <;> simp [ix2, Rect.emb, Rect.unit]

theorem upper_apply (x : FVec Ideal S1024x1024 .bf16) (k : Fin 512) (j : Fin 1024) :
    upper x (ix2 k j) = x (ix2 (⟨k.val, by omega⟩ : Fin 1024) j) := by
  refine congrArg x (funext fun a => Fin.ext ?_)
  fin_cases a <;> simp [ix2, Rect.emb, Rect.unit]

theorem lower_apply (x : FVec Ideal S1024x1024 .bf16) (k : Fin 512) (j : Fin 1024) :
    lower x (ix2 k j) = x (ix2 (⟨512 + k.val, by omega⟩ : Fin 1024) j) := by
  refine congrArg x (funext fun a => Fin.ext ?_)
  fin_cases a <;> simp [ix2, Rect.emb, Rect.unit]

/-! ## The convolution's rows -/

/-- The eight rows from before the tile. -/
def halo (k : Fin 8) (j : Fin 512) : EReal := k0_pay2 (F := Ideal) i b.init b.before (ix2 k j)

theorem stored_own (k j : Fin 512) (y : S520x512.Idx) (h0 : (y 0).val = 8 + k.val) (h1 : (y 1).val = j.val) :
    View.canon (stored i b) y = b.u (ix2 k j) := by
  have e : y = (Rect.unit (s := S520x512) ![8, 0] S512x512.size inb_S520x512_S512x512_8_0).emb (ix2 k j) := by
    funext a
    apply Fin.ext
    fin_cases a
    · simpa [ix2, Rect.emb, Rect.unit] using h0
    · simpa [ix2, Rect.emb, Rect.unit] using h1
  rw [e]
  refine (View.canon_cons_emb _ _ _ _).trans ?_
  pointwise [k0_pay3]

theorem stored_before (k : Fin 8) (j : Fin 512) (y : S520x512.Idx) (h0 : (y 0).val = k.val) (h1 : (y 1).val = j.val) :
    View.canon (stored i b) y = halo i b k j := by
  have e : y = (Rect.unit (s := S520x512) ![0, 0] S8x512.size inb_S520x512_S8x512_0_0).emb (ix2 k j) := by
    funext a
    apply Fin.ext
    fin_cases a
    · simpa [ix2, Rect.emb, Rect.unit] using h0
    · simpa [ix2, Rect.emb, Rect.unit] using h1
  refine (View.canon_cons_of_not_mem _ _ ?_).trans ?_
  · rw [Rect.mem_set_unit]
    intro h
    have := (h 0).1
    simp at this
    omega
  · rw [e]
    exact View.canon_cons_emb _ _ _ _

/-- The rows before a tile's row, by one and by two. -/
def before1 (r j : Fin 512) : EReal :=
  if h : r.val = 0 then halo i b 7 j else b.u (ix2 (⟨r.val - 1, by omega⟩ : Fin 512) j)

def before2 (r j : Fin 512) : EReal :=
  if h : r.val < 2 then halo i b ⟨r.val + 6, by omega⟩ j else b.u (ix2 (⟨r.val - 2, by omega⟩ : Fin 512) j)

theorem shift1_apply (r j : Fin 512) : shift1 i b (ix2 r j) = before1 i b r j := by
  unfold shift1 before1
  rw [View.readCov_eq_canon']
  split
  · next h => exact stored_before i b 7 j _ (by simp [ix2, Rect.unit, h]) (by simp [ix2, Rect.unit])
  · next h => exact stored_own i b _ j _ (by simp [ix2, Rect.unit]; omega) (by simp [ix2, Rect.unit])

theorem shift2_apply (r j : Fin 512) : shift2 i b (ix2 r j) = before2 i b r j := by
  unfold shift2 before2
  rw [View.readCov_eq_canon']
  split
  · next h => exact stored_before i b _ j _ (by simp [ix2, Rect.unit]; omega) (by simp [ix2, Rect.unit])
  · next h => exact stored_own i b _ j _ (by simp [ix2, Rect.unit]; omega) (by simp [ix2, Rect.unit])

/-! ## Rows -/

/-- The blocks' weights. -/
def weightsOf : Weights where
  conv c j := b.conv (ix2 c j)
  gAttn k := b.gAttn (ix2 (0 : Fin 1) k)
  gConv k := b.gConv (ix2 (0 : Fin 1) k)
  out k j := b.out (ix2 k j)
  gQ k := b.gQ (ix2 (0 : Fin 1) k)
  q k j := b.q (ix2 k j)
  o k j := b.o (ix2 k j)
  gFfn k := b.gFfn (ix2 (0 : Fin 1) k)
  gate k j := b.gate (ix2 k j)
  up k j := b.up (ix2 k j)
  down k j := b.down (ix2 k j)
  gFinal k := b.gFinal (ix2 (0 : Fin 1) k)

/-- A row's inputs in the blocks. -/
def inputsOf (r : Fin 512) : Inputs where
  x k := b.x (ix2 r k)
  attn k := b.attn (ix2 r k)
  bg k := b.bg (ix2 r k)
  u0 k := b.u (ix2 r k)
  u1 k := before1 i b r k
  u2 k := before2 i b r k
  keys k j := b.keys (ix2 k j)
  values k j := b.values (ix2 k j)

theorem hT_apply (r : Fin 512) (j : Fin 1024) : hT i b (ix2 r j) = hRow (weightsOf b) (inputsOf i b r) j := by
  rw [hT, mix_apply, hRow, proj_joined, add_assoc]
  simp only [normHalf_apply, conv_apply, shift1_apply, shift2_apply, upper_apply, lower_apply]
  rfl

theorem queries_row (r j : Fin 512) : queries (hT i b) b.gQ b.q (ix2 r j) = qRow (weightsOf b) (inputsOf i b r) j := by
  rw [queries_apply]
  simp only [norm_apply, hT_apply]
  rfl

theorem headOf_lane (h : Fin 4) (d : Fin 128) : headOf (lane h d) = h := by
  apply Fin.ext
  show (h.val * 128 + d.val) / 128 = h.val
  omega

theorem headT_apply (h : Fin 4) (r : Fin 512) (d : Fin 128) :
    headT i b h (ix2 r d) = attendRow (weightsOf b) (inputsOf i b r) (lane h d) := by
  have e : ∀ d : Fin 128, extractStridedSlice S512x128 ![0, h.val * 128] (queries (hT i b) b.gQ b.q) (slices_head h) (ix2 r d)
      = qRow (weightsOf b) (inputsOf i b r) (lane h d) := fun d => by
    rw [← queries_row]
    refine congrArg (queries (hT i b) b.gQ b.q) (funext fun a => Fin.ext ?_)
    fin_cases a <;> simp [ix2, lane]
  rw [headT, mean_apply]
  simp only [weights_apply, headCols_apply, e]
  rw [attendRow, headOf_lane]
  rfl

theorem h2T_apply (r : Fin 512) (j : Fin 1024) : h2T i b (ix2 r j) = h2Row (weightsOf b) (inputsOf i b r) j := by
  rw [h2T, attended_apply _ _ _ _ _ _ _ _ (attendRow (weightsOf b) (inputsOf i b r)) (headT_apply i b 0 r) (headT_apply i b 1 r)
    (headT_apply i b 2 r) (headT_apply i b 3 r), hT_apply]
  rfl

theorem hnT_apply (r : Fin 512) (j : Fin 1024) : hnT i b (ix2 r j) = hnRow (weightsOf b) (inputsOf i b r) j := by
  refine (norm_apply (h2T i b) b.gFfn r j).trans ?_
  simp only [h2T_apply]
  rfl

/-- A chunk's part of the feed-forward's second product. -/
def part (w : Weights) (t : Inputs) (j : Fin 1024) (c : Fin 11) : EReal :=
  ∑ l : Fin 256, actRow w t ⟨c.val * 256 + l.val, by omega⟩ * w.down ⟨c.val * 256 + l.val, by omega⟩ j

theorem stepT_apply (c : Fin 11) (acc : FVec Ideal S512x1024 .f32) (r : Fin 512) (j : Fin 1024) :
    stepT i b c acc (ix2 r j) = acc (ix2 r j) + part (weightsOf b) (inputsOf i b r) j c := by
  rw [stepT, step_apply]
  simp only [chunk_apply, hnT_apply, cols_apply, rows_apply]
  rfl

/-- The parts sum to the whole product. -/
theorem sum_part (w : Weights) (t : Inputs) (j : Fin 1024) : ∑ c : Fin 11, part w t j c = proj (actRow w t) w.down j := by
  unfold part proj
  rw [← Fintype.sum_prod_type']
  refine Fintype.sum_equiv (finProdFinEquiv (m := 11) (n := 256)) _ _ fun p => ?_
  have e : (⟨p.1.val * 256 + p.2.val, by omega⟩ : Fin 2816) = finProdFinEquiv (m := 11) (n := 256) p := by
    apply Fin.ext
    show p.1.val * 256 + p.2.val = p.2.val + 256 * p.1.val
    omega
  rw [e]

theorem lastT_apply (r : Fin 512) (j : Fin 1024) : lastT i b (ix2 r j) = lastRow (weightsOf b) (inputsOf i b r) j := by
  rw [lastT, norm_apply, lastRow]
  congr 1
  funext k
  simp only [stepT_apply, h2T_apply]
  rw [h3Row, ← sum_part]
  simp only [Fin.sum_univ_succ, Fin.sum_univ_zero, add_zero, add_assoc]
  rfl

end Cert.Tail.Tile

end
-- ==== Proof.TailRef.lean ====
/- The tail's reference at an index: each row of it is the row function of the tail. -/
module

public import proofs.«01_k».proof.Proof.Gen.Reference2Ideal
public import proofs.«01_k».proof.Proof.Gen.Reference2Ideal.Read
public import proofs.«01_k».proof.Proof.TailRow
public import Idealize.ShloMosaic.Lib.Pointwise

@[expose] public section

set_option maxRecDepth 16384

noncomputable section

namespace Cert.Tail.Ref

open Idealize.ShloMosaic Idealize.ShloMosaic.TcCoe Idealize.ShloMosaic.Pointwise
open Cert.Reference2Ideal Cert.Reference2Ideal.Gen Cert.Reference2Ideal.Read

/-! ## Norms -/

/-- The norm of the full rows. -/
def norm (x : FVec Ideal S32768x1024 .f32) (g : FVec Ideal S1x1024 .f32) : FVec Ideal S32768x1024 .f32 :=
  let s : FVec Ideal S32768 .f32 := Host.reduceAdd (mulf x x) (constant S_ .f32 0x00000000#32) reducesTo_S32768x1024_S32768_d1 h_S_
  let f : FVec Ideal S32768x1 .f32 := Host.rsqrt (addf (Host.divf (broadcastInDim S32768x1 ![0] bcast_S32768_S32768x1_0 s)
      (broadcastInDim S32768x1 ![] bcast_S_S32768x1 (constant (F := Ideal) S_ .f32 0x44800000#32)))
    (broadcastInDim S32768x1 ![] bcast_S_S32768x1 (constant (F := Ideal) S_ .f32 0x358637BD#32)))
  mulf (mulf x (broadcastInDim S32768x1024 ![0, 1] bcast_S32768x1_S32768x1024_0_1 f))
    (broadcastInDim S32768x1024 ![0, 1] bcast_S1x1024_S32768x1024_0_1 g)

theorem norm_apply (x : FVec Ideal S32768x1024 .f32) (g : FVec Ideal S1x1024 .f32) (n : Fin 32768) (j : Fin 1024) :
    norm x g (ix2 n j) = rms full (fun k => x (ix2 n k)) (fun k => g (ix2 (0 : Fin 1) k)) j := by
  pointwise [norm]
  rfl

/-- The norm of the half rows. -/
def normHalf (x : FVec Ideal S32768x512 .f32) (g : FVec Ideal S1x512 .f32) : FVec Ideal S32768x512 .f32 :=
  let s : FVec Ideal S32768 .f32 := Host.reduceAdd (mulf x x) (constant S_ .f32 0x00000000#32) reducesTo_S32768x512_S32768_d1 h_S_
  let f : FVec Ideal S32768x1 .f32 := Host.rsqrt (addf (Host.divf (broadcastInDim S32768x1 ![0] bcast_S32768_S32768x1_0 s)
      (broadcastInDim S32768x1 ![] bcast_S_S32768x1 (constant (F := Ideal) S_ .f32 0x44000000#32)))
    (broadcastInDim S32768x1 ![] bcast_S_S32768x1 (constant (F := Ideal) S_ .f32 0x358637BD#32)))
  mulf (mulf x (broadcastInDim S32768x512 ![0, 1] bcast_S32768x1_S32768x512_0_1 f))
    (broadcastInDim S32768x512 ![0, 1] bcast_S1x512_S32768x512_0_1 g)

theorem normHalf_apply (x : FVec Ideal S32768x512 .f32) (g : FVec Ideal S1x512 .f32) (n : Fin 32768) (j : Fin 512) :
    normHalf x g (ix2 n j) = rms half (fun k => x (ix2 n k)) (fun k => g (ix2 (0 : Fin 1) k)) j := by
  pointwise [normHalf]
  rfl

/-! ## Products -/

/-- The residual plus the joined rows times a matrix. -/
def mix (x : FVec Ideal S32768x1024 .f32) (a c : FVec Ideal S32768x512 .f32) (w : FVec Ideal S1024x1024 .bf16) : FVec Ideal S32768x1024 .f32 :=
  addf x (Host.dotGeneral dot_S32768x1024_S1024x1024_S32768x1024_1_0_0_1_n_n none
    (concatenate S32768x1024 1 [⟨S32768x512, a⟩, ⟨S32768x512, c⟩] concatenates_S32768x512_S32768x512_S32768x1024_d1)
    (extf .f32 w bitsLt_bf16_f32))

theorem mix_apply (x : FVec Ideal S32768x1024 .f32) (a c : FVec Ideal S32768x512 .f32) (w : FVec Ideal S1024x1024 .bf16) (n : Fin 32768) (j : Fin 1024) :
    mix x a c w (ix2 n j) = x (ix2 n j) + proj (joined (fun k => a (ix2 n k)) fun k => c (ix2 n k)) (fun k j => w (ix2 k j)) j := by
  pointwise [mix]
  rw [proj_joined]

/-- The queries. -/
def queries (h : FVec Ideal S32768x1024 .f32) (w : FVec Ideal S1024x512 .bf16) : FVec Ideal S32768x512 .f32 :=
  Host.dotGeneral dot_S32768x1024_S1024x512_S32768x512_1_0_0_1_n_n none h (extf .f32 w bitsLt_bf16_f32)

theorem queries_apply (h : FVec Ideal S32768x1024 .f32) (w : FVec Ideal S1024x512 .bf16) (n : Fin 32768) (j : Fin 512) :
    queries h w (ix2 n j) = proj (fun k => h (ix2 n k)) (fun k j => w (ix2 k j)) j := by
  pointwise [queries]
  rfl

/-- The residual plus the attended rows times a matrix. -/
def attended (h : FVec Ideal S32768x1024 .f32) (a : FVec Ideal S32768x512 .f32) (w : FVec Ideal S512x1024 .bf16) : FVec Ideal S32768x1024 .f32 :=
  addf h (Host.dotGeneral dot_S32768x512_S512x1024_S32768x1024_1_0_0_1_n_n none a (extf .f32 w bitsLt_bf16_f32))

theorem attended_apply (h : FVec Ideal S32768x1024 .f32) (a : FVec Ideal S32768x512 .f32) (w : FVec Ideal S512x1024 .bf16) (n : Fin 32768) (j : Fin 1024) :
    attended h a w (ix2 n j) = h (ix2 n j) + proj (fun k => a (ix2 n k)) (fun k j => w (ix2 k j)) j := by
  pointwise [attended]
  rfl

/-- The feed-forward's activations. -/
def acts (h : FVec Ideal S32768x1024 .f32) (wg wu : FVec Ideal S1024x2816 .bf16) : FVec Ideal S32768x2816 .f32 :=
  let g : FVec Ideal S32768x2816 .f32 := Host.dotGeneral dot_S32768x1024_S1024x2816_S32768x2816_1_0_0_1_n_n none h (extf .f32 wg bitsLt_bf16_f32)
  let one : FVec Ideal S32768x2816 .f32 := broadcastInDim S32768x2816 ![] bcast_S_S32768x2816 (constant (F := Ideal) S_ .f32 0x3F800000#32)
  mulf (mulf g (Host.divf one (addf one (Host.exp (Host.negf g)))))
    (Host.dotGeneral dot_S32768x1024_S1024x2816_S32768x2816_1_0_0_1_n_n none h (extf .f32 wu bitsLt_bf16_f32))

theorem acts_apply (h : FVec Ideal S32768x1024 .f32) (wg wu : FVec Ideal S1024x2816 .bf16) (n : Fin 32768) (j : Fin 2816) :
    acts h wg wu (ix2 n j) = gatedRef (proj (fun k => h (ix2 n k)) (fun k j => wg (ix2 k j)) j) (proj (fun k => h (ix2 n k)) (fun k j => wu (ix2 k j)) j) := by
  pointwise [acts]
  rfl

/-- The residual plus the activations times a matrix. -/
def fed (h : FVec Ideal S32768x1024 .f32) (a : FVec Ideal S32768x2816 .f32) (w : FVec Ideal S2816x1024 .bf16) : FVec Ideal S32768x1024 .f32 :=
  addf h (Host.dotGeneral dot_S32768x2816_S2816x1024_S32768x1024_1_0_0_1_n_n none a (extf .f32 w bitsLt_bf16_f32))

theorem fed_apply (h : FVec Ideal S32768x1024 .f32) (a : FVec Ideal S32768x2816 .f32) (w : FVec Ideal S2816x1024 .bf16) (n : Fin 32768) (j : Fin 1024) :
    fed h a w (ix2 n j) = h (ix2 n j) + proj (fun k => a (ix2 n k)) (fun k j => w (ix2 k j)) j := by
  pointwise [fed]
  rfl

/-! ## Attention over the memory -/

theorem width_eq : Ideal.ofBits .f32 0x43000000#32 = ((128 : ℝ) : EReal) := by
  simp [Ideal.ofBits, Ideal.ieee]
  rw [← EReal.coe_mul]
  norm_num

/-- Dividing by the root of the heads' width is scaling. -/
theorem div_root (x : EReal) : Ideal.div x (Ideal.sqrt (Ideal.ofBits .f32 0x43000000#32)) = x * scale := by
  have h : ((Real.sqrt 128 : ℝ) : EReal) ≠ 0 := by
    rw [Ne, EReal.coe_eq_zero, Real.sqrt_eq_zero (by norm_num)]
    norm_num
  rw [width_eq, Ideal.sqrt_coe, if_neg (by norm_num), Ideal.div, if_neg h, ← EReal.coe_inv]
  rfl

/-- The scaled scores. -/
def scores (q : FVec Ideal S32768x512 .f32) (k : FVec Ideal S4096x512 .f32) : FVec Ideal S16x4x2048x256 .f32 :=
  Host.divf (Host.dotGeneral dot_S16x2048x4x128_S16x256x4x128_S16x4x2048x256_3_3_1_1_02_02 none
      (shapeCast S16x2048x4x128 q shapeCasts_S32768x512_S16x2048x4x128) (shapeCast S16x256x4x128 k shapeCasts_S4096x512_S16x256x4x128))
    (broadcastInDim S16x4x2048x256 ![] bcast_S_S16x4x2048x256 (Host.sqrt (constant (F := Ideal) S_ .f32 0x43000000#32)))

/-- The row of query `s` of batch element `b`. -/
def rowOf (b : Fin 16) (s : Fin 2048) : Fin 32768 := ⟨b.val * 2048 + s.val, by omega⟩

/-- The memory row `i` of batch element `b`. -/
def memOf (b : Fin 16) (i : Fin 256) : Fin 4096 := ⟨b.val * 256 + i.val, by omega⟩

theorem queries_cast (q : FVec Ideal S32768x512 .f32) (b : Fin 16) (s : Fin 2048) (h : Fin 4) (d : Fin 128) :
    shapeCast S16x2048x4x128 q shapeCasts_S32768x512_S16x2048x4x128 (ix4 b s h d) = q (ix2 (rowOf b s) (lane h d)) := by
  refine shapeCast_apply q shapeCasts_S32768x512_S16x2048x4x128 _ _ ?_
  rewrite [Shape.rowMajor_val_four, Shape.rowMajor_val_two]
  show (b.val * 2048 + s.val) * 512 + (h.val * 128 + d.val) = ((b.val * 2048 + s.val) * 4 + h.val) * 128 + d.val
  omega

theorem mem_cast (x : FVec Ideal S4096x512 .f32) (b : Fin 16) (i : Fin 256) (h : Fin 4) (d : Fin 128) :
    shapeCast S16x256x4x128 x shapeCasts_S4096x512_S16x256x4x128 (ix4 b i h d) = x (ix2 (memOf b i) (lane h d)) := by
  refine shapeCast_apply x shapeCasts_S4096x512_S16x256x4x128 _ _ ?_
  rewrite [Shape.rowMajor_val_four, Shape.rowMajor_val_two]
  show (b.val * 256 + i.val) * 512 + (h.val * 128 + d.val) = ((b.val * 256 + i.val) * 4 + h.val) * 128 + d.val
  omega

theorem scores_apply (q : FVec Ideal S32768x512 .f32) (k : FVec Ideal S4096x512 .f32) (b : Fin 16) (h : Fin 4) (s : Fin 2048) (i : Fin 256) :
    scores q k (ix4 b h s i) = score (fun j => q (ix2 (rowOf b s) j)) (fun i j => k (ix2 (memOf b i) j)) h i := by
  unfold score
  rw [← div_root]
  pointwise [scores]
  rfl

/-- The host's maximum along the last of four axes, at any extents. -/
theorem hostMax_apply {n0 n1 n2 n3 : ℕ} {u : Shape} (x : (⟨4, ![n0, n1, n2, n3]⟩ : Shape).Idx → EReal) (c : u.Idx → EReal)
    (H : (⟨4, ![n0, n1, n2, n3]⟩ : Shape).ReducesTo [3] ⟨3, ![n0, n1, n2]⟩) (hu : 0 < u.numel) (b : Fin n0) (h : Fin n1) (s : Fin n2) :
    Host.reduce (FloatOps.maximumf (F := Ideal) (φ := .f32)) x c H hu (ix3 b h s)
      = Finset.univ.fold max (c (Shape.Idx.first hu)) fun i : Fin n3 => x (ix4 b h s i) := by
  pointwise

/-- The greatest scores. -/
def tops (x : FVec Ideal S16x4x2048x256 .f32) : FVec Ideal S16x4x2048 .f32 :=
  maximumf (broadcastInDim S16x4x2048 ![] bcast_S_S16x4x2048 (constant (F := Ideal) S_ .f32 0xFF800000#32))
    (Host.reduce FloatOps.maximumf x (constant S_ .f32 0xFF800000#32) reducesTo_S16x4x2048x256_S16x4x2048_d3 h_S_)

theorem max_read (y : FVec Ideal S16x4x2048 .f32) (b : Fin 16) (h : Fin 4) (s : Fin 2048) :
    maximumf (broadcastInDim S16x4x2048 ![] bcast_S_S16x4x2048 (constant (F := Ideal) S_ .f32 0xFF800000#32)) y (ix3 b h s)
      = max (Ideal.ofBits .f32 0xFF800000#32) (y (ix3 b h s)) := by
  pointwise

theorem tops_apply (x : FVec Ideal S16x4x2048x256 .f32) (b : Fin 16) (h : Fin 4) (s : Fin 2048) :
    tops x (ix3 b h s) = top fun i => x (ix4 b h s i) := by
  have e := hostMax_apply (n0 := 16) (n1 := 4) (n2 := 2048) (n3 := 256) (u := S_) x (constant (F := Ideal) S_ .f32 0xFF800000#32)
    reducesTo_S16x4x2048x256_S16x4x2048_d3 h_S_ b h s
  unfold tops
  rw [max_read, e]
  exact max_fold _ _

/-- The weights before they are normalised. -/
def expos (x : FVec Ideal S16x4x2048x256 .f32) (t : FVec Ideal S16x4x2048 .f32) : FVec Ideal S16x4x2048x256 .f32 :=
  Host.exp (subf x (broadcastInDim S16x4x2048x256 ![0, 1, 2, 3] bcast_S16x4x2048x1_S16x4x2048x256_0_1_2_3
    (broadcastInDim S16x4x2048x1 ![0, 1, 2] bcast_S16x4x2048_S16x4x2048x1_0_1_2 t)))

theorem expos_apply (x : FVec Ideal S16x4x2048x256 .f32) (t : FVec Ideal S16x4x2048 .f32) (b : Fin 16) (h : Fin 4) (s : Fin 2048) (i : Fin 256) :
    expos x t (ix4 b h s i) = Ideal.exp (x (ix4 b h s i) - t (ix3 b h s)) := by
  pointwise [expos]

/-- The weights' normalisation. -/
def normalised (e : FVec Ideal S16x4x2048x256 .f32) : FVec Ideal S16x4x2048x256 .f32 :=
  let z : FVec Ideal S16x4x2048 .f32 := Host.reduceAdd e (constant S_ .f32 0x00000000#32) reducesTo_S16x4x2048x256_S16x4x2048_d3 h_S_
  Host.divf e (broadcastInDim S16x4x2048x256 ![0, 1, 2, 3] bcast_S16x4x2048x1_S16x4x2048x256_0_1_2_3
    (broadcastInDim S16x4x2048x1 ![0, 1, 2] bcast_S16x4x2048_S16x4x2048x1_0_1_2 z))

theorem normalised_apply (e : FVec Ideal S16x4x2048x256 .f32) (b : Fin 16) (h : Fin 4) (s : Fin 2048) (i : Fin 256) :
    normalised e (ix4 b h s i) = Ideal.div (e (ix4 b h s i)) (∑ i : Fin 256, e (ix4 b h s i)) := by
  pointwise [normalised]

/-- The attended rows. -/
def means (v : FVec Ideal S4096x512 .f32) (p : FVec Ideal S16x4x2048x256 .f32) : FVec Ideal S32768x512 .f32 :=
  shapeCast S32768x512 (transpose S16x2048x4x128 [0, 3, 1, 2]
    (Host.dotGeneral (F := Ideal) (φ₁ := .f32) (φ₂ := .f32) dot_S16x256x4x128_S16x4x2048x256_S16x4x128x2048_1_3_3_2_02_01 none
      (shapeCast S16x256x4x128 v shapeCasts_S4096x512_S16x256x4x128) p)
    transposes_S16x4x128x2048_S16x2048x4x128_0_3_1_2) shapeCasts_S16x2048x4x128_S32768x512

theorem means_apply (v : FVec Ideal S4096x512 .f32) (p : FVec Ideal S16x4x2048x256 .f32) (b : Fin 16) (s : Fin 2048) (h : Fin 4) (d : Fin 128) :
    means v p (ix2 (rowOf b s) (lane h d)) = ∑ i : Fin 256, v (ix2 (memOf b i) (lane h d)) * p (ix4 b h s i) := by
  refine (shapeCast_apply _ shapeCasts_S16x2048x4x128_S32768x512 _ (ix4 b s h d) ?_).trans ?_
  · rewrite [Shape.rowMajor_val_four, Shape.rowMajor_val_two]
    show ((b.val * 2048 + s.val) * 4 + h.val) * 128 + d.val = (b.val * 2048 + s.val) * 512 + (h.val * 128 + d.val)
    omega
  · pointwise
    rfl

end Cert.Tail.Ref

end
-- ==== Proof.TailRefRow.lean ====
/- The tail's whole reference: each row is the row function of the tail, for finite queries' gain and matrix and finite keys. -/
module

public import proofs.«01_k».proof.Proof.TailRef
public import proofs.«01_k».proof.Proof.TailReal

@[expose] public section

set_option maxRecDepth 16384

noncomputable section

namespace Cert.Tail.Ref

open Idealize.ShloMosaic Idealize.ShloMosaic.TcCoe Idealize.ShloMosaic.Pointwise
open Cert.Reference2Ideal Cert.Reference2Ideal.Gen Cert.Reference2Ideal.Read

/-! ## The convolution -/

/-- The rows with the two before each batch element's first. -/
def extended (u : FVec Ideal S32768x512 .f32) (init : FVec Ideal S16x8x512 .f32) : FVec Ideal S16x2050x512 .f32 :=
  concatenate S16x2050x512 1 [⟨S16x2x512, extractStridedSlice S16x2x512 ![0, 6, 0] init slices_S16x8x512_S16x2x512_0_6_0⟩,
    ⟨S16x2048x512, shapeCast S16x2048x512 u shapeCasts_S32768x512_S16x2048x512⟩] concatenates_S16x2x512_S16x2048x512_S16x2050x512_d1

theorem extended_apply (u : FVec Ideal S32768x512 .f32) (init : FVec Ideal S16x8x512 .f32) (b : Fin 16) (k : Fin 2050) (j : Fin 512) :
    extended u init (ix3 b k j) = if h : k.val < 2 then init (ix3 b (⟨6 + k.val, by omega⟩ : Fin 8) j)
      else u (ix2 (rowOf b ⟨k.val - 2, by omega⟩) j) := by
  pointwise [extended]
  rfl

/-- The three taps' sum. -/
def conv (e : FVec Ideal S16x2050x512 .f32) (w : FVec Ideal S3x512 .f32) : FVec Ideal S16x2048x512 .f32 :=
  let tap (r : FVec Ideal S1x512 .f32) : FVec Ideal S16x2048x512 .f32 := broadcastInDim S16x2048x512 ![0, 1, 2] bcast_S1x1x512_S16x2048x512_0_1_2
    (broadcastInDim S1x1x512 ![2] bcast_S512_S1x1x512_2 (shapeCast S512 r shapeCasts_S1x512_S512))
  addf (addf
      (mulf (tap (extractStridedSlice S1x512 ![0, 0] w slices_S3x512_S1x512_0_0)) (extractStridedSlice S16x2048x512 ![0, 0, 0] e slices_S16x2050x512_S16x2048x512_0_0_0))
      (mulf (tap (extractStridedSlice S1x512 ![1, 0] w slices_S3x512_S1x512_1_0)) (extractStridedSlice S16x2048x512 ![0, 1, 0] e slices_S16x2050x512_S16x2048x512_0_1_0)))
    (mulf (tap (extractStridedSlice S1x512 ![2, 0] w slices_S3x512_S1x512_2_0)) (extractStridedSlice S16x2048x512 ![0, 2, 0] e slices_S16x2050x512_S16x2048x512_0_2_0))

theorem conv_apply (e : FVec Ideal S16x2050x512 .f32) (w : FVec Ideal S3x512 .f32) (b : Fin 16) (s : Fin 2048) (j : Fin 512) :
    conv e w (ix3 b s j) = w (ix2 (0 : Fin 3) j) * e (ix3 b (⟨s.val, by omega⟩ : Fin 2050) j)
      + w (ix2 (1 : Fin 3) j) * e (ix3 b (⟨1 + s.val, by omega⟩ : Fin 2050) j) + w (ix2 (2 : Fin 3) j) * e (ix3 b (⟨2 + s.val, by omega⟩ : Fin 2050) j) := by
  pointwise [conv]

/-- The gated convolution as rows. -/
def gatedConv (bg : FVec Ideal S32768x512 .f32) (c : FVec Ideal S16x2048x512 .f32) : FVec Ideal S32768x512 .f32 :=
  mulf bg (shapeCast S32768x512 c shapeCasts_S16x2048x512_S32768x512)

theorem gatedConv_apply (bg : FVec Ideal S32768x512 .f32) (c : FVec Ideal S16x2048x512 .f32) (b : Fin 16) (s : Fin 2048) (j : Fin 512) :
    gatedConv bg c (ix2 (rowOf b s) j) = bg (ix2 (rowOf b s) j) * c (ix3 b s j) := by
  refine congrArg (bg (ix2 (rowOf b s) j) * ·) ?_
  refine shapeCast_apply c shapeCasts_S16x2048x512_S32768x512 _ _ ?_
  rewrite [Shape.rowMajor_val_three, Shape.rowMajor_val_two]
  rfl

/-! ## The rows -/

/-- The reference's arguments. -/
structure Args where
  x : FVec Ideal S32768x1024 .f32
  attn : FVec Ideal S32768x512 .f32
  bg : FVec Ideal S32768x512 .f32
  u : FVec Ideal S32768x512 .f32
  init : FVec Ideal S16x8x512 .f32
  conv : FVec Ideal S3x512 .f32
  gAttn : FVec Ideal S1x512 .f32
  gConv : FVec Ideal S1x512 .f32
  out : FVec Ideal S1024x1024 .bf16
  gQ : FVec Ideal S1x1024 .f32
  q : FVec Ideal S1024x512 .bf16
  keys : FVec Ideal S4096x512 .f32
  values : FVec Ideal S4096x512 .f32
  o : FVec Ideal S512x1024 .bf16
  gFfn : FVec Ideal S1x1024 .f32
  gate : FVec Ideal S1024x2816 .bf16
  up : FVec Ideal S1024x2816 .bf16
  down : FVec Ideal S2816x1024 .bf16
  gFinal : FVec Ideal S1x1024 .f32

variable (a : Args) (b : Fin 16) (s : Fin 2048)

/-- The arguments' weights. -/
def weightsOf : Weights where
  conv c j := a.conv (ix2 c j)
  gAttn k := a.gAttn (ix2 (0 : Fin 1) k)
  gConv k := a.gConv (ix2 (0 : Fin 1) k)
  out k j := a.out (ix2 k j)
  gQ k := a.gQ (ix2 (0 : Fin 1) k)
  q k j := a.q (ix2 k j)
  o k j := a.o (ix2 k j)
  gFfn k := a.gFfn (ix2 (0 : Fin 1) k)
  gate k j := a.gate (ix2 k j)
  up k j := a.up (ix2 k j)
  down k j := a.down (ix2 k j)
  gFinal k := a.gFinal (ix2 (0 : Fin 1) k)

/-- The inputs of row `s` of batch element `b`. -/
def inputsOf : Inputs where
  x k := a.x (ix2 (rowOf b s) k)
  attn k := a.attn (ix2 (rowOf b s) k)
  bg k := a.bg (ix2 (rowOf b s) k)
  u0 k := a.u (ix2 (rowOf b s) k)
  u1 k := if h : s.val = 0 then a.init (ix3 b (7 : Fin 8) k) else a.u (ix2 (rowOf b ⟨s.val - 1, by omega⟩) k)
  u2 k := if h : s.val < 2 then a.init (ix3 b (⟨6 + s.val, by omega⟩ : Fin 8) k) else a.u (ix2 (rowOf b ⟨s.val - 2, by omega⟩) k)
  keys i j := a.keys (ix2 (memOf b i) j)
  values i j := a.values (ix2 (memOf b i) j)

theorem conv_row (j : Fin 512) : gatedConv a.bg (conv (extended a.u a.init) a.conv) (ix2 (rowOf b s) j) = convRow (weightsOf a) (inputsOf a b s) j := by
  have e0 : extended a.u a.init (ix3 b (⟨2 + s.val, by omega⟩ : Fin 2050) j) = (inputsOf a b s).u0 j := by
    rw [extended_apply, dif_neg (show ¬2 + s.val < 2 by omega)]
    refine congrArg (fun n => a.u (ix2 (rowOf b n) j)) (Fin.ext ?_)
    show 2 + s.val - 2 = s.val
    omega
  have e1 : extended a.u a.init (ix3 b (⟨1 + s.val, by omega⟩ : Fin 2050) j) = (inputsOf a b s).u1 j := by
    rw [extended_apply]
    show _ = dite _ _ _
    by_cases h : s.val = 0
    · rw [dif_pos h, dif_pos (show 1 + s.val < 2 by omega)]
      refine congrArg (fun n => a.init (ix3 b n j)) (Fin.ext ?_)
      show 6 + (1 + s.val) = 7
      omega
    · rw [dif_neg h, dif_neg (show ¬1 + s.val < 2 by omega)]
      refine congrArg (fun n => a.u (ix2 (rowOf b n) j)) (Fin.ext ?_)
      show 1 + s.val - 2 = s.val - 1
      omega
  have e2 : extended a.u a.init (ix3 b (⟨s.val, by omega⟩ : Fin 2050) j) = (inputsOf a b s).u2 j := by
    rw [extended_apply]
    rfl
  rw [gatedConv_apply, conv_apply, e0, e1, e2]
  rfl

/-- The residual after the mixer. -/
def hA : FVec Ideal S32768x1024 .f32 :=
  mix a.x (normHalf a.attn a.gAttn) (normHalf (gatedConv a.bg (conv (extended a.u a.init) a.conv)) a.gConv) a.out

theorem hA_row (j : Fin 1024) : hA a (ix2 (rowOf b s) j) = hRow (weightsOf a) (inputsOf a b s) j := by
  rw [hA, mix_apply]
  simp only [normHalf_apply, conv_row]
  rfl

/-- The scores. -/
def scoresA : FVec Ideal S16x4x2048x256 .f32 := scores (queries (norm (hA a) a.gQ) a.q) a.keys

theorem scoresA_row (h : Fin 4) (i : Fin 256) :
    scoresA a (ix4 b h s i) = score (qRow (weightsOf a) (inputsOf a b s)) (inputsOf a b s).keys h i := by
  rw [scoresA, scores_apply]
  simp only [queries_apply, norm_apply, hA_row]
  rfl

/-- The residual after the attention over the memory. -/
def h2A : FVec Ideal S32768x1024 .f32 := attended (hA a) (means a.values (normalised (expos (scoresA a) (tops (scoresA a))))) a.o

/-- The scores of a row are real. -/
theorem score_real (hg : ∀ y, IsReal (a.gQ y)) (hq : ∀ y, IsReal (a.q y)) (hk : ∀ y, IsReal (a.keys y)) (h : Fin 4) (i : Fin 256) :
    IsReal (score (qRow (weightsOf a) (inputsOf a b s)) (inputsOf a b s).keys h i) :=
  (IsReal.sum fun d => (IsReal.sum fun k => (rms_real _ _ (fun k => hg _) k).mul (hq _)).mul (hk _)).mul scale_real

theorem lane_headOf (j : Fin 512) : lane (headOf j) ⟨j.val % 128, by omega⟩ = j := by
  apply Fin.ext
  show j.val / 128 * 128 + j.val % 128 = j.val
  omega

theorem means_row (hg : ∀ y, IsReal (a.gQ y)) (hq : ∀ y, IsReal (a.q y)) (hk : ∀ y, IsReal (a.keys y)) (j : Fin 512) :
    means a.values (normalised (expos (scoresA a) (tops (scoresA a)))) (ix2 (rowOf b s) j) = attendRow (weightsOf a) (inputsOf a b s) j := by
  have e := means_apply a.values (normalised (expos (scoresA a) (tops (scoresA a)))) b s (headOf j) ⟨j.val % 128, by omega⟩
  rw [lane_headOf] at e
  rw [e, attendRow, ← sum_normalised _ _ (score_real a b s hg hq hk (headOf j))]
  simp only [normalised_apply, expos_apply, tops_apply, scoresA_row]
  rfl

theorem h2A_row (hg : ∀ y, IsReal (a.gQ y)) (hq : ∀ y, IsReal (a.q y)) (hk : ∀ y, IsReal (a.keys y)) (j : Fin 1024) :
    h2A a (ix2 (rowOf b s) j) = h2Row (weightsOf a) (inputsOf a b s) j := by
  rw [h2A, attended_apply]
  simp only [hA_row, means_row a b s hg hq hk]
  rfl

/-- The reference's result. -/
def lastA : FVec Ideal S32768x1024 .f32 :=
  norm (fed (h2A a) (acts (norm (h2A a) a.gFfn) a.gate a.up) a.down) a.gFinal

theorem lastA_row (hg : ∀ y, IsReal (a.gQ y)) (hq : ∀ y, IsReal (a.q y)) (hk : ∀ y, IsReal (a.keys y)) (j : Fin 1024) :
    lastA a (ix2 (rowOf b s) j) = lastRow (weightsOf a) (inputsOf a b s) j := by
  rw [lastA, norm_apply]
  simp only [fed_apply, acts_apply, gatedRef_eq, norm_apply, h2A_row a b s hg hq hk]
  rfl

theorem v57_eq : val_main_v57 (F := Ideal) a.x a.attn a.bg a.u a.init a.conv a.gAttn a.gConv a.out = hA a := rfl

theorem v77_eq : val_main_v77 (F := Ideal) a.x a.attn a.bg a.u a.init a.conv a.gAttn a.gConv a.out a.gQ a.q a.keys = scoresA a := by
  unfold scoresA
  rw [← v57_eq]
  rfl

theorem v93_eq : val_main_v93 (F := Ideal) a.x a.attn a.bg a.u a.init a.conv a.gAttn a.gConv a.out a.gQ a.q a.keys a.values a.o = h2A a := by
  unfold h2A
  rw [← v77_eq, ← v57_eq]
  rfl

theorem v123_eq : val_main_v123 (F := Ideal) a.x a.attn a.bg a.u a.init a.conv a.gAttn a.gConv a.out a.gQ a.q a.keys a.values a.o a.gFfn a.gate a.up
    a.down a.gFinal = lastA a := by
  unfold lastA
  rw [← v93_eq]
  rfl

end Cert.Tail.Ref

end
-- ==== Proof.TailWhole.lean ====
/- The tail's output array is the reference's, for real gains, query weights and keys. -/
module

public import proofs.«01_k».proof.Proof.TailOut
public import proofs.«01_k».proof.Proof.TailReads
public import proofs.«01_k».proof.Proof.TailRefRow
public import proofs.«01_k».proof.Proof.Gen.Kernel2Ideal.Value
public import Idealize.ShloMosaic.Lib.Pipeline.ValueKit

@[expose] public section

set_option maxRecDepth 16384

noncomputable section

namespace Cert.Tail.Tile

open Idealize.ShloMosaic Idealize.ShloMosaic.TcCoe Idealize.ShloMosaic.Tactic Idealize.SL.Sem Cert.Kernel2Ideal Cert.Kernel2Ideal.Gen
open Idealize.ShloMosaic.Pointwise Cert.Tail

/-! ## Where the blocks lie -/

theorem x_block : ∀ t : Fin cfg0.N, win0_0.index t = ![t.val, 0] := (by decide +kernel : ∀ t : Fin grid0.N, _)
theorem attn_block : ∀ t : Fin cfg0.N, win0_1.index t = ![t.val, 0] := (by decide +kernel : ∀ t : Fin grid0.N, _)
theorem bg_block : ∀ t : Fin cfg0.N, win0_2.index t = ![t.val, 0] := (by decide +kernel : ∀ t : Fin grid0.N, _)
theorem u_block : ∀ t : Fin cfg0.N, win0_3.index t = ![t.val, 0] := (by decide +kernel : ∀ t : Fin grid0.N, _)
theorem before_block : ∀ t : Fin cfg0.N, win0_4.index t = ![t.val * 64 - 1, 0] := (by decide +kernel : ∀ t : Fin grid0.N, _)
theorem init_block : ∀ t : Fin cfg0.N, win0_5.index t = ![t.val / 4, 0, 0] := (by decide +kernel : ∀ t : Fin grid0.N, _)
theorem conv_block : ∀ t : Fin cfg0.N, win0_6.index t = ![0, 0] := (by decide +kernel : ∀ t : Fin grid0.N, _)
theorem gAttn_block : ∀ t : Fin cfg0.N, win0_7.index t = ![0, 0] := (by decide +kernel : ∀ t : Fin grid0.N, _)
theorem gConv_block : ∀ t : Fin cfg0.N, win0_8.index t = ![0, 0] := (by decide +kernel : ∀ t : Fin grid0.N, _)
theorem out_block : ∀ t : Fin cfg0.N, win0_9.index t = ![0, 0] := (by decide +kernel : ∀ t : Fin grid0.N, _)
theorem gQ_block : ∀ t : Fin cfg0.N, win0_10.index t = ![0, 0] := (by decide +kernel : ∀ t : Fin grid0.N, _)
theorem q_block : ∀ t : Fin cfg0.N, win0_11.index t = ![0, 0] := (by decide +kernel : ∀ t : Fin grid0.N, _)
theorem keys_block : ∀ t : Fin cfg0.N, win0_12.index t = ![t.val / 4, 0] := (by decide +kernel : ∀ t : Fin grid0.N, _)
theorem values_block : ∀ t : Fin cfg0.N, win0_13.index t = ![t.val / 4, 0] := (by decide +kernel : ∀ t : Fin grid0.N, _)
theorem o_block : ∀ t : Fin cfg0.N, win0_14.index t = ![0, 0] := (by decide +kernel : ∀ t : Fin grid0.N, _)
theorem gFfn_block : ∀ t : Fin cfg0.N, win0_15.index t = ![0, 0] := (by decide +kernel : ∀ t : Fin grid0.N, _)
theorem gate_block : ∀ t : Fin cfg0.N, win0_16.index t = ![0, 0] := (by decide +kernel : ∀ t : Fin grid0.N, _)
theorem up_block : ∀ t : Fin cfg0.N, win0_17.index t = ![0, 0] := (by decide +kernel : ∀ t : Fin grid0.N, _)
theorem down_block : ∀ t : Fin cfg0.N, win0_18.index t = ![0, 0] := (by decide +kernel : ∀ t : Fin grid0.N, _)
theorem gFinal_block : ∀ t : Fin cfg0.N, win0_19.index t = ![0, 0] := (by decide +kernel : ∀ t : Fin grid0.N, _)
theorem last_block : ∀ t : Fin cfg0.N, win0_20.index t = ![t.val, 0] := (by decide +kernel : ∀ t : Fin grid0.N, _)

/-- The bit that says a tile is its batch element's first. -/
theorem first_bit : ∀ t : Fin cfg0.N, Scalar.cmpi .eq (Scalar.remsi (BitVec.ofNat 32 (grid0.coords t 0).val) 4#32) 0#32
    = if t.val % 4 = 0 then 1#1 else 0#1 := (by decide +kernel : ∀ t : Fin grid0.N, _)

/-! ## The blocks, read from the arguments -/

variable (m : (ℓ : Loc nD τ sig) → Buf (Elt Ideal) ℓ) (c : Dev nD) (t : Fin cfg0.N)

/-- The arguments. -/
def args : Ref.Args :=
  ⟨m ((c.tc : Thread nD τ).loc main_arg0), m ((c.tc : Thread nD τ).loc main_arg1), m ((c.tc : Thread nD τ).loc main_arg2),
    m ((c.tc : Thread nD τ).loc main_arg3), m ((c.tc : Thread nD τ).loc main_arg4), m ((c.tc : Thread nD τ).loc main_arg5),
    m ((c.tc : Thread nD τ).loc main_arg6), m ((c.tc : Thread nD τ).loc main_arg7), m ((c.tc : Thread nD τ).loc main_arg8),
    m ((c.tc : Thread nD τ).loc main_arg9), m ((c.tc : Thread nD τ).loc main_arg10), m ((c.tc : Thread nD τ).loc main_arg11),
    m ((c.tc : Thread nD τ).loc main_arg12), m ((c.tc : Thread nD τ).loc main_arg13), m ((c.tc : Thread nD τ).loc main_arg14),
    m ((c.tc : Thread nD τ).loc main_arg15), m ((c.tc : Thread nD τ).loc main_arg16), m ((c.tc : Thread nD τ).loc main_arg17),
    m ((c.tc : Thread nD τ).loc main_arg18)⟩

theorem conv_whole : (blocks m c t).conv = (args m c).conv := by
  funext y
  show iblk m c 6 t y = m ((c.tc : Thread nD τ).loc main_arg5) y
  blk_simp [iblk]
  rw [V_main_arg5]
  exact congrArg _ (by blk_ext [conv_block t])

theorem gAttn_whole : (blocks m c t).gAttn = (args m c).gAttn := by
  funext y
  show iblk m c 7 t y = m ((c.tc : Thread nD τ).loc main_arg6) y
  blk_simp [iblk]
  rw [V_main_arg6]
  exact congrArg _ (by blk_ext [gAttn_block t])

theorem gConv_whole : (blocks m c t).gConv = (args m c).gConv := by
  funext y
  show iblk m c 8 t y = m ((c.tc : Thread nD τ).loc main_arg7) y
  blk_simp [iblk]
  rw [V_main_arg7]
  exact congrArg _ (by blk_ext [gConv_block t])

theorem out_whole : (blocks m c t).out = (args m c).out := by
  funext y
  show iblk m c 9 t y = m ((c.tc : Thread nD τ).loc main_arg8) y
  blk_simp [iblk]
  rw [V_main_arg8]
  exact congrArg _ (by blk_ext [out_block t])

theorem gQ_whole : (blocks m c t).gQ = (args m c).gQ := by
  funext y
  show iblk m c 10 t y = m ((c.tc : Thread nD τ).loc main_arg9) y
  blk_simp [iblk]
  rw [V_main_arg9]
  exact congrArg _ (by blk_ext [gQ_block t])

theorem q_whole : (blocks m c t).q = (args m c).q := by
  funext y
  show iblk m c 11 t y = m ((c.tc : Thread nD τ).loc main_arg10) y
  blk_simp [iblk]
  rw [V_main_arg10]
  exact congrArg _ (by blk_ext [q_block t])

theorem o_whole : (blocks m c t).o = (args m c).o := by
  funext y
  show iblk m c 14 t y = m ((c.tc : Thread nD τ).loc main_arg13) y
  blk_simp [iblk]
  rw [V_main_arg13]
  exact congrArg _ (by blk_ext [o_block t])

theorem gFfn_whole : (blocks m c t).gFfn = (args m c).gFfn := by
  funext y
  show iblk m c 15 t y = m ((c.tc : Thread nD τ).loc main_arg14) y
  blk_simp [iblk]
  rw [V_main_arg14]
  exact congrArg _ (by blk_ext [gFfn_block t])

theorem gate_whole : (blocks m c t).gate = (args m c).gate := by
  funext y
  show iblk m c 16 t y = m ((c.tc : Thread nD τ).loc main_arg15) y
  blk_simp [iblk]
  rw [V_main_arg15]
  exact congrArg _ (by blk_ext [gate_block t])

theorem up_whole : (blocks m c t).up = (args m c).up := by
  funext y
  show iblk m c 17 t y = m ((c.tc : Thread nD τ).loc main_arg16) y
  blk_simp [iblk]
  rw [V_main_arg16]
  exact congrArg _ (by blk_ext [up_block t])

theorem down_whole : (blocks m c t).down = (args m c).down := by
  funext y
  show iblk m c 18 t y = m ((c.tc : Thread nD τ).loc main_arg17) y
  blk_simp [iblk]
  rw [V_main_arg17]
  exact congrArg _ (by blk_ext [down_block t])

theorem gFinal_whole : (blocks m c t).gFinal = (args m c).gFinal := by
  funext y
  show iblk m c 19 t y = m ((c.tc : Thread nD τ).loc main_arg18) y
  blk_simp [iblk]
  rw [V_main_arg18]
  exact congrArg _ (by blk_ext [gFinal_block t])

theorem weights_eq : weightsOf (blocks m c t) = Ref.weightsOf (args m c) := by
  simp only [weightsOf, Ref.weightsOf, conv_whole, gAttn_whole, gConv_whole, out_whole, gQ_whole, q_whole, o_whole, gFfn_whole, gate_whole, up_whole, down_whole, gFinal_whole]

theorem x_rows (r : Fin 512) (k : Fin 1024) (n : Fin 32768) (hn : n.val = t.val * 512 + r.val) :
    (blocks m c t).x (ix2 r k) = (args m c).x (ix2 n k) := by
  show iblk m c 0 t (ix2 r k) = m ((c.tc : Thread nD τ).loc main_arg0) (ix2 n k)
  blk_simp [iblk]
  rw [V_main_arg0]
  exact congrArg _ (by blk_ext [x_block t])

theorem attn_rows (r : Fin 512) (k : Fin 512) (n : Fin 32768) (hn : n.val = t.val * 512 + r.val) :
    (blocks m c t).attn (ix2 r k) = (args m c).attn (ix2 n k) := by
  show iblk m c 1 t (ix2 r k) = m ((c.tc : Thread nD τ).loc main_arg1) (ix2 n k)
  blk_simp [iblk]
  rw [V_main_arg1]
  exact congrArg _ (by blk_ext [attn_block t])

theorem bg_rows (r : Fin 512) (k : Fin 512) (n : Fin 32768) (hn : n.val = t.val * 512 + r.val) :
    (blocks m c t).bg (ix2 r k) = (args m c).bg (ix2 n k) := by
  show iblk m c 2 t (ix2 r k) = m ((c.tc : Thread nD τ).loc main_arg2) (ix2 n k)
  blk_simp [iblk]
  rw [V_main_arg2]
  exact congrArg _ (by blk_ext [bg_block t])

theorem u_rows (r : Fin 512) (k : Fin 512) (n : Fin 32768) (hn : n.val = t.val * 512 + r.val) :
    (blocks m c t).u (ix2 r k) = (args m c).u (ix2 n k) := by
  show iblk m c 3 t (ix2 r k) = m ((c.tc : Thread nD τ).loc main_arg3) (ix2 n k)
  blk_simp [iblk]
  rw [V_main_arg3]
  exact congrArg _ (by blk_ext [u_block t])

theorem before_rows (r : Fin 8) (k : Fin 512) (n : Fin 32768) (hn : n.val = (t.val * 64 - 1) * 8 + r.val) :
    (blocks m c t).before (ix2 r k) = (args m c).u (ix2 n k) := by
  show iblk m c 4 t (ix2 r k) = m ((c.tc : Thread nD τ).loc main_arg3) (ix2 n k)
  blk_simp [iblk]
  rw [V_main_arg3]
  exact congrArg _ (by blk_ext [before_block t])

theorem keys_rows (r : Fin 256) (k : Fin 512) (n : Fin 4096) (hn : n.val = t.val / 4 * 256 + r.val) :
    (blocks m c t).keys (ix2 r k) = (args m c).keys (ix2 n k) := by
  show iblk m c 12 t (ix2 r k) = m ((c.tc : Thread nD τ).loc main_arg11) (ix2 n k)
  blk_simp [iblk]
  rw [V_main_arg11]
  exact congrArg _ (by blk_ext [keys_block t])

theorem values_rows (r : Fin 256) (k : Fin 512) (n : Fin 4096) (hn : n.val = t.val / 4 * 256 + r.val) :
    (blocks m c t).values (ix2 r k) = (args m c).values (ix2 n k) := by
  show iblk m c 13 t (ix2 r k) = m ((c.tc : Thread nD τ).loc main_arg12) (ix2 n k)
  blk_simp [iblk]
  rw [V_main_arg12]
  exact congrArg _ (by blk_ext [values_block t])

theorem init_rows (r : Fin 8) (k : Fin 512) (n : Fin 16) (hn : n.val = t.val / 4) :
    (blocks m c t).init (ix3 (0 : Fin 1) r k) = (args m c).init (ix3 n r k) := by
  show iblk m c 5 t (ix3 (0 : Fin 1) r k) = m ((c.tc : Thread nD τ).loc main_arg4) (ix3 n r k)
  blk_simp [iblk]
  rw [V_main_arg4]
  exact congrArg _ (by blk_ext [init_block t])

/-! ## The rows before a tile -/

theorem halo_first (h : t.val % 4 = 0) (k : Fin 8) (j : Fin 512) (n : Fin 16) (hn : n.val = t.val / 4) :
    halo (grid0.coords t) (blocks m c t) k j = (args m c).init (ix3 n k j) := by
  rw [← init_rows m c t k j n hn]
  unfold halo k0_pay2
  have e := first_bit t
  rw [if_pos h] at e
  simp only [e, Scalar.select]
  rw [if_pos (by decide)]
  pointwise

theorem halo_later (h : t.val % 4 ≠ 0) (k : Fin 8) (j : Fin 512) (n : Fin 32768) (hn : n.val = (t.val * 64 - 1) * 8 + k.val) :
    halo (grid0.coords t) (blocks m c t) k j = (args m c).u (ix2 n j) := by
  rw [← before_rows m c t k j n hn]
  unfold halo k0_pay2
  have e := first_bit t
  rw [if_neg h] at e
  simp only [e, Scalar.select]
  rw [if_neg (by decide)]
  pointwise

/-! ## A row's inputs -/

theorem inputs_eq (r : Fin 512) (b : Fin 16) (s : Fin 2048) (hb : b.val = t.val / 4) (hs : s.val = t.val % 4 * 512 + r.val) :
    inputsOf (grid0.coords t) (blocks m c t) r = Ref.inputsOf (args m c) b s := by
  have hn : (Ref.rowOf b s).val = t.val * 512 + r.val := by
    show b.val * 2048 + s.val = _
    omega
  have e1 : ∀ k, before1 (grid0.coords t) (blocks m c t) r k = (Ref.inputsOf (args m c) b s).u1 k := fun k => by
    show dite _ _ _ = dite _ _ _
    by_cases hr : r.val = 0
    · rw [dif_pos hr]
      by_cases ht : t.val % 4 = 0
      · rw [dif_pos (show s.val = 0 by omega), halo_first m c t ht 7 k b hb]
      · rw [dif_neg (show ¬s.val = 0 by omega)]
        exact halo_later m c t ht 7 k _ (show b.val * 2048 + (s.val - 1) = (t.val * 64 - 1) * 8 + 7 by omega)
    · rw [dif_neg hr, dif_neg (show ¬s.val = 0 by omega)]
      exact u_rows m c t _ k _ (show b.val * 2048 + (s.val - 1) = t.val * 512 + (r.val - 1) by omega)
  have e2 : ∀ k, before2 (grid0.coords t) (blocks m c t) r k = (Ref.inputsOf (args m c) b s).u2 k := fun k => by
    show dite _ _ _ = dite _ _ _
    by_cases hr : r.val < 2
    · rw [dif_pos hr]
      by_cases ht : t.val % 4 = 0
      · rw [dif_pos (show s.val < 2 by omega), halo_first m c t ht _ k b hb]
        refine congrArg (fun n => (args m c).init (ix3 b n k)) (Fin.ext ?_)
        show r.val + 6 = 6 + s.val
        omega
      · rw [dif_neg (show ¬s.val < 2 by omega)]
        exact halo_later m c t ht _ k _ (show b.val * 2048 + (s.val - 2) = (t.val * 64 - 1) * 8 + (r.val + 6) by omega)
    · rw [dif_neg hr, dif_neg (show ¬s.val < 2 by omega)]
      exact u_rows m c t _ k _ (show b.val * 2048 + (s.val - 2) = t.val * 512 + (r.val - 2) by omega)
  have e3 : inputsOf (grid0.coords t) (blocks m c t) r
      = ⟨fun k => (blocks m c t).x (ix2 r k), fun k => (blocks m c t).attn (ix2 r k), fun k => (blocks m c t).bg (ix2 r k),
          fun k => (blocks m c t).u (ix2 r k), fun k => before1 (grid0.coords t) (blocks m c t) r k,
          fun k => before2 (grid0.coords t) (blocks m c t) r k, fun i j => (blocks m c t).keys (ix2 i j),
          fun i j => (blocks m c t).values (ix2 i j)⟩ := rfl
  have hm : ∀ i, (Ref.memOf b i).val = t.val / 4 * 256 + i.val := fun i => by
    show b.val * 256 + i.val = _
    omega
  rw [e3]
  simp only [e1, e2, x_rows m c t r _ _ hn, attn_rows m c t r _ _ hn, bg_rows m c t r _ _ hn, u_rows m c t r _ _ hn,
    fun i j => keys_rows m c t i j _ (hm i), fun i j => values_rows m c t i j _ (hm i)]
  rfl

/-! ## The whole array -/

theorem emb_last (r : Fin 512) (j : Fin 1024) (n : Fin 32768) (hn : n.val = t.val * 512 + r.val) :
    (win0_20.blk t).view.emb (ix2 r j) = ix2 n j := by
  blk_ext [last_block t]

theorem last_point (hg : ∀ y, IsReal ((args m c).gQ y)) (hq : ∀ y, IsReal ((args m c).q y)) (hk : ∀ y, IsReal ((args m c).keys y)) (y : S512x1024.Idx) :
    lastT (grid0.coords t) (blocks m c t) y = Ref.lastA (args m c) ((win0_20.blk t).view.emb y) := by
  obtain ⟨r, j, rfl⟩ : ∃ (r : Fin 512) (j : Fin 1024), y = ix2 r j := ⟨y 0, y 1, eq_ix2 y⟩
  have ht : t.val < 64 := t.isLt
  have hb : t.val / 4 < 16 := by omega
  have hs : t.val % 4 * 512 + r.val < 2048 := by omega
  rw [emb_last t r j (Ref.rowOf ⟨t.val / 4, hb⟩ ⟨t.val % 4 * 512 + r.val, hs⟩)
      (show t.val / 4 * 2048 + (t.val % 4 * 512 + r.val) = t.val * 512 + r.val by omega),
    lastT_apply, Ref.lastA_row _ _ _ hg hq hk, weights_eq, inputs_eq m c t r ⟨t.val / 4, hb⟩ ⟨t.val % 4 * 512 + r.val, hs⟩ rfl rfl]

/-- The output array after the run. -/
theorem final (hg : ∀ y, IsReal ((args m c).gQ y)) (hq : ∀ y, IsReal ((args m c).q y)) (hk : ∀ y, IsReal ((args m c).keys y)) :
    (dats m 0 c).arrAt 20 cfg0.N = Ref.lastA (args m c) := by
  refine (dats m 0 c).arrAt_eq_of_covers 20 _ (by decide +kernel) fun t hf y => ?_
  blk_simp
  rw [after0_20, out_eq]
  exact last_point m c t hg hq hk y

end Cert.Tail.Tile

end
-- ==== Proof.In.lean ====
/- The input projection: the kernel's seven arrays are the reference's. -/
module

public import proofs.«01_k».proof.Proof.TailRow
public import proofs.«01_k».proof.Proof.Gen.Kernel3Ideal.Value
public import proofs.«01_k».proof.Proof.Gen.Reference3Ideal.Read
public import Idealize.ShloMosaic.Lib.Pipeline.ValueKit
public import Idealize.ShloMosaic.Lib.Pointwise

@[expose] public section

set_option maxRecDepth 16384

noncomputable section

namespace Cert.In

open Idealize.ShloMosaic Idealize.ShloMosaic.TcCoe Idealize.ShloMosaic.Tactic Idealize.SL.Sem Cert.Kernel3Ideal Cert.Kernel3Ideal.Gen
open Idealize.ShloMosaic.Pointwise Cert.Tail

/-- Token `s` of batch element `b`, normed, times column `j` of the projection. -/
def inRow (x : FVec Ideal S16x2048x1024 .f32) (g : FVec Ideal S1x1024 .f32) (w : FVec Ideal S1x1024x3072 .f32) (b : Fin 16) (s : Fin 2048) (j : Fin 3072) : EReal :=
  proj (rms full (fun k => x (ix3 b s k)) fun k => g (ix2 (0 : Fin 1) k)) (fun k j => w (ix3 (0 : Fin 1) k j)) j

/-- The batch element and the token of row `n`. -/
abbrev batchOf (n : Fin 32768) : Fin 16 := ⟨n.val / 2048, by omega⟩
abbrev tokenOf (n : Fin 32768) : Fin 2048 := ⟨n.val % 2048, by omega⟩

/-- A group's column in the projection. -/
abbrev col (o : ℕ) (h : o + 512 ≤ 3072) (j : Fin 512) : Fin 3072 := ⟨o + j.val, by omega⟩

/-- The queries' scale. -/
abbrev scale : EReal := Ideal.ofBits .f32 0x3E000000#32

/-! ## The reference -/

section Ref

open Cert.Reference3Ideal.Read

variable (x : FVec Ideal S16x2048x1024 .f32) (g : FVec Ideal S1x1024 .f32) (w : FVec Ideal S1x1024x3072 .f32)

theorem normed_ref (b : Fin 16) (s : Fin 2048) (k : Fin 1024) :
    val_main_v13 (F := Ideal) x g (ix3 b s k) = rms full (fun k => x (ix3 b s k)) (fun k => g (ix2 (0 : Fin 1) k)) k := by
  pointwise [val_main_v13, val_main_v12, val_main_v11, val_main_v10, val_main_v9, val_main_v8, val_main_v7, val_main_v6, val_main_v5, val_main_v4, val_main_v3, val_main_v2,
    val_main_v1, val_main_v0, val_main_cst, val_main_cst_0, val_main_cst_1]
  rfl

theorem projected_ref (b : Fin 16) (s : Fin 2048) (j : Fin 3072) : val_main_v15 (F := Ideal) x g w (ix3 b s j) = inRow x g w b s j := by
  pointwise [val_main_v15, val_main_v14]
  simp only [normed_ref]
  rfl

theorem q_ref (n : Fin 32768) (j : Fin 512) : val_main_v26 (F := Ideal) x g w (ix2 n j) = inRow x g w (batchOf n) (tokenOf n) (col 0 (by decide) j) * scale := by
  pointwise [val_main_v26, val_main_v25, val_main_v24, val_main_v23, val_main_v16, val_main_cst_2, projected_ref]
  exact congrArg (inRow x g w (batchOf n) (tokenOf n) · * scale) (Fin.ext (Nat.zero_add _).symm)

theorem bg_ref (n : Fin 32768) (j : Fin 512) : val_main_v35 (F := Ideal) x g w (ix2 n j) = inRow x g w (batchOf n) (tokenOf n) (col 1536 (by decide) j) := by
  pointwise [val_main_v35, val_main_v19, projected_ref]

theorem u_ref (n : Fin 32768) (j : Fin 512) : val_main_v36 (F := Ideal) x g w (ix2 n j)
    = inRow x g w (batchOf n) (tokenOf n) (col 2048 (by decide) j) * inRow x g w (batchOf n) (tokenOf n) (col 2560 (by decide) j) := by
  pointwise [val_main_v36, val_main_v22, val_main_v20, val_main_v21, projected_ref]

theorem kt_ref (b : Fin 16) (j : Fin 512) (s : Fin 2048) : val_main_v27 (F := Ideal) x g w (ix3 b j s) = inRow x g w b s (col 512 (by decide) j) := by
  pointwise [val_main_v27, val_main_v17, projected_ref]

theorem vt_ref (b : Fin 16) (j : Fin 512) (s : Fin 2048) : val_main_v28 (F := Ideal) x g w (ix3 b j s) = inRow x g w b s (col 1024 (by decide) j) := by
  pointwise [val_main_v28, val_main_v18, projected_ref]

theorem ktb_ref (b : Fin 16) (c : Fin 8) (j : Fin 512) (i : Fin 256) :
    val_main_v31 (F := Ideal) x g w (ix4 b c j i) = inRow x g w b (⟨c.val * 256 + i.val, by omega⟩ : Fin 2048) (col 512 (by decide) j) := by
  pointwise [val_main_v31, val_main_v30, val_main_v29, val_main_v17, projected_ref]

theorem vtb_ref (b : Fin 16) (c : Fin 8) (j : Fin 512) (i : Fin 256) :
    val_main_v34 (F := Ideal) x g w (ix4 b c j i) = inRow x g w b (⟨c.val * 256 + i.val, by omega⟩ : Fin 2048) (col 1024 (by decide) j) := by
  pointwise [val_main_v34, val_main_v33, val_main_v32, val_main_v18, projected_ref]

end Ref

/-! ## The tile -/

section Tile

variable (x : FVec Ideal S512x1024 .f32) (g : FVec Ideal S1x1024 .f32)

/-- Row `r` of a tile, normed. -/
def tileRow (r : Fin 512) : Fin 1024 → EReal := rms full (fun k => x (ix2 r k)) fun k => g (ix2 (0 : Fin 1) k)

theorem normed_tile (r : Fin 512) (k : Fin 1024) : (k0_pay2 x g : FVec Ideal S512x1024 .bf16) (ix2 r k) = tileRow x g r k := by
  pointwise [k0_pay2]
  rfl

theorem bg_tile (w : FVec Ideal S1024x512 .bf16) (r j : Fin 512) :
    (k0_pay4 x g w : FVec Ideal S512x512 .f32) (ix2 r j) = proj (tileRow x g r) (fun k j => w (ix2 k j)) j := by
  pointwise [k0_pay4]
  simp only [normed_tile]
  rfl

theorem q_tile (w : FVec Ideal S1024x512 .bf16) (r j : Fin 512) :
    (k0_pay3 x g w : FVec Ideal S512x512 .bf16) (ix2 r j) = proj (tileRow x g r) (fun k j => w (ix2 k j)) j * scale := by
  pointwise [k0_pay3]
  simp only [normed_tile]
  rfl

theorem u_tile (w w' : FVec Ideal S1024x512 .bf16) (r j : Fin 512) :
    (k0_pay7 (k0_pay2 x g) (k0_pay5 x g w) (k0_pay6 w') : FVec Ideal S512x512 .f32) (ix2 r j)
      = proj (tileRow x g r) (fun k j => w (ix2 k j)) j * proj (tileRow x g r) (fun k j => w' (ix2 k j)) j := by
  pointwise [k0_pay7, k0_pay5, k0_pay6]
  simp only [normed_tile]
  rfl

theorem kv_tile (w : FVec Ideal S1024x1024 .bf16) (j : Fin 1024) (r : Fin 512) :
    (k0_pay8 (k0_pay2 x g) w : FVec Ideal S1024x512 .f32) (ix2 j r) = proj (tileRow x g r) (fun k j => w (ix2 j k)) j := by
  pointwise [k0_pay8]
  simp only [normed_tile, mul_comm (w _)]
  rfl

theorem k_tile (w : FVec Ideal S1024x1024 .bf16) (j : Fin 512) (r : Fin 512) :
    (k0_pay11 (k0_pay2 x g) w : FVec Ideal S1x512x512 .f32) (ix3 (0 : Fin 1) j r) = proj (tileRow x g r) (fun k j => w (ix2 j k)) (⟨j.val, by omega⟩ : Fin 1024) := by
  pointwise [k0_pay11, k0_pay9, kv_tile]

theorem v_tile (w : FVec Ideal S1024x1024 .bf16) (j : Fin 512) (r : Fin 512) :
    (k0_pay12 (k0_pay2 x g) w : FVec Ideal S1x512x512 .f32) (ix3 (0 : Fin 1) j r) = proj (tileRow x g r) (fun k j => w (ix2 j k)) (⟨512 + j.val, by omega⟩ : Fin 1024) := by
  pointwise [k0_pay12, k0_pay10, kv_tile]

/-- The tile of keys, and of values, in blocks of columns. -/
def kbTile (w : FVec Ideal S1024x1024 .bf16) : Vec Ideal S1x2x512x256 .bf16 :=
  View.canon ([⟨r0_10, k0_pay15 (F := Ideal) (k0_pay2 x g) w⟩, ⟨r0_9, k0_pay13 (F := Ideal) (k0_pay2 x g) w⟩] : List (View.Piece (Elt Ideal) S1x2x512x256 .bf16))
def vbTile (w : FVec Ideal S1024x1024 .bf16) : Vec Ideal S1x2x512x256 .bf16 :=
  View.canon ([⟨r0_10, k0_pay1 (F := Ideal) (k0_pay16 (k0_pay2 x g) w)⟩, ⟨r0_9, k0_pay14 (F := Ideal) (k0_pay2 x g) w⟩] : List (View.Piece (Elt Ideal) S1x2x512x256 .bf16))

theorem kb_tile (w : FVec Ideal S1024x1024 .bf16) (h : Fin 2) (j : Fin 512) (i : Fin 256) :
    (kbTile x g w : FVec Ideal S1x2x512x256 .bf16) (ix4 (0 : Fin 1) h j i)
      = proj (tileRow x g (⟨h.val * 256 + i.val, by omega⟩ : Fin 512)) (fun k j => w (ix2 j k)) (⟨j.val, by omega⟩ : Fin 1024) :=
  (Value.canon7_eq (F := Ideal) x g w _).trans ((congrArg (k0_pay8 (k0_pay2 x g) w : FVec Ideal S1024x512 .f32)
    (show Value.ix7_0 (ix4 (0 : Fin 1) h j i) = ix2 (⟨j.val, by omega⟩ : Fin 1024) (⟨h.val * 256 + i.val, by omega⟩ : Fin 512) from
      funext fun a => match a with | ⟨0, _⟩ => Fin.ext rfl | ⟨1, _⟩ => Fin.ext rfl)).trans (kv_tile x g w _ _))

theorem vb_tile (w : FVec Ideal S1024x1024 .bf16) (h : Fin 2) (j : Fin 512) (i : Fin 256) :
    (vbTile x g w : FVec Ideal S1x2x512x256 .bf16) (ix4 (0 : Fin 1) h j i)
      = proj (tileRow x g (⟨h.val * 256 + i.val, by omega⟩ : Fin 512)) (fun k j => w (ix2 j k)) (⟨512 + j.val, by omega⟩ : Fin 1024) :=
  (Value.canon8_eq (F := Ideal) x g w _).trans ((congrArg (k0_pay8 (k0_pay2 x g) w : FVec Ideal S1024x512 .f32)
    (show Value.ix8_0 (ix4 (0 : Fin 1) h j i) = ix2 (⟨512 + j.val, by omega⟩ : Fin 1024) (⟨h.val * 256 + i.val, by omega⟩ : Fin 512) from
      funext fun a => match a with | ⟨0, _⟩ => Fin.ext (Nat.add_comm j.val 512) | ⟨1, _⟩ => Fin.ext rfl)).trans (kv_tile x g w _ _))

end Tile

/-! ## The blocks -/

variable (m : (ℓ : Loc nD τ sig) → Buf (Elt Ideal) ℓ) (c : Dev nD) (t : Fin cfg0.N)

theorem x_block : ∀ t : Fin cfg0.N, win0_0.index t = ![t.val, 0] := (by decide +kernel : ∀ t : Fin grid0.N, _)
theorem g_block : ∀ t : Fin cfg0.N, win0_1.index t = ![0, 0] := (by decide +kernel : ∀ t : Fin grid0.N, _)
theorem w_block : ∀ t : Fin cfg0.N, win0_2.index t = ![0, 0] := (by decide +kernel : ∀ t : Fin grid0.N, _)
theorem kv_block : ∀ t : Fin cfg0.N, win0_3.index t = ![0, 0] := (by decide +kernel : ∀ t : Fin grid0.N, _)
theorem q_block : ∀ t : Fin cfg0.N, win0_4.index t = ![t.val, 0] := (by decide +kernel : ∀ t : Fin grid0.N, _)
theorem kt_block : ∀ t : Fin cfg0.N, win0_5.index t = ![t.val / 4, 0, t.val % 4] := (by decide +kernel : ∀ t : Fin grid0.N, _)
theorem vt_block : ∀ t : Fin cfg0.N, win0_6.index t = ![t.val / 4, 0, t.val % 4] := (by decide +kernel : ∀ t : Fin grid0.N, _)
theorem ktb_block : ∀ t : Fin cfg0.N, win0_7.index t = ![t.val / 4, t.val % 4, 0, 0] := (by decide +kernel : ∀ t : Fin grid0.N, _)
theorem vtb_block : ∀ t : Fin cfg0.N, win0_8.index t = ![t.val / 4, t.val % 4, 0, 0] := (by decide +kernel : ∀ t : Fin grid0.N, _)
theorem bg_block : ∀ t : Fin cfg0.N, win0_9.index t = ![t.val, 0] := (by decide +kernel : ∀ t : Fin grid0.N, _)
theorem u_block : ∀ t : Fin cfg0.N, win0_10.index t = ![t.val, 0] := (by decide +kernel : ∀ t : Fin grid0.N, _)

/-- The three arguments. -/
abbrev argX : FVec Ideal S16x2048x1024 .f32 := m ((c.tc : Thread nD τ).loc main_arg0)
abbrev argG : FVec Ideal S1x1024 .f32 := m ((c.tc : Thread nD τ).loc main_arg1)
abbrev argW : FVec Ideal S1x1024x3072 .f32 := m ((c.tc : Thread nD τ).loc main_arg2)

theorem x_rows (n : Fin 32768) (r : Fin 512) (h : n.val = t.val * 512 + r.val) (k : Fin 1024) :
    (iblk m c 0 t : FVec Ideal S512x1024 .f32) (ix2 r k) = argX m c (ix3 (batchOf n) (tokenOf n) k) := by
  blk_simp [iblk]
  rw [show ((View.whole main_v7).slice (win0_0.rect t)).emb (ix2 r k) = ix2 n k from by blk_ext [x_block t]]
  entry_read
  pointwise

theorem g_row (k : Fin 1024) : (iblk m c 1 t : FVec Ideal S1x1024 .f32) (ix2 (0 : Fin 1) k) = argG m c (ix2 (0 : Fin 1) k) := by
  blk_simp [iblk]
  rw [show ((View.whole main_v9).slice (win0_1.rect t)).emb (ix2 (0 : Fin 1) k) = ix2 (0 : Fin 1) k from by blk_ext [g_block t]]
  entry_read
  pointwise

/-- A tile's rows are the sequence's. -/
theorem rows_eq (n : Fin 32768) (r : Fin 512) (h : n.val = t.val * 512 + r.val) :
    tileRow (iblk m c 0 t) (iblk m c 1 t) r = rms full (fun k => argX m c (ix3 (batchOf n) (tokenOf n) k)) fun k => argG m c (ix2 (0 : Fin 1) k) := by
  unfold tileRow
  simp only [x_rows m c t n r h, g_row]

/-- The row weights' columns: the first group's, and those after the keys' and the values'. -/
theorem first_cols (k : Fin 1024) (j : Fin 2048) (h : j.val < 512) :
    (iblk m c 2 t : FVec Ideal S1024x2048 .bf16) (ix2 k j) = argW m c (ix3 (0 : Fin 1) k (⟨j.val, by omega⟩ : Fin 3072)) := by
  blk_simp [iblk]
  rw [show (win0_2.blk t).view.emb (ix2 k j) = ix2 k j from by blk_ext [w_block t]]
  entry_read
  pointwise [h]

theorem later_cols (k : Fin 1024) (j : Fin 2048) (h : ¬j.val < 512) :
    (iblk m c 2 t : FVec Ideal S1024x2048 .bf16) (ix2 k j) = argW m c (ix3 (0 : Fin 1) k (⟨1024 + j.val, by omega⟩ : Fin 3072)) := by
  blk_simp [iblk]
  rw [show (win0_2.blk t).view.emb (ix2 k j) = ix2 k j from by blk_ext [w_block t]]
  entry_read
  pointwise [h]
  exact congrArg (fun i => argW m c (ix3 (0 : Fin 1) k i)) (Fin.ext (show 1536 + (j.val - 512) = 1024 + j.val by omega))

theorem kv_cols (j k : Fin 1024) :
    (iblk m c 3 t : FVec Ideal S1024x1024 .bf16) (ix2 j k) = argW m c (ix3 (0 : Fin 1) k (⟨512 + j.val, by omega⟩ : Fin 3072)) := by
  blk_simp [iblk]
  rw [show (win0_3.blk t).view.emb (ix2 j k) = ix2 j k from by blk_ext [kv_block t]]
  entry_read
  pointwise

/-- The columns from `o` on. -/
abbrev after (o : ℕ) (h : o + 512 ≤ 2048) (j : Fin 512) : Fin 2048 := ⟨o + j.val, by omega⟩

theorem ld_q (x : Vec Ideal S1024x2048 .bf16) (k : Fin 1024) (j : Fin 512) :
    (View.ld x r0_2 : FVec Ideal S1024x512 .bf16) (ix2 k j) = (x : FVec Ideal S1024x2048 .bf16) (ix2 k (after 0 (by decide) j)) := by
  pointwise
  exact congrArg (fun i => x (ix2 k i)) (Fin.ext (Nat.zero_add _).symm)

theorem ld_bg (x : Vec Ideal S1024x2048 .bf16) (k : Fin 1024) (j : Fin 512) :
    (View.ld x r0_4 : FVec Ideal S1024x512 .bf16) (ix2 k j) = (x : FVec Ideal S1024x2048 .bf16) (ix2 k (after 512 (by decide) j)) := by
  pointwise

theorem ld_cg (x : Vec Ideal S1024x2048 .bf16) (k : Fin 1024) (j : Fin 512) :
    (View.ld x r0_5 : FVec Ideal S1024x512 .bf16) (ix2 k j) = (x : FVec Ideal S1024x2048 .bf16) (ix2 k (after 1024 (by decide) j)) := by
  pointwise

theorem ld_xv (x : Vec Ideal S1024x2048 .bf16) (k : Fin 1024) (j : Fin 512) :
    (View.ld x r0_6 : FVec Ideal S1024x512 .bf16) (ix2 k j) = (x : FVec Ideal S1024x2048 .bf16) (ix2 k (after 1536 (by decide) j)) := by
  pointwise

theorem q_cols (k : Fin 1024) (j : Fin 512) :
    (View.ld (iblk m c 2 t) r0_2 : FVec Ideal S1024x512 .bf16) (ix2 k j) = argW m c (ix3 (0 : Fin 1) k (col 0 (by decide) j)) :=
  (ld_q _ k j).trans (first_cols m c t k _ (by show 0 + j.val < 512; omega))

/-- Of a later group, starting at `o` in the row weights. -/
theorem group_cols (o o' : ℕ) (h : o + 512 ≤ 2048) (h' : o' + 512 ≤ 3072) (ho : 512 ≤ o) (e : o' = 1024 + o) (k : Fin 1024) (j : Fin 512) :
    (iblk m c 2 t : FVec Ideal S1024x2048 .bf16) (ix2 k (after o h j)) = argW m c (ix3 (0 : Fin 1) k (col o' h' j)) :=
  (later_cols m c t k _ (by show ¬o + j.val < 512; omega)).trans
    (congrArg (fun i => argW m c (ix3 (0 : Fin 1) k i)) (Fin.ext (show 1024 + (o + j.val) = o' + j.val by omega)))

/-! ## The arrays -/

/-- A tile's row of products is the sequence's. -/
theorem product_eq {d : ℕ} (n : Fin 32768) (r : Fin 512) (h : n.val = t.val * 512 + r.val) (w : Fin 1024 → Fin d → EReal) (i : Fin d) (j : Fin 3072)
    (hw : ∀ k, w k i = argW m c (ix3 (0 : Fin 1) k j)) :
    proj (tileRow (iblk m c 0 t) (iblk m c 1 t) r) w i = inRow (argX m c) (argG m c) (argW m c) (batchOf n) (tokenOf n) j := by
  rw [rows_eq m c t n r h]
  exact Finset.sum_congr rfl fun k _ => congrArg (_ * ·) (hw k)

theorem final4 : (dats m 0 c).arrAt 4 cfg0.N = Cert.Reference3Ideal.Read.val_main_v26 (F := Ideal) (argX m c) (argG m c) (argW m c) := by
  refine (dats m 0 c).arrAt_eq_of_covers 4 _ (by decide +kernel) fun t hf y => ?_
  obtain ⟨r, j, rfl⟩ : ∃ (r j : Fin 512), y = ix2 r j := ⟨y 0, y 1, (by blk_ext)⟩
  have ht : t.val < 64 := t.isLt
  have hn : t.val * 512 + r.val < 32768 := by omega
  blk_simp
  rw [after0_4]
  unfold_out out0_4
  frame_out
  rw [show ((View.whole main_v10_0).slice (win0_4.rect t)).emb (ix2 r j) = ix2 (⟨_, hn⟩ : Fin 32768) j from by blk_ext [q_block t]]
  refine ((q_tile _ _ _ r j).trans ?_).trans (q_ref _ _ _ _ _).symm
  exact congrArg (· * scale) (product_eq m c t ⟨_, hn⟩ r rfl _ j _ fun k => q_cols m c t k j)

theorem final9 : (dats m 0 c).arrAt 9 cfg0.N = Cert.Reference3Ideal.Read.val_main_v35 (F := Ideal) (argX m c) (argG m c) (argW m c) := by
  refine (dats m 0 c).arrAt_eq_of_covers 9 _ (by decide +kernel) fun t hf y => ?_
  obtain ⟨r, j, rfl⟩ : ∃ (r j : Fin 512), y = ix2 r j := ⟨y 0, y 1, (by blk_ext)⟩
  have ht : t.val < 64 := t.isLt
  have hn : t.val * 512 + r.val < 32768 := by omega
  blk_simp
  rw [after0_9]
  unfold_out out0_9
  frame_out
  rw [show ((View.whole main_v10_5).slice (win0_9.rect t)).emb (ix2 r j) = ix2 (⟨_, hn⟩ : Fin 32768) j from by blk_ext [bg_block t]]
  refine ((bg_tile _ _ _ r j).trans ?_).trans (bg_ref _ _ _ _ _).symm
  exact product_eq m c t ⟨_, hn⟩ r rfl _ j _ fun k => (ld_bg _ k j).trans (group_cols m c t 512 1536 _ _ (by decide) rfl k j)

theorem final10 : (dats m 0 c).arrAt 10 cfg0.N = Cert.Reference3Ideal.Read.val_main_v36 (F := Ideal) (argX m c) (argG m c) (argW m c) := by
  refine (dats m 0 c).arrAt_eq_of_covers 10 _ (by decide +kernel) fun t hf y => ?_
  obtain ⟨r, j, rfl⟩ : ∃ (r j : Fin 512), y = ix2 r j := ⟨y 0, y 1, (by blk_ext)⟩
  have ht : t.val < 64 := t.isLt
  have hn : t.val * 512 + r.val < 32768 := by omega
  blk_simp
  rw [after0_10]
  unfold_out out0_10
  frame_out
  rw [show ((View.whole main_v10_6).slice (win0_10.rect t)).emb (ix2 r j) = ix2 (⟨_, hn⟩ : Fin 32768) j from by blk_ext [u_block t]]
  refine ((u_tile _ _ _ _ r j).trans ?_).trans (u_ref _ _ _ _ _).symm
  exact congrArg₂ (· * ·) (product_eq m c t ⟨_, hn⟩ r rfl _ j _ fun k => (ld_cg _ k j).trans (group_cols m c t 1024 2048 _ _ (by decide) rfl k j)) (product_eq m c t ⟨_, hn⟩ r rfl _ j _ fun k => (ld_xv _ k j).trans (group_cols m c t 1536 2560 _ _ (by decide) rfl k j))

/-- A key's, and a value's, product is the sequence's. -/
theorem kv_product_eq (b : Fin 16) (s : Fin 2048) (r : Fin 512) (h : b.val * 2048 + s.val = t.val * 512 + r.val) (i : Fin 1024) (j : Fin 3072) (hj : j.val = 512 + i.val) :
    proj (tileRow (iblk m c 0 t) (iblk m c 1 t) r) (fun k j => (iblk m c 3 t : FVec Ideal S1024x1024 .bf16) (ix2 j k)) i
      = inRow (argX m c) (argG m c) (argW m c) b s j := by
  rw [product_eq m c t ⟨b.val * 2048 + s.val, by omega⟩ r h _ i j fun k => (kv_cols m c t i k).trans (congrArg (fun i => argW m c (ix3 (0 : Fin 1) k i)) (Fin.ext hj.symm))]
  exact congrArg₂ (fun b s => inRow (argX m c) (argG m c) (argW m c) b s j) (Fin.ext (show (b.val * 2048 + s.val) / 2048 = b.val by omega))
    (Fin.ext (show (b.val * 2048 + s.val) % 2048 = s.val by omega))

theorem final5 : (dats m 0 c).arrAt 5 cfg0.N = Cert.Reference3Ideal.Read.val_main_v27 (F := Ideal) (argX m c) (argG m c) (argW m c) := by
  refine (dats m 0 c).arrAt_eq_of_covers 5 _ (by decide +kernel) fun t hf y => ?_
  obtain ⟨j, r, rfl⟩ : ∃ (j r : Fin 512), y = ix3 (0 : Fin 1) j r := ⟨y 1, y 2, (by blk_ext)⟩
  have ht : t.val < 64 := t.isLt
  have hs : t.val % 4 * 512 + r.val < 2048 := by omega
  blk_simp
  rw [after0_5]
  unfold_out out0_5
  frame_out
  rw [show ((View.whole main_v10_1).slice (win0_5.rect t)).emb (ix3 (0 : Fin 1) j r) = ix3 (⟨t.val / 4, by omega⟩ : Fin 16) j (⟨_, hs⟩ : Fin 2048) from by blk_ext [kt_block t]]
  refine ((k_tile _ _ _ j r).trans ?_).trans (kt_ref _ _ _ _ _ _).symm
  exact kv_product_eq m c t _ _ r (by show t.val / 4 * 2048 + (t.val % 4 * 512 + r.val) = _; omega) _ _ rfl

theorem final6 : (dats m 0 c).arrAt 6 cfg0.N = Cert.Reference3Ideal.Read.val_main_v28 (F := Ideal) (argX m c) (argG m c) (argW m c) := by
  refine (dats m 0 c).arrAt_eq_of_covers 6 _ (by decide +kernel) fun t hf y => ?_
  obtain ⟨j, r, rfl⟩ : ∃ (j r : Fin 512), y = ix3 (0 : Fin 1) j r := ⟨y 1, y 2, (by blk_ext)⟩
  have ht : t.val < 64 := t.isLt
  have hs : t.val % 4 * 512 + r.val < 2048 := by omega
  blk_simp
  rw [after0_6]
  unfold_out out0_6
  frame_out
  rw [show ((View.whole main_v10_2).slice (win0_6.rect t)).emb (ix3 (0 : Fin 1) j r) = ix3 (⟨t.val / 4, by omega⟩ : Fin 16) j (⟨_, hs⟩ : Fin 2048) from by blk_ext [vt_block t]]
  refine ((v_tile _ _ _ j r).trans ?_).trans (vt_ref _ _ _ _ _ _).symm
  exact kv_product_eq m c t _ _ r (by show t.val / 4 * 2048 + (t.val % 4 * 512 + r.val) = _; omega) _ _ (Nat.add_assoc 512 512 j.val)

theorem final7 : (dats m 0 c).arrAt 7 cfg0.N = Cert.Reference3Ideal.Read.val_main_v31 (F := Ideal) (argX m c) (argG m c) (argW m c) := by
  refine (dats m 0 c).arrAt_eq_of_covers 7 _ (by decide +kernel) fun t hf y => ?_
  obtain ⟨h, j, i, rfl⟩ : ∃ (h : Fin 2) (j : Fin 512) (i : Fin 256), y = ix4 (0 : Fin 1) h j i := ⟨y 1, y 2, y 3, (by blk_ext)⟩
  have ht : t.val < 64 := t.isLt
  have hs : t.val % 4 * 2 + h.val < 8 := by omega
  blk_simp
  rw [after0_7]
  unfold_out out0_7
  frame_out
  rw [show ((View.whole main_v10_3).slice (win0_7.rect t)).emb (ix4 (0 : Fin 1) h j i) = ix4 (⟨t.val / 4, by omega⟩ : Fin 16) (⟨_, hs⟩ : Fin 8) j i from by blk_ext [ktb_block t]]
  refine ((kb_tile (iblk m c 0 t) (iblk m c 1 t) (iblk m c 3 t) h j i).trans ?_).trans (ktb_ref _ _ _ _ _ _ _).symm
  exact kv_product_eq m c t _ _ _ (by show t.val / 4 * 2048 + ((t.val % 4 * 2 + h.val) * 256 + i.val) = t.val * 512 + (h.val * 256 + i.val); omega) _ _ rfl

theorem final8 : (dats m 0 c).arrAt 8 cfg0.N = Cert.Reference3Ideal.Read.val_main_v34 (F := Ideal) (argX m c) (argG m c) (argW m c) := by
  refine (dats m 0 c).arrAt_eq_of_covers 8 _ (by decide +kernel) fun t hf y => ?_
  obtain ⟨h, j, i, rfl⟩ : ∃ (h : Fin 2) (j : Fin 512) (i : Fin 256), y = ix4 (0 : Fin 1) h j i := ⟨y 1, y 2, y 3, (by blk_ext)⟩
  have ht : t.val < 64 := t.isLt
  have hs : t.val % 4 * 2 + h.val < 8 := by omega
  blk_simp
  rw [after0_8]
  unfold_out out0_8
  frame_out
  rw [show ((View.whole main_v10_4).slice (win0_8.rect t)).emb (ix4 (0 : Fin 1) h j i) = ix4 (⟨t.val / 4, by omega⟩ : Fin 16) (⟨_, hs⟩ : Fin 8) j i from by blk_ext [vtb_block t]]
  refine ((vb_tile (iblk m c 0 t) (iblk m c 1 t) (iblk m c 3 t) h j i).trans ?_).trans (vtb_ref _ _ _ _ _ _ _).symm
  exact kv_product_eq m c t _ _ _ (by show t.val / 4 * 2048 + ((t.val % 4 * 2 + h.val) * 256 + i.val) = t.val * 512 + (h.val * 256 + i.val); omega) _ _ (Nat.add_assoc 512 512 j.val)

end Cert.In

end
-- ==== Proof.InSample.lean ====
/- The input projection of the sample group, one tile of 256 rows: the kernel's seven arrays are the reference's. -/
module

public import proofs.«01_k».proof.Proof.In
public import proofs.«01_k».proof.Proof.Gen.Kernel5Ideal.Value
public import proofs.«01_k».proof.Proof.Gen.Reference5Ideal.Read

@[expose] public section

set_option maxRecDepth 16384

noncomputable section

namespace Cert.InSample

open Idealize.ShloMosaic Idealize.ShloMosaic.TcCoe Idealize.ShloMosaic.Tactic Idealize.SL.Sem Cert.Kernel5Ideal Cert.Kernel5Ideal.Gen
open Idealize.ShloMosaic.Pointwise
open Cert.Tail hiding scale
open Cert.In (col scale after)

/-- Row `n` of the sample group, normed. -/
def normedRow (x : FVec Ideal S32x8x1024 .f32) (g : FVec Ideal S1x1024 .f32) (n : Fin 256) : Fin 1024 → EReal :=
  rms full (fun k => x (ix3 (⟨n.val / 8, by omega⟩ : Fin 32) (⟨n.val % 8, by omega⟩ : Fin 8) k)) fun k => g (ix2 (0 : Fin 1) k)

/-- The same, times column `j` of the projection. -/
def inRow (x : FVec Ideal S32x8x1024 .f32) (g : FVec Ideal S1x1024 .f32) (w : FVec Ideal S1x1024x3072 .f32) (n : Fin 256) (j : Fin 3072) : EReal :=
  proj (normedRow x g n) (fun k j => w (ix3 (0 : Fin 1) k j)) j

/-! ## The reference -/

section Ref

open Cert.Reference5Ideal.Read

variable (x : FVec Ideal S32x8x1024 .f32) (g : FVec Ideal S1x1024 .f32) (w : FVec Ideal S1x1024x3072 .f32)

theorem normed_ref (n : Fin 256) (k : Fin 1024) :
    val_main_v13 (F := Ideal) x g (ix3 (⟨n.val / 8, by omega⟩ : Fin 32) (⟨n.val % 8, by omega⟩ : Fin 8) k) = normedRow x g n k := by
  pointwise [val_main_v13, val_main_v12, val_main_v11, val_main_v10, val_main_v9, val_main_v8, val_main_v7, val_main_v6, val_main_v5, val_main_v4, val_main_v3, val_main_v2,
    val_main_v1, val_main_v0, val_main_cst, val_main_cst_0, val_main_cst_1]
  rfl

theorem projected_ref (n : Fin 256) (j : Fin 3072) :
    val_main_v15 (F := Ideal) x g w (ix3 (⟨n.val / 8, by omega⟩ : Fin 32) (⟨n.val % 8, by omega⟩ : Fin 8) j) = inRow x g w n j := by
  pointwise [val_main_v15, val_main_v14]
  simp only [normed_ref]
  rfl

theorem q_ref (n : Fin 256) (j : Fin 512) : val_main_v26 (F := Ideal) x g w (ix2 n j) = inRow x g w n (col 0 (by decide) j) * scale := by
  rw [← projected_ref]
  pointwise [val_main_v26, val_main_v25, val_main_v24, val_main_v23, val_main_v16, val_main_cst_2]
  exact congrArg (fun i => val_main_v15 (F := Ideal) x g w (ix3 (⟨n.val / 8, by omega⟩ : Fin 32) (⟨n.val % 8, by omega⟩ : Fin 8) i) * scale) (Fin.ext (Nat.zero_add _).symm)

theorem bg_ref (n : Fin 256) (j : Fin 512) : val_main_v37 (F := Ideal) x g w (ix2 n j) = inRow x g w n (col 1536 (by decide) j) := by
  rw [← projected_ref]
  pointwise [val_main_v37, val_main_v19]

theorem u_ref (n : Fin 256) (j : Fin 512) :
    val_main_v38 (F := Ideal) x g w (ix2 n j) = inRow x g w n (col 2048 (by decide) j) * inRow x g w n (col 2560 (by decide) j) := by
  rw [← projected_ref, ← projected_ref]
  pointwise [val_main_v38, val_main_v22, val_main_v20, val_main_v21]

theorem kt_ref (j : Fin 512) (n : Fin 256) : val_main_v28 (F := Ideal) x g w (ix3 (0 : Fin 1) j n) = inRow x g w n (col 512 (by decide) j) := by
  rw [← projected_ref]
  pointwise [val_main_v28, val_main_v27, val_main_v17]

theorem vt_ref (j : Fin 512) (n : Fin 256) : val_main_v30 (F := Ideal) x g w (ix3 (0 : Fin 1) j n) = inRow x g w n (col 1024 (by decide) j) := by
  rw [← projected_ref]
  pointwise [val_main_v30, val_main_v29, val_main_v18]

theorem ktb_ref (j : Fin 512) (n : Fin 256) : val_main_v33 (F := Ideal) x g w (ix4 (0 : Fin 1) (0 : Fin 1) j n) = inRow x g w n (col 512 (by decide) j) := by
  rw [← projected_ref]
  pointwise [val_main_v33, val_main_v32, val_main_v31, val_main_v17]

theorem vtb_ref (j : Fin 512) (n : Fin 256) : val_main_v36 (F := Ideal) x g w (ix4 (0 : Fin 1) (0 : Fin 1) j n) = inRow x g w n (col 1024 (by decide) j) := by
  rw [← projected_ref]
  pointwise [val_main_v36, val_main_v35, val_main_v34, val_main_v18]

end Ref

/-! ## The tile -/

section Tile

variable (x : FVec Ideal S256x1024 .f32) (g : FVec Ideal S1x1024 .f32)

/-- Row `r` of the tile, normed. -/
def tileRow (r : Fin 256) : Fin 1024 → EReal := rms full (fun k => x (ix2 r k)) fun k => g (ix2 (0 : Fin 1) k)

theorem normed_tile (r : Fin 256) (k : Fin 1024) : (k0_pay9 x g : FVec Ideal S256x1024 .bf16) (ix2 r k) = tileRow x g r k := by
  pointwise [k0_pay9]
  rfl

theorem bg_tile (w : FVec Ideal S1024x512 .bf16) (r : Fin 256) (j : Fin 512) :
    (k0_pay11 x g w : FVec Ideal S256x512 .f32) (ix2 r j) = proj (tileRow x g r) (fun k j => w (ix2 k j)) j := by
  pointwise [k0_pay11]
  simp only [normed_tile]
  rfl

theorem q_tile (w : FVec Ideal S1024x512 .bf16) (r : Fin 256) (j : Fin 512) :
    (k0_pay10 x g w : FVec Ideal S256x512 .bf16) (ix2 r j) = proj (tileRow x g r) (fun k j => w (ix2 k j)) j * scale := by
  pointwise [k0_pay10]
  simp only [normed_tile]
  rfl

theorem u_tile (w w' : FVec Ideal S1024x512 .bf16) (r : Fin 256) (j : Fin 512) :
    (k0_pay1 (k0_pay9 x g) (k0_pay12 x g w) (k0_pay13 w') : FVec Ideal S256x512 .f32) (ix2 r j)
      = proj (tileRow x g r) (fun k j => w (ix2 k j)) j * proj (tileRow x g r) (fun k j => w' (ix2 k j)) j := by
  pointwise [k0_pay1, k0_pay12, k0_pay13]
  simp only [normed_tile]
  rfl

theorem kv_tile (w : FVec Ideal S1024x1024 .bf16) (j : Fin 1024) (r : Fin 256) :
    (k0_pay2 (k0_pay9 x g) w : FVec Ideal S1024x256 .f32) (ix2 j r) = proj (tileRow x g r) (fun k j => w (ix2 j k)) j := by
  pointwise [k0_pay2]
  simp only [normed_tile, mul_comm (w _)]
  rfl

variable (w : FVec Ideal S1024x1024 .bf16) (j : Fin 512) (r : Fin 256)

theorem k_tile : (k0_pay5 (k0_pay9 x g) w : FVec Ideal S1x512x256 .f32) (ix3 (0 : Fin 1) j r)
    = proj (tileRow x g r) (fun k j => w (ix2 j k)) (⟨j.val, by omega⟩ : Fin 1024) := by
  pointwise [k0_pay5, k0_pay3, kv_tile]

theorem v_tile : (k0_pay6 (k0_pay9 x g) w : FVec Ideal S1x512x256 .f32) (ix3 (0 : Fin 1) j r)
    = proj (tileRow x g r) (fun k j => w (ix2 j k)) (⟨512 + j.val, by omega⟩ : Fin 1024) := by
  pointwise [k0_pay6, k0_pay4, kv_tile]

theorem kb_tile : (k0_pay7 (k0_pay9 x g) w : FVec Ideal S1x1x512x256 .bf16) (ix4 (0 : Fin 1) (0 : Fin 1) j r)
    = proj (tileRow x g r) (fun k j => w (ix2 j k)) (⟨j.val, by omega⟩ : Fin 1024) := by
  pointwise [k0_pay7, k0_pay3, kv_tile]

theorem vb_tile : (k0_pay8 (k0_pay9 x g) w : FVec Ideal S1x1x512x256 .bf16) (ix4 (0 : Fin 1) (0 : Fin 1) j r)
    = proj (tileRow x g r) (fun k j => w (ix2 j k)) (⟨512 + j.val, by omega⟩ : Fin 1024) := by
  pointwise [k0_pay8, k0_pay4, kv_tile]

end Tile

/-! ## The blocks -/

variable (m : (ℓ : Loc nD τ sig) → Buf (Elt Ideal) ℓ) (c : Dev nD) (t : Fin cfg0.N)

theorem x_block : ∀ t : Fin cfg0.N, win0_0.index t = ![0, 0] := (by decide +kernel : ∀ t : Fin grid0.N, _)
theorem g_block : ∀ t : Fin cfg0.N, win0_1.index t = ![0, 0] := (by decide +kernel : ∀ t : Fin grid0.N, _)
theorem w_block : ∀ t : Fin cfg0.N, win0_2.index t = ![0, 0] := (by decide +kernel : ∀ t : Fin grid0.N, _)
theorem kv_block : ∀ t : Fin cfg0.N, win0_3.index t = ![0, 0] := (by decide +kernel : ∀ t : Fin grid0.N, _)
theorem q_block : ∀ t : Fin cfg0.N, win0_4.index t = ![0, 0] := (by decide +kernel : ∀ t : Fin grid0.N, _)
theorem kt_block : ∀ t : Fin cfg0.N, win0_5.index t = ![0, 0, 0] := (by decide +kernel : ∀ t : Fin grid0.N, _)
theorem vt_block : ∀ t : Fin cfg0.N, win0_6.index t = ![0, 0, 0] := (by decide +kernel : ∀ t : Fin grid0.N, _)
theorem ktb_block : ∀ t : Fin cfg0.N, win0_7.index t = ![0, 0, 0, 0] := (by decide +kernel : ∀ t : Fin grid0.N, _)
theorem vtb_block : ∀ t : Fin cfg0.N, win0_8.index t = ![0, 0, 0, 0] := (by decide +kernel : ∀ t : Fin grid0.N, _)
theorem bg_block : ∀ t : Fin cfg0.N, win0_9.index t = ![0, 0] := (by decide +kernel : ∀ t : Fin grid0.N, _)
theorem u_block : ∀ t : Fin cfg0.N, win0_10.index t = ![0, 0] := (by decide +kernel : ∀ t : Fin grid0.N, _)

/-- The three arguments. -/
abbrev argX : FVec Ideal S32x8x1024 .f32 := m ((c.tc : Thread nD τ).loc main_arg0)
abbrev argG : FVec Ideal S1x1024 .f32 := m ((c.tc : Thread nD τ).loc main_arg1)
abbrev argW : FVec Ideal S1x1024x3072 .f32 := m ((c.tc : Thread nD τ).loc main_arg2)

theorem x_rows (r : Fin 256) (k : Fin 1024) :
    (iblk m c 0 t : FVec Ideal S256x1024 .f32) (ix2 r k) = argX m c (ix3 (⟨r.val / 8, by omega⟩ : Fin 32) (⟨r.val % 8, by omega⟩ : Fin 8) k) := by
  blk_simp [iblk]
  rw [show ((View.whole main_v7).slice (win0_0.rect t)).emb (ix2 r k) = ix2 r k from by blk_ext [x_block t]]
  entry_read
  pointwise

theorem g_row (k : Fin 1024) : (iblk m c 1 t : FVec Ideal S1x1024 .f32) (ix2 (0 : Fin 1) k) = argG m c (ix2 (0 : Fin 1) k) := by
  blk_simp [iblk]
  rw [show ((View.whole main_v9).slice (win0_1.rect t)).emb (ix2 (0 : Fin 1) k) = ix2 (0 : Fin 1) k from by blk_ext [g_block t]]
  entry_read
  pointwise

/-- The tile's rows are the group's. -/
theorem rows_eq (r : Fin 256) : tileRow (iblk m c 0 t) (iblk m c 1 t) r = normedRow (argX m c) (argG m c) r := by
  unfold tileRow normedRow
  simp only [x_rows, g_row]

/-- The row weights' columns: the first group's, and those after the keys' and the values'. -/
theorem first_cols (k : Fin 1024) (j : Fin 2048) (h : j.val < 512) :
    (iblk m c 2 t : FVec Ideal S1024x2048 .bf16) (ix2 k j) = argW m c (ix3 (0 : Fin 1) k (⟨j.val, by omega⟩ : Fin 3072)) := by
  blk_simp [iblk]
  rw [show (win0_2.blk t).view.emb (ix2 k j) = ix2 k j from by blk_ext [w_block t]]
  entry_read
  pointwise [h]

theorem later_cols (k : Fin 1024) (j : Fin 2048) (h : ¬j.val < 512) :
    (iblk m c 2 t : FVec Ideal S1024x2048 .bf16) (ix2 k j) = argW m c (ix3 (0 : Fin 1) k (⟨1024 + j.val, by omega⟩ : Fin 3072)) := by
  blk_simp [iblk]
  rw [show (win0_2.blk t).view.emb (ix2 k j) = ix2 k j from by blk_ext [w_block t]]
  entry_read
  pointwise [h]
  exact congrArg (fun i => argW m c (ix3 (0 : Fin 1) k i)) (Fin.ext (show 1536 + (j.val - 512) = 1024 + j.val by omega))

theorem kv_cols (j k : Fin 1024) :
    (iblk m c 3 t : FVec Ideal S1024x1024 .bf16) (ix2 j k) = argW m c (ix3 (0 : Fin 1) k (⟨512 + j.val, by omega⟩ : Fin 3072)) := by
  blk_simp [iblk]
  rw [show (win0_3.blk t).view.emb (ix2 j k) = ix2 j k from by blk_ext [kv_block t]]
  entry_read
  pointwise

/-- A group's columns, starting at `o` in the row weights and at `o'` in `w_in`. -/
theorem group_cols (o o' : ℕ) (h : o + 512 ≤ 2048) (h' : o' + 512 ≤ 3072) (ho : 512 ≤ o) (e : o' = 1024 + o) (k : Fin 1024) (j : Fin 512) :
    (iblk m c 2 t : FVec Ideal S1024x2048 .bf16) (ix2 k (after o h j)) = argW m c (ix3 (0 : Fin 1) k (col o' h' j)) :=
  (later_cols m c t k _ (by show ¬o + j.val < 512; omega)).trans
    (congrArg (fun i => argW m c (ix3 (0 : Fin 1) k i)) (Fin.ext (show 1024 + (o + j.val) = o' + j.val by omega)))

/-! ## The arrays -/

/-- A tile's row of products is the group's. -/
theorem product_eq {d : ℕ} (r : Fin 256) (w : Fin 1024 → Fin d → EReal) (i : Fin d) (j : Fin 3072) (hw : ∀ k, w k i = argW m c (ix3 (0 : Fin 1) k j)) :
    proj (tileRow (iblk m c 0 t) (iblk m c 1 t) r) w i = inRow (argX m c) (argG m c) (argW m c) r j := by
  rw [rows_eq]
  exact Finset.sum_congr rfl fun k _ => congrArg (_ * ·) (hw k)

/-- A key's, and a value's, product is the group's. -/
theorem kv_product_eq (r : Fin 256) (i : Fin 1024) (j : Fin 3072) (hj : j.val = 512 + i.val) :
    proj (tileRow (iblk m c 0 t) (iblk m c 1 t) r) (fun k j => (iblk m c 3 t : FVec Ideal S1024x1024 .bf16) (ix2 j k)) i
      = inRow (argX m c) (argG m c) (argW m c) r j :=
  product_eq m c t r _ i j fun k => (kv_cols m c t i k).trans (congrArg (fun i => argW m c (ix3 (0 : Fin 1) k i)) (Fin.ext hj.symm))

theorem final4 : (dats m 0 c).arrAt 4 cfg0.N = Cert.Reference5Ideal.Read.val_main_v26 (F := Ideal) (argX m c) (argG m c) (argW m c) := by
  refine (dats m 0 c).arrAt_eq_of_covers 4 _ (by decide +kernel) fun t hf y => ?_
  obtain ⟨r, j, rfl⟩ : ∃ (r : Fin 256) (j : Fin 512), y = ix2 r j := ⟨y 0, y 1, (by blk_ext)⟩
  blk_simp
  rw [after0_4]
  unfold_out out0_4
  frame_out
  rw [show ((View.whole main_v10_0).slice (win0_4.rect t)).emb (ix2 r j) = ix2 r j from by blk_ext [q_block t]]
  refine ((q_tile _ _ _ r j).trans ?_).trans (q_ref _ _ _ _ _).symm
  exact congrArg (· * scale) (product_eq m c t r _ j _ fun k => (Cert.In.ld_q _ k j).trans (first_cols m c t k _ (by show 0 + j.val < 512; omega)))

theorem final9 : (dats m 0 c).arrAt 9 cfg0.N = Cert.Reference5Ideal.Read.val_main_v37 (F := Ideal) (argX m c) (argG m c) (argW m c) := by
  refine (dats m 0 c).arrAt_eq_of_covers 9 _ (by decide +kernel) fun t hf y => ?_
  obtain ⟨r, j, rfl⟩ : ∃ (r : Fin 256) (j : Fin 512), y = ix2 r j := ⟨y 0, y 1, (by blk_ext)⟩
  blk_simp
  rw [after0_9]
  unfold_out out0_9
  frame_out
  rw [show ((View.whole main_v10_5).slice (win0_9.rect t)).emb (ix2 r j) = ix2 r j from by blk_ext [bg_block t]]
  refine ((bg_tile _ _ _ r j).trans ?_).trans (bg_ref _ _ _ _ _).symm
  exact product_eq m c t r _ j _ fun k => (Cert.In.ld_bg _ k j).trans (group_cols m c t 512 1536 _ _ (by decide) rfl k j)

theorem final10 : (dats m 0 c).arrAt 10 cfg0.N = Cert.Reference5Ideal.Read.val_main_v38 (F := Ideal) (argX m c) (argG m c) (argW m c) := by
  refine (dats m 0 c).arrAt_eq_of_covers 10 _ (by decide +kernel) fun t hf y => ?_
  obtain ⟨r, j, rfl⟩ : ∃ (r : Fin 256) (j : Fin 512), y = ix2 r j := ⟨y 0, y 1, (by blk_ext)⟩
  blk_simp
  rw [after0_10]
  unfold_out out0_10
  frame_out
  rw [show ((View.whole main_v10_6).slice (win0_10.rect t)).emb (ix2 r j) = ix2 r j from by blk_ext [u_block t]]
  refine ((u_tile _ _ _ _ r j).trans ?_).trans (u_ref _ _ _ _ _).symm
  exact congrArg₂ (· * ·) (product_eq m c t r _ j _ fun k => (Cert.In.ld_cg _ k j).trans (group_cols m c t 1024 2048 _ _ (by decide) rfl k j))
    (product_eq m c t r _ j _ fun k => (Cert.In.ld_xv _ k j).trans (group_cols m c t 1536 2560 _ _ (by decide) rfl k j))

theorem final5 : (dats m 0 c).arrAt 5 cfg0.N = Cert.Reference5Ideal.Read.val_main_v28 (F := Ideal) (argX m c) (argG m c) (argW m c) := by
  refine (dats m 0 c).arrAt_eq_of_covers 5 _ (by decide +kernel) fun t hf y => ?_
  obtain ⟨j, r, rfl⟩ : ∃ (j : Fin 512) (r : Fin 256), y = ix3 (0 : Fin 1) j r := ⟨y 1, y 2, (by blk_ext)⟩
  blk_simp
  rw [after0_5]
  unfold_out out0_5
  frame_out
  rw [show ((View.whole main_v10_1).slice (win0_5.rect t)).emb (ix3 (0 : Fin 1) j r) = ix3 (0 : Fin 1) j r from by blk_ext [kt_block t]]
  exact ((k_tile _ _ _ j r).trans (kv_product_eq m c t r _ _ rfl)).trans (kt_ref _ _ _ _ _).symm

theorem final6 : (dats m 0 c).arrAt 6 cfg0.N = Cert.Reference5Ideal.Read.val_main_v30 (F := Ideal) (argX m c) (argG m c) (argW m c) := by
  refine (dats m 0 c).arrAt_eq_of_covers 6 _ (by decide +kernel) fun t hf y => ?_
  obtain ⟨j, r, rfl⟩ : ∃ (j : Fin 512) (r : Fin 256), y = ix3 (0 : Fin 1) j r := ⟨y 1, y 2, (by blk_ext)⟩
  blk_simp
  rw [after0_6]
  unfold_out out0_6
  frame_out
  rw [show ((View.whole main_v10_2).slice (win0_6.rect t)).emb (ix3 (0 : Fin 1) j r) = ix3 (0 : Fin 1) j r from by blk_ext [vt_block t]]
  exact ((v_tile _ _ _ j r).trans (kv_product_eq m c t r _ _ (Nat.add_assoc 512 512 j.val))).trans (vt_ref _ _ _ _ _).symm

theorem final7 : (dats m 0 c).arrAt 7 cfg0.N = Cert.Reference5Ideal.Read.val_main_v33 (F := Ideal) (argX m c) (argG m c) (argW m c) := by
  refine (dats m 0 c).arrAt_eq_of_covers 7 _ (by decide +kernel) fun t hf y => ?_
  obtain ⟨j, r, rfl⟩ : ∃ (j : Fin 512) (r : Fin 256), y = ix4 (0 : Fin 1) (0 : Fin 1) j r := ⟨y 2, y 3, (by blk_ext)⟩
  blk_simp
  rw [after0_7]
  unfold_out out0_7
  frame_out
  rw [show ((View.whole main_v10_3).slice (win0_7.rect t)).emb (ix4 (0 : Fin 1) (0 : Fin 1) j r) = ix4 (0 : Fin 1) (0 : Fin 1) j r from by blk_ext [ktb_block t]]
  exact ((kb_tile _ _ _ j r).trans (kv_product_eq m c t r _ _ rfl)).trans (ktb_ref _ _ _ _ _).symm

theorem final8 : (dats m 0 c).arrAt 8 cfg0.N = Cert.Reference5Ideal.Read.val_main_v36 (F := Ideal) (argX m c) (argG m c) (argW m c) := by
  refine (dats m 0 c).arrAt_eq_of_covers 8 _ (by decide +kernel) fun t hf y => ?_
  obtain ⟨j, r, rfl⟩ : ∃ (j : Fin 512) (r : Fin 256), y = ix4 (0 : Fin 1) (0 : Fin 1) j r := ⟨y 2, y 3, (by blk_ext)⟩
  blk_simp
  rw [after0_8]
  unfold_out out0_8
  frame_out
  rw [show ((View.whole main_v10_4).slice (win0_8.rect t)).emb (ix4 (0 : Fin 1) (0 : Fin 1) j r) = ix4 (0 : Fin 1) (0 : Fin 1) j r from by blk_ext [vtb_block t]]
  exact ((vb_tile _ _ _ j r).trans (kv_product_eq m c t r _ _ (Nat.add_assoc 512 512 j.val))).trans (vtb_ref _ _ _ _ _).symm

end Cert.InSample

end
-- ==== Proof.Mem.lean ====
/- The memory's keys and values: the kernel's two arrays are the reference's. -/
module

public import proofs.«01_k».proof.Proof.TailRow
public import proofs.«01_k».proof.Proof.Gen.Kernel4Ideal.Value
public import proofs.«01_k».proof.Proof.Gen.Reference4Ideal.Read
public import Idealize.ShloMosaic.Lib.Pipeline.ValueKit
public import Idealize.ShloMosaic.Lib.Pointwise

@[expose] public section

set_option maxRecDepth 16384

noncomputable section

namespace Cert.Mem

open Idealize.ShloMosaic Idealize.ShloMosaic.TcCoe Idealize.ShloMosaic.Tactic Idealize.SL.Sem Cert.Kernel4Ideal Cert.Kernel4Ideal.Gen
open Idealize.ShloMosaic.Pointwise Cert.Tail

/-- A memory row's product with a matrix, after the norm. -/
def memRow (x : FVec Ideal S16x256x1024 .f32) (g : FVec Ideal S1x1024 .f32) (w : FVec Ideal S1x1024x512 .f32) (n : Fin 4096) (j : Fin 512) : EReal :=
  proj (rms full (fun k => x (ix3 (⟨n.val / 256, by omega⟩ : Fin 16) (⟨n.val % 256, by omega⟩ : Fin 256) k)) fun k => g (ix2 (0 : Fin 1) k))
    (fun k j => w (ix3 (0 : Fin 1) k j)) j

/-! ## The reference -/

variable (x : FVec Ideal S16x256x1024 .f32) (g : FVec Ideal S1x1024 .f32) (w : FVec Ideal S1x1024x512 .f32)

theorem normed_ref (b : Fin 16) (s : Fin 256) (k : Fin 1024) :
    Cert.Reference4Ideal.Read.val_main_v13 (F := Ideal) x g (ix3 b s k) = rms full (fun k => x (ix3 b s k)) (fun k => g (ix2 (0 : Fin 1) k)) k := by
  pointwise [Cert.Reference4Ideal.Read.val_main_v13, Cert.Reference4Ideal.Read.val_main_v12, Cert.Reference4Ideal.Read.val_main_v11, Cert.Reference4Ideal.Read.val_main_v10, Cert.Reference4Ideal.Read.val_main_v9, Cert.Reference4Ideal.Read.val_main_v8, Cert.Reference4Ideal.Read.val_main_v7, Cert.Reference4Ideal.Read.val_main_v6, Cert.Reference4Ideal.Read.val_main_v5, Cert.Reference4Ideal.Read.val_main_v4, Cert.Reference4Ideal.Read.val_main_v3, Cert.Reference4Ideal.Read.val_main_v2, Cert.Reference4Ideal.Read.val_main_v1, Cert.Reference4Ideal.Read.val_main_v0, Cert.Reference4Ideal.Read.val_main_cst, Cert.Reference4Ideal.Read.val_main_cst_0, Cert.Reference4Ideal.Read.val_main_cst_1]
  rfl

theorem keys_ref (n : Fin 4096) (j : Fin 512) :
    Cert.Reference4Ideal.Read.val_main_v16 (F := Ideal) x g w (ix2 n j) = memRow x g w n j := by
  pointwise [Cert.Reference4Ideal.Read.val_main_v16, Cert.Reference4Ideal.Read.val_main_v15, Cert.Reference4Ideal.Read.val_main_v14]
  simp only [normed_ref]
  rfl

/-- The values' matrix goes the keys' way. -/
theorem values_ref (n : Fin 4096) (j : Fin 512) :
    Cert.Reference4Ideal.Read.val_main_v19 (F := Ideal) x g w (ix2 n j) = memRow x g w n j := keys_ref x g w n j

/-! ## The tile -/

theorem keys_tile (x : FVec Ideal S512x1024 .f32) (g : FVec Ideal S1x1024 .f32) (w : FVec Ideal S1024x512 .bf16) (r j : Fin 512) :
    (k0_pay2 x g w : FVec Ideal S512x512 .f32) (ix2 r j) = proj (rms full (fun k => x (ix2 r k)) fun k => g (ix2 (0 : Fin 1) k)) (fun k j => w (ix2 k j)) j := by
  pointwise [k0_pay2, k0_pay1]
  rfl

theorem values_tile (x : FVec Ideal S512x1024 .f32) (g : FVec Ideal S1x1024 .f32) (w : FVec Ideal S1024x512 .bf16) (r j : Fin 512) :
    (k0_pay3 x g w : FVec Ideal S512x512 .f32) (ix2 r j) = proj (rms full (fun k => x (ix2 r k)) fun k => g (ix2 (0 : Fin 1) k)) (fun k j => w (ix2 k j)) j :=
  keys_tile x g w r j

/-! ## The blocks -/

variable (m : (ℓ : Loc nD τ sig) → Buf (Elt Ideal) ℓ) (c : Dev nD) (t : Fin cfg0.N)

theorem x_block : ∀ t : Fin cfg0.N, win0_0.index t = ![t.val, 0] := (by decide +kernel : ∀ t : Fin grid0.N, _)
theorem g_block : ∀ t : Fin cfg0.N, win0_1.index t = ![0, 0] := (by decide +kernel : ∀ t : Fin grid0.N, _)
theorem k_block : ∀ t : Fin cfg0.N, win0_2.index t = ![0, 0] := (by decide +kernel : ∀ t : Fin grid0.N, _)
theorem v_block : ∀ t : Fin cfg0.N, win0_3.index t = ![0, 0] := (by decide +kernel : ∀ t : Fin grid0.N, _)
theorem keys_block : ∀ t : Fin cfg0.N, win0_4.index t = ![t.val, 0] := (by decide +kernel : ∀ t : Fin grid0.N, _)
theorem values_block : ∀ t : Fin cfg0.N, win0_5.index t = ![t.val, 0] := (by decide +kernel : ∀ t : Fin grid0.N, _)

theorem x_rows (n : Fin 4096) (r : Fin 512) (h : n.val = t.val * 512 + r.val) (k : Fin 1024) :
    (iblk m c 0 t : FVec Ideal S512x1024 .f32) (ix2 r k) = (m ((c.tc : Thread nD τ).loc main_arg0) : FVec Ideal S16x256x1024 .f32)
      (ix3 (⟨n.val / 256, by omega⟩ : Fin 16) (⟨n.val % 256, by omega⟩ : Fin 256) k) := by
  blk_simp [iblk]
  rw [show ((View.whole main_v4).slice (win0_0.rect t)).emb (ix2 r k) = ix2 n k from by blk_ext [x_block t]]
  entry_read
  pointwise

theorem g_row (k : Fin 1024) :
    (iblk m c 1 t : FVec Ideal S1x1024 .f32) (ix2 (0 : Fin 1) k) = (m ((c.tc : Thread nD τ).loc main_arg1) : FVec Ideal S1x1024 .f32) (ix2 (0 : Fin 1) k) := by
  blk_simp [iblk]
  rw [show ((View.whole main_v6).slice (win0_1.rect t)).emb (ix2 (0 : Fin 1) k) = ix2 (0 : Fin 1) k from by blk_ext [g_block t]]
  entry_read
  pointwise

theorem k_rows (k : Fin 1024) (j : Fin 512) :
    (iblk m c 2 t : FVec Ideal S1024x512 .bf16) (ix2 k j) = (m ((c.tc : Thread nD τ).loc main_arg2) : FVec Ideal S1x1024x512 .f32) (ix3 (0 : Fin 1) k j) := by
  blk_simp [iblk]
  rw [show (win0_2.blk t).view.emb (ix2 k j) = ix2 k j from by blk_ext [k_block t]]
  entry_read
  pointwise

theorem v_rows (k : Fin 1024) (j : Fin 512) :
    (iblk m c 3 t : FVec Ideal S1024x512 .bf16) (ix2 k j) = (m ((c.tc : Thread nD τ).loc main_arg3) : FVec Ideal S1x1024x512 .f32) (ix3 (0 : Fin 1) k j) := by
  blk_simp [iblk]
  rw [show (win0_3.blk t).view.emb (ix2 k j) = ix2 k j from by blk_ext [v_block t]]
  entry_read
  pointwise

theorem final4 : (dats m 0 c).arrAt 4 cfg0.N
    = Cert.Reference4Ideal.Read.val_main_v16 (F := Ideal) (m ((c.tc : Thread nD τ).loc main_arg0)) (m ((c.tc : Thread nD τ).loc main_arg1))
        (m ((c.tc : Thread nD τ).loc main_arg2)) := by
  refine (dats m 0 c).arrAt_eq_of_covers 4 _ (by decide +kernel) fun t hf y => ?_
  obtain ⟨r, j, rfl⟩ : ∃ (r j : Fin 512), y = ix2 r j := ⟨y 0, y 1, (by blk_ext)⟩
  have ht : t.val < 8 := t.isLt
  have hn : t.val * 512 + r.val < 4096 := by omega
  blk_simp
  rw [after0_4]
  frame_out
  rw [show ((View.whole main_v7_0).slice (win0_4.rect t)).emb (ix2 r j) = ix2 (⟨_, hn⟩ : Fin 4096) j from by blk_ext [keys_block t]]
  refine ((keys_tile _ _ _ r j).trans ?_).trans (keys_ref _ _ _ _ _).symm
  unfold memRow
  simp only [x_rows m c t ⟨_, hn⟩ r rfl, g_row, k_rows]

theorem final5 : (dats m 0 c).arrAt 5 cfg0.N
    = Cert.Reference4Ideal.Read.val_main_v19 (F := Ideal) (m ((c.tc : Thread nD τ).loc main_arg0)) (m ((c.tc : Thread nD τ).loc main_arg1))
        (m ((c.tc : Thread nD τ).loc main_arg3)) := by
  refine (dats m 0 c).arrAt_eq_of_covers 5 _ (by decide +kernel) fun t hf y => ?_
  obtain ⟨r, j, rfl⟩ : ∃ (r j : Fin 512), y = ix2 r j := ⟨y 0, y 1, (by blk_ext)⟩
  have ht : t.val < 8 := t.isLt
  have hn : t.val * 512 + r.val < 4096 := by omega
  blk_simp
  rw [after0_5]
  frame_out
  rw [show ((View.whole main_v7_1).slice (win0_5.rect t)).emb (ix2 r j) = ix2 (⟨_, hn⟩ : Fin 4096) j from by blk_ext [values_block t]]
  refine ((values_tile _ _ _ r j).trans ?_).trans (values_ref _ _ _ _ _).symm
  unfold memRow
  simp only [x_rows m c t ⟨_, hn⟩ r rfl, g_row, v_rows]

end Cert.Mem

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite_logits
public import proofs.«01_k».proof.Proof.Gen.Pre_finite_scores
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Pre
public import proofs.«01_k».proof.Proof.Whole
public import proofs.«01_k».proof.Proof.TailPre
public import proofs.«01_k».proof.Proof.TailWhole
public import proofs.«01_k».proof.Proof.In
public import proofs.«01_k».proof.Proof.InSample
public import proofs.«01_k».proof.Proof.Mem
public import Idealize.ShloMosaic.Adequacy
public import Idealize.ShloMosaic.Init

@[expose] public section

noncomputable section

namespace Cert.Proof

open Idealize.ShloMosaic Idealize.SL.Sem Cert.Kernel

/-- The reference's run, with its counters: it has none. -/
theorem reference_run : Cert.quiescent_ReferenceIdeal := fun m g _ =>
  (θ_run Cert.ReferenceIdeal.defs _ _).mono
    (fun r h => And.intro (fun c => (h c).2) (sem_eq_zero_of_no_sems (by decide) r.2))
    (Cert.ReferenceIdeal.Value.run (F := Ideal) m g)

/-- The two programs end with the same array when the queries, the keys and the biases are real. -/
theorem algebraic : Cert.algebraic_KernelIdeal_ReferenceIdeal_pre_finite_logits := by
  intro m g m' g' hpre hargs
  refine ⟨fun c => Cert.ReferenceIdeal.Read.val_main_v29 (F := Ideal)
    (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3)), ?_, ?_⟩
  · refine (θ_run Cert.KernelIdeal.defs _ _).mono (fun r h c => ?_) (Cert.KernelIdeal.Value.run_blocks (F := Ideal) m g)
    obtain ⟨hQ, hK, hB⟩ := Cert.Pre_finite_logits.Own.reals _ _ _ _ (hpre c)
    exact ⟨(h c).1.trans (Cert.KernelIdeal.Own.final m c _ _ _ hQ hK hB), (h c).2⟩
  · refine (θ_run Cert.ReferenceIdeal.defs _ _).mono (fun r h c => ?_) (Cert.ReferenceIdeal.Value.run (F := Ideal) m' g')
    obtain ⟨e0, e1, e2, e3⟩ := hargs c
    refine ⟨((h c).1.trans (Cert.ReferenceIdeal.Read.val_main_v29_eq m' c)).trans ?_, (h c).2⟩
    rw [e0, e1, e2, e3]

/-- The tail reference's run, with its counters: it has none. -/
theorem tail_reference_run : Cert.quiescent_Reference2Ideal := fun m g _ =>
  (θ_run Cert.Reference2Ideal.defs _ _).mono
    (fun r h => And.intro (fun c => (h c).2) (sem_eq_zero_of_no_sems (by decide) r.2))
    (Cert.Reference2Ideal.Value.run (F := Ideal) m g)

/-- The tail reference's arguments. -/
def tailArgs (m' : (ℓ : Loc Cert.Reference2Ideal.nD Cert.Reference2Ideal.τ Cert.Reference2Ideal.sig) → Buf (Elt Ideal) ℓ) (c : Dev Cert.Reference2Ideal.nD) : Cert.Tail.Ref.Args :=
  ⟨m' ((c.tc : Thread Cert.Reference2Ideal.nD Cert.Reference2Ideal.τ).loc Cert.Reference2Ideal.main_arg0),
    m' ((c.tc : Thread Cert.Reference2Ideal.nD Cert.Reference2Ideal.τ).loc Cert.Reference2Ideal.main_arg1),
    m' ((c.tc : Thread Cert.Reference2Ideal.nD Cert.Reference2Ideal.τ).loc Cert.Reference2Ideal.main_arg2),
    m' ((c.tc : Thread Cert.Reference2Ideal.nD Cert.Reference2Ideal.τ).loc Cert.Reference2Ideal.main_arg3),
    m' ((c.tc : Thread Cert.Reference2Ideal.nD Cert.Reference2Ideal.τ).loc Cert.Reference2Ideal.main_arg4),
    m' ((c.tc : Thread Cert.Reference2Ideal.nD Cert.Reference2Ideal.τ).loc Cert.Reference2Ideal.main_arg5),
    m' ((c.tc : Thread Cert.Reference2Ideal.nD Cert.Reference2Ideal.τ).loc Cert.Reference2Ideal.main_arg6),
    m' ((c.tc : Thread Cert.Reference2Ideal.nD Cert.Reference2Ideal.τ).loc Cert.Reference2Ideal.main_arg7),
    m' ((c.tc : Thread Cert.Reference2Ideal.nD Cert.Reference2Ideal.τ).loc Cert.Reference2Ideal.main_arg8),
    m' ((c.tc : Thread Cert.Reference2Ideal.nD Cert.Reference2Ideal.τ).loc Cert.Reference2Ideal.main_arg9),
    m' ((c.tc : Thread Cert.Reference2Ideal.nD Cert.Reference2Ideal.τ).loc Cert.Reference2Ideal.main_arg10),
    m' ((c.tc : Thread Cert.Reference2Ideal.nD Cert.Reference2Ideal.τ).loc Cert.Reference2Ideal.main_arg11),
    m' ((c.tc : Thread Cert.Reference2Ideal.nD Cert.Reference2Ideal.τ).loc Cert.Reference2Ideal.main_arg12),
    m' ((c.tc : Thread Cert.Reference2Ideal.nD Cert.Reference2Ideal.τ).loc Cert.Reference2Ideal.main_arg13),
    m' ((c.tc : Thread Cert.Reference2Ideal.nD Cert.Reference2Ideal.τ).loc Cert.Reference2Ideal.main_arg14),
    m' ((c.tc : Thread Cert.Reference2Ideal.nD Cert.Reference2Ideal.τ).loc Cert.Reference2Ideal.main_arg15),
    m' ((c.tc : Thread Cert.Reference2Ideal.nD Cert.Reference2Ideal.τ).loc Cert.Reference2Ideal.main_arg16),
    m' ((c.tc : Thread Cert.Reference2Ideal.nD Cert.Reference2Ideal.τ).loc Cert.Reference2Ideal.main_arg17),
    m' ((c.tc : Thread Cert.Reference2Ideal.nD Cert.Reference2Ideal.τ).loc Cert.Reference2Ideal.main_arg18)⟩

/-- The tail and its reference end with the same array when the memory's gain, query weights and keys are real. -/
theorem tail_algebraic : Cert.algebraic_Kernel2Ideal_Reference2Ideal_pre_finite_scores := by
  intro m g m' g' hpre hargs
  refine ⟨fun c => Cert.Tail.Ref.lastA (Cert.Tail.Tile.args m c), ?_, ?_⟩
  · refine (θ_run Cert.Kernel2Ideal.defs _ _).mono (fun r h c => ?_) (Cert.Kernel2Ideal.Value.run_blocks (F := Ideal) m g)
    obtain ⟨hg, hq, hk⟩ := Cert.Pre_finite_scores.Own.reals _ _ _ _ _ _ _ _ _ _ _ _ _ _ _ _ _ _ _ (hpre c)
    exact ⟨(h c).1.trans (Cert.Tail.Tile.final m c hg hq hk), (h c).2⟩
  · refine (θ_run Cert.Reference2Ideal.defs _ _).mono (fun r h c => ?_) (Cert.Reference2Ideal.Value.run (F := Ideal) m' g')
    obtain ⟨e0, e1, e2, e3, e4, e5, e6, e7, e8, e9, e10, e11, e12, e13, e14, e15, e16, e17, e18⟩ := hargs c
    have ea : tailArgs m' c = Cert.Tail.Tile.args m c := by
      unfold tailArgs Cert.Tail.Tile.args
      rw [e0, e1, e2, e3, e4, e5, e6, e7, e8, e9, e10, e11, e12, e13, e14, e15, e16, e17, e18]
    refine ⟨((h c).1.trans (Cert.Reference2Ideal.Read.val_main_v123_eq _)).trans ?_, (h c).2⟩
    exact (Cert.Tail.Ref.v123_eq (tailArgs m' c)).trans (congrArg Cert.Tail.Ref.lastA ea)

/-- A function of three arrays has the same value at equal arrays. -/
theorem at_same_args {α β γ δ : Type} (f : α → β → γ → δ) {a a' : α} {b b' : β} {c c' : γ} (ha : a' = a) (hb : b' = b) (hc : c' = c) :
    f a' b' c' = f a b c := by
  rw [ha, hb, hc]

/-- The input projection's reference's run, with its counters: it has none. -/
theorem in_reference_run : Cert.quiescent_Reference3Ideal := fun m g _ =>
  (θ_run Cert.Reference3Ideal.defs _ _).mono
    (fun r h => And.intro (fun c => (h c).2.2.2.2.2.2.2) (sem_eq_zero_of_no_sems (by decide) r.2))
    (Cert.Reference3Ideal.Value.run (F := Ideal) m g)

/-- The input projection and its reference end with the same seven arrays. -/
theorem in_algebraic : Cert.algebraic_Kernel3Ideal_Reference3Ideal := by
  intro m g m' g' _ hargs
  refine ⟨fun c => Cert.Reference3Ideal.Read.val_main_v26 (F := Ideal) (Cert.In.argX m c) (Cert.In.argG m c) (Cert.In.argW m c),
    fun c => Cert.Reference3Ideal.Read.val_main_v27 (F := Ideal) (Cert.In.argX m c) (Cert.In.argG m c) (Cert.In.argW m c),
    fun c => Cert.Reference3Ideal.Read.val_main_v28 (F := Ideal) (Cert.In.argX m c) (Cert.In.argG m c) (Cert.In.argW m c),
    fun c => Cert.Reference3Ideal.Read.val_main_v31 (F := Ideal) (Cert.In.argX m c) (Cert.In.argG m c) (Cert.In.argW m c),
    fun c => Cert.Reference3Ideal.Read.val_main_v34 (F := Ideal) (Cert.In.argX m c) (Cert.In.argG m c) (Cert.In.argW m c),
    fun c => Cert.Reference3Ideal.Read.val_main_v35 (F := Ideal) (Cert.In.argX m c) (Cert.In.argG m c) (Cert.In.argW m c),
    fun c => Cert.Reference3Ideal.Read.val_main_v36 (F := Ideal) (Cert.In.argX m c) (Cert.In.argG m c) (Cert.In.argW m c), ?_, ?_⟩
  · refine (θ_run Cert.Kernel3Ideal.defs _ _).mono (fun r h c => ?_) (Cert.Kernel3Ideal.Value.run_blocks (F := Ideal) m g)
    obtain ⟨h0, h1, h2, h3, h4, h5, h6, ha⟩ := h c
    exact ⟨h0.trans (Cert.In.final4 m c), h1.trans (Cert.In.final5 m c), h2.trans (Cert.In.final6 m c), h3.trans (Cert.In.final7 m c),
      h4.trans (Cert.In.final8 m c), h5.trans (Cert.In.final9 m c), h6.trans (Cert.In.final10 m c), ha⟩
  · refine (θ_run Cert.Reference3Ideal.defs _ _).mono (fun r h c => ?_) (Cert.Reference3Ideal.Value.run (F := Ideal) m' g')
    obtain ⟨e0, e1, e2⟩ := hargs c
    obtain ⟨h0, h1, h2, h3, h4, h5, h6, ha⟩ := h c
    exact ⟨(h0.trans (Cert.Reference3Ideal.Read.val_main_v26_eq _ _ _)).trans (at_same_args (Cert.Reference3Ideal.Read.val_main_v26 (F := Ideal)) e0 e1 e2),
      (h1.trans (Cert.Reference3Ideal.Read.val_main_v27_eq _ _ _)).trans (at_same_args (Cert.Reference3Ideal.Read.val_main_v27 (F := Ideal)) e0 e1 e2),
      (h2.trans (Cert.Reference3Ideal.Read.val_main_v28_eq _ _ _)).trans (at_same_args (Cert.Reference3Ideal.Read.val_main_v28 (F := Ideal)) e0 e1 e2),
      (h3.trans (Cert.Reference3Ideal.Read.val_main_v31_eq _ _ _)).trans (at_same_args (Cert.Reference3Ideal.Read.val_main_v31 (F := Ideal)) e0 e1 e2),
      (h4.trans (Cert.Reference3Ideal.Read.val_main_v34_eq _ _ _)).trans (at_same_args (Cert.Reference3Ideal.Read.val_main_v34 (F := Ideal)) e0 e1 e2),
      (h5.trans (Cert.Reference3Ideal.Read.val_main_v35_eq _ _ _)).trans (at_same_args (Cert.Reference3Ideal.Read.val_main_v35 (F := Ideal)) e0 e1 e2),
      (h6.trans (Cert.Reference3Ideal.Read.val_main_v36_eq _ _ _)).trans (at_same_args (Cert.Reference3Ideal.Read.val_main_v36 (F := Ideal)) e0 e1 e2), ha⟩

/-- The memory's reference's run, with its counters: it has none. -/
theorem mem_reference_run : Cert.quiescent_Reference4Ideal := fun m g _ =>
  (θ_run Cert.Reference4Ideal.defs _ _).mono
    (fun r h => And.intro (fun c => (h c).2.2) (sem_eq_zero_of_no_sems (by decide) r.2))
    (Cert.Reference4Ideal.Value.run (F := Ideal) m g)

/-- The memory's keys and values and their reference end with the same two arrays. -/
theorem mem_algebraic : Cert.algebraic_Kernel4Ideal_Reference4Ideal := by
  intro m g m' g' _ hargs
  refine ⟨fun c => Cert.Reference4Ideal.Read.val_main_v16 (F := Ideal) (m ((c.tc : Thread Cert.Kernel4Ideal.nD Cert.Kernel4Ideal.τ).loc Cert.Kernel4Ideal.main_arg0))
      (m ((c.tc : Thread Cert.Kernel4Ideal.nD Cert.Kernel4Ideal.τ).loc Cert.Kernel4Ideal.main_arg1))
      (m ((c.tc : Thread Cert.Kernel4Ideal.nD Cert.Kernel4Ideal.τ).loc Cert.Kernel4Ideal.main_arg2)),
    fun c => Cert.Reference4Ideal.Read.val_main_v19 (F := Ideal) (m ((c.tc : Thread Cert.Kernel4Ideal.nD Cert.Kernel4Ideal.τ).loc Cert.Kernel4Ideal.main_arg0))
      (m ((c.tc : Thread Cert.Kernel4Ideal.nD Cert.Kernel4Ideal.τ).loc Cert.Kernel4Ideal.main_arg1))
      (m ((c.tc : Thread Cert.Kernel4Ideal.nD Cert.Kernel4Ideal.τ).loc Cert.Kernel4Ideal.main_arg3)), ?_, ?_⟩
  · refine (θ_run Cert.Kernel4Ideal.defs _ _).mono (fun r h c => ?_) (Cert.Kernel4Ideal.Value.run_blocks (F := Ideal) m g)
    obtain ⟨h0, h1, ha⟩ := h c
    exact ⟨h0.trans (Cert.Mem.final4 m c), h1.trans (Cert.Mem.final5 m c), ha⟩
  · refine (θ_run Cert.Reference4Ideal.defs _ _).mono (fun r h c => ?_) (Cert.Reference4Ideal.Value.run (F := Ideal) m' g')
    obtain ⟨e0, e1, e2, e3⟩ := hargs c
    obtain ⟨h0, h1, ha⟩ := h c
    refine ⟨(h0.trans (Cert.Reference4Ideal.Read.val_main_v16_eq _ _ _)).trans ?_, (h1.trans (Cert.Reference4Ideal.Read.val_main_v19_eq _ _ _)).trans ?_, ha⟩
    · rw [e0, e1, e2]
    · rw [e0, e1, e3]

/-- The sample group's reference's run, with its counters: it has none. -/
theorem sample_reference_run : Cert.quiescent_Reference5Ideal := fun m g _ =>
  (θ_run Cert.Reference5Ideal.defs _ _).mono
    (fun r h => And.intro (fun c => (h c).2.2.2.2.2.2.2) (sem_eq_zero_of_no_sems (by decide) r.2))
    (Cert.Reference5Ideal.Value.run (F := Ideal) m g)

open Cert.InSample Cert.Reference5Ideal.Read in
/-- The sample group's input projection and its reference end with the same seven arrays. -/
theorem sample_algebraic : Cert.algebraic_Kernel5Ideal_Reference5Ideal := by
  intro m g m' g' _ hargs
  refine ⟨fun c => val_main_v26 (F := Ideal) (argX m c) (argG m c) (argW m c), fun c => val_main_v28 (F := Ideal) (argX m c) (argG m c) (argW m c),
    fun c => val_main_v30 (F := Ideal) (argX m c) (argG m c) (argW m c), fun c => val_main_v33 (F := Ideal) (argX m c) (argG m c) (argW m c),
    fun c => val_main_v36 (F := Ideal) (argX m c) (argG m c) (argW m c), fun c => val_main_v37 (F := Ideal) (argX m c) (argG m c) (argW m c),
    fun c => val_main_v38 (F := Ideal) (argX m c) (argG m c) (argW m c),
    (θ_run Cert.Kernel5Ideal.defs _ _).mono (fun r h c => ?_) (Cert.Kernel5Ideal.Value.run_blocks (F := Ideal) m g),
    (θ_run Cert.Reference5Ideal.defs _ _).mono (fun r h c => ?_) (Cert.Reference5Ideal.Value.run (F := Ideal) m' g')⟩
  · obtain ⟨q, k, v, kb, vb, b, u, rest⟩ := h c
    exact ⟨q.trans (final4 m c), k.trans (final5 m c), v.trans (final6 m c), kb.trans (final7 m c), vb.trans (final8 m c), b.trans (final9 m c),
      u.trans (final10 m c), rest⟩
  · obtain ⟨ex, eg, ew⟩ := hargs c
    obtain ⟨q, k, v, kb, vb, b, u, rest⟩ := h c
    exact ⟨(q.trans (val_main_v26_eq _ _ _)).trans (at_same_args (val_main_v26 (F := Ideal)) ex eg ew),
      (k.trans (val_main_v28_eq _ _ _)).trans (at_same_args (val_main_v28 (F := Ideal)) ex eg ew),
      (v.trans (val_main_v30_eq _ _ _)).trans (at_same_args (val_main_v30 (F := Ideal)) ex eg ew),
      (kb.trans (val_main_v33_eq _ _ _)).trans (at_same_args (val_main_v33 (F := Ideal)) ex eg ew),
      (vb.trans (val_main_v36_eq _ _ _)).trans (at_same_args (val_main_v36 (F := Ideal)) ex eg ew),
      (b.trans (val_main_v37_eq _ _ _)).trans (at_same_args (val_main_v37 (F := Ideal)) ex eg ew),
      (u.trans (val_main_v38_eq _ _ _)).trans (at_same_args (val_main_v38 (F := Ideal)) ex eg ew), rest⟩

theorem claim : Cert.Claim := ⟨Cert.Kernel.Gen.facts, Cert.KernelIdeal.Gen.facts, Cert.ReferenceIdeal.Gen.facts, Cert.Kernel2.Gen.facts,
  Cert.Kernel2Ideal.Gen.facts, Cert.Reference2Ideal.Gen.facts,
  Cert.Kernel3.Gen.facts, Cert.Kernel3Ideal.Gen.facts, Cert.Reference3Ideal.Gen.facts, Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Pre_finite_logits.Gen.facts, Cert.Pre_finite_scores.Gen.facts,
  fun m g _ => Cert.Kernel.Gen.frame m g, fun m g _ => Cert.KernelIdeal.Gen.frame m g, fun m g _ => Cert.KernelIdeal.Gen.frame m g,
  reference_run, fun m g _ => reference_run m g trivial,
  fun m g _ => Cert.Kernel2.Gen.frame m g, fun m g _ => Cert.Kernel2Ideal.Gen.frame m g, fun m g _ => Cert.Kernel2Ideal.Gen.frame m g,
  tail_reference_run, fun m g _ => tail_reference_run m g trivial,
  fun m g _ => Cert.Kernel3.Gen.frame m g, fun m g _ => Cert.Kernel3Ideal.Gen.frame m g, in_reference_run,
  fun m g _ => Cert.Kernel4.Gen.frame m g, fun m g _ => Cert.Kernel4Ideal.Gen.frame m g, mem_reference_run,
  fun m g _ => Cert.Kernel5.Gen.frame m g, fun m g _ => Cert.Kernel5Ideal.Gen.frame m g, sample_reference_run,
  IdealRules.named_const.statement Cert.KernelIdeal.κ "neg_log2e" .f32 0xBFB8AA3B#32 ((-((Real.log 2)⁻¹) : ℝ) : EReal) rfl,
  algebraic,
  IdealRules.named_const.statement Cert.Kernel2Ideal.κ "ca_scale" .f32 0x3DB504F3#32 (((Real.sqrt 128)⁻¹ : ℝ) : EReal) rfl, tail_algebraic,
  trivial, in_algebraic, trivial, mem_algebraic, trivial, sample_algebraic⟩

end Cert.Proof

end
